-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S64x100000 : Shape := ⟨2, ![64, 100000]⟩
abbrev S64x200 : Shape := ⟨2, ![64, 200]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel

variable [Facts]

def fn {F : FTy → Type} [FloatOps F] (main_arg0 : FVec F S64x100000 .f32) (main_arg1 : IVec S64x200 32) : IVec S_ 1 :=
  let main_cst : FVec F S_ .f32 := constant S_ .f32 0xFF7FFFFF#32
  let main_v0 : FVec F S64x100000 .f32 := broadcastInDim S64x100000 ![] bcast_S_S64x100000 main_cst
  let main_v1 : IVec S64x100000 1 := cmpf .ogt main_arg0 main_v0
  let main_cst_0 : FVec F S_ .f32 := constant S_ .f32 0x7F800000#32
  let main_v2 : FVec F S64x100000 .f32 := broadcastInDim S64x100000 ![] bcast_S_S64x100000 main_cst_0
  let main_v3 : IVec S64x100000 1 := cmpf .olt main_arg0 main_v2
  let main_v4 : IVec S64x100000 1 := andi main_v1 main_v3
  let main_c : IVec S_ 1 := constantI S_ 1 1#1
  let main_v5 : IVec S_ 1 := (fun x v => Host.reduce IntOp.andi x v reducesTo_S64x100000_S_d0_1 h_S_) main_v4 main_c
  main_v5
-- ==== Kernel.lean ====
abbrev S64x100000 : Shape := ⟨2, ![64, 100000]⟩
abbrev S64x200 : Shape := ⟨2, ![64, 200]⟩
abbrev S64x10 : Shape := ⟨2, ![64, 10]⟩
abbrev S_ : Shape := ⟨0, ![]⟩
abbrev S64x128 : Shape := ⟨2, ![64, 128]⟩
abbrev S64x1 : Shape := ⟨2, ![64, 1]⟩
abbrev S64 : Shape := ⟨1, ![64]⟩
abbrev S16x100000 : Shape := ⟨2, ![16, 100000]⟩
abbrev S16x128 : Shape := ⟨2, ![16, 128]⟩
abbrev S16x1024 : Shape := ⟨2, ![16, 1024]⟩
abbrev S16 : Shape := ⟨1, ![16]⟩
abbrev S16x1 : Shape := ⟨2, ![16, 1]⟩
abbrev S1x16x1024 : Shape := ⟨3, ![1, 16, 1024]⟩
abbrev S1 : Shape := ⟨1, ![1]⟩
abbrev S1x1x1 : Shape := ⟨3, ![1, 1, 1]⟩
abbrev S1x16x1 : Shape := ⟨3, ![1, 16, 1]⟩

abbrev nBuf : Space → Nat
  | .hbm => 9
  | .vmem => 9
  | .smem => 0
  | _ => 0

abbrev bufTy : (tb : Table) → Fin (tcTables nBuf tb) → BufTy
  | .hbm, ⟨0, _⟩ => ⟨S64x100000, .f32⟩
  | .hbm, ⟨1, _⟩ => ⟨S64x200, .i32⟩
  | .hbm, ⟨2, _⟩ => ⟨S64x10, .i32⟩
  | .hbm, ⟨3, _⟩ => ⟨S_, .i32⟩
  | .hbm, ⟨4, _⟩ => ⟨S_, .i32⟩
  | .hbm, ⟨5, _⟩ => ⟨S64x128, .i32⟩
  | .hbm, ⟨6, _⟩ => ⟨S64x128, .i32⟩
  | .hbm, ⟨7, _⟩ => ⟨S64x1, .i32⟩
  | .hbm, ⟨8, _⟩ => ⟨S64, .i32⟩
  | .local _ .vmem, ⟨0, _⟩ => ⟨S16x100000, .f32⟩
  | .local _ .vmem, ⟨1, _⟩ => ⟨S16x100000, .f32⟩
  | .local _ .vmem, ⟨2, _⟩ => ⟨S16x128, .i32⟩
  | .local _ .vmem, ⟨3, _⟩ => ⟨S16x128, .i32⟩
  | .local _ .vmem, ⟨4, _⟩ => ⟨S16x128, .i32⟩
  | .local _ .vmem, ⟨5, _⟩ => ⟨S16x128, .i32⟩
  | .local _ .vmem, ⟨6, _⟩ => ⟨S16x128, .f32⟩
  | .local _ .vmem, ⟨7, _⟩ => ⟨S16x128, .i32⟩
  | .local _ .vmem, ⟨8, _⟩ => ⟨S16x128, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_108 : BitVec 32 := 0#32
  let c25_i32 : BitVec 32 := 25#32
  let v1574 : BitVec 32 := Scalar.addi c0_i32_108 c25_i32
  let c1_i32 : BitVec 32 := 1#32
  ⟨c0_i32_108, v1574, c1_i32⟩
@[reducible] def k0_t2_loop : Scf.Loop 32 :=
  let c0_i32_201 : BitVec 32 := 0#32
  let c25_i32_202 : BitVec 32 := 25#32
  let v1863 : BitVec 32 := Scalar.addi c0_i32_201 c25_i32_202
  let c1_i32_203 : BitVec 32 := 1#32
  ⟨c0_i32_201, v1863, c1_i32_203⟩
@[reducible] def k0_t3_loop : Scf.Loop 32 :=
  let c0_i32_214 : BitVec 32 := 0#32
  let c97_i32 : BitVec 32 := 97#32
  let v1901 : BitVec 32 := Scalar.addi c0_i32_214 c97_i32
  let c1_i32_215 : BitVec 32 := 1#32
  ⟨c0_i32_214, v1901, c1_i32_215⟩
def k0_off1 (k0_t3 : Fin k0_t3_loop.trips) : Fin 2 → Nat :=
  let c0_224 : Index := 0#32
  let c0_i32_214 : BitVec 32 := 0#32
  let c1_i32_215 : BitVec 32 := 1#32
  let arg14 : BitVec 32 := Scf.iv c0_i32_214 c1_i32_215 k0_t3
  let c1024_i32_223 : BitVec 32 := 1024#32
  let v1929 : BitVec 32 := Scalar.muli arg14 c1024_i32_223
  let v1930 : Index := Scalar.indexCast v1929
  ![0, v1930.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x100000 : Shape := ⟨2, ![64, 100000]⟩
abbrev S64x200 : Shape := ⟨2, ![64, 200]⟩
abbrev S_ : Shape := ⟨0, ![]⟩
abbrev S64 : Shape := ⟨1, ![64]⟩
abbrev S64x1 : Shape := ⟨2, ![64, 1]⟩
abbrev S64x100000x1 : Shape := ⟨3, ![64, 100000, 1]⟩
abbrev S1 : Shape := ⟨1, ![1]⟩
abbrev S1x1x1 : Shape := ⟨3, ![1, 1, 1]⟩
abbrev S100000 : Shape := ⟨1, ![100000]⟩
abbrev S1x100000 : Shape := ⟨2, ![1, 100000]⟩
abbrev S64x1x1 : Shape := ⟨3, ![64, 1, 1]⟩
abbrev S64x10 : Shape := ⟨2, ![64, 10]⟩

abbrev nBuf : Space → Nat
  | .hbm => 642
  | .vmem => 0
  | .smem => 0
  | _ => 0

abbrev hbmTy0_0 (i : Nat) : BufTy := match i % 128 with
  | 0 => ⟨S64x100000, .f32⟩
  | 1 => ⟨S64x200, .i32⟩
  | 2 => ⟨S_, .f32⟩
  | 3 => ⟨S_, .f32⟩
  | 4 => ⟨S_, .f32⟩
  | 5 => ⟨S_, .f32⟩
  | 6 => ⟨S64, .f32⟩
  | 7 => ⟨S_, .f32⟩
  | 8 => ⟨S64, .f32⟩
  | 9 => ⟨S64, .f32⟩
  | 10 => ⟨S64x1, .f32⟩
  | 11 => ⟨S64x100000, .f32⟩
  | 12 => ⟨S64x100000, .f32⟩
  | 13 => ⟨S64x100000, .f32⟩
  | 14 => ⟨S_, .f32⟩
  | 15 => ⟨S64, .f32⟩
  | 16 => ⟨S64x1, .f32⟩
  | 17 => ⟨S64x100000, .f32⟩
  | 18 => ⟨S64x100000, .f32⟩
  | 19 => ⟨S64x100000, .f32⟩
  | 20 => ⟨S64x100000, .i32⟩
  | 21 => ⟨S64x100000, .f32⟩
  | 22 => ⟨S64x100000, .i32⟩
  | 23 => ⟨S_, .i32⟩
  | 24 => ⟨S64x100000, .i32⟩
  | 25 => ⟨S64x100000, .i1⟩
  | 26 => ⟨S_, .i32⟩
  | 27 => ⟨S64x100000, .i32⟩
  | 28 => ⟨S64x100000, .i32⟩
  | 29 => ⟨S64x100000, .i32⟩
  | 30 => ⟨S64x100000x1, .i32⟩
  | 31 => ⟨S1, .i32⟩
  | 32 => ⟨S_, .i32⟩
  | 33 => ⟨S64x100000x1, .i32⟩
  | 34 => ⟨S64x100000x1, .i1⟩
  | 35 => ⟨S1x1x1, .i32⟩
  | 36 => ⟨S64x100000x1, .i32⟩
  | 37 => ⟨S64x100000x1, .i1⟩
  | 38 => ⟨S64x100000x1, .i1⟩
  | 39 => ⟨S_, .i1⟩
  | 40 => ⟨S64x100000, .i1⟩
  | 41 => ⟨S64x100000, .f32⟩
  | 42 => ⟨S_, .f32⟩
  | 43 => ⟨S64x100000, .f32⟩
  | 44 => ⟨S64x100000, .f32⟩
  | 45 => ⟨S_, .f32⟩
  | 46 => ⟨S_, .f32⟩
  | 47 => ⟨S64x100000, .f32⟩
  | 48 => ⟨S_, .f32⟩
  | 49 => ⟨S64x100000, .f32⟩
  | 50 => ⟨S64x100000, .i1⟩
  | 51 => ⟨S100000, .i32⟩
  | 52 => ⟨S1x100000, .i32⟩
  | 53 => ⟨S_, .i32⟩
  | 54 => ⟨S1x100000, .i32⟩
  | 55 => ⟨S1x100000, .i1⟩
  | 56 => ⟨S64x100000, .i1⟩
  | 57 => ⟨S64x100000, .i1⟩
  | 58 => ⟨S_, .i32⟩
  | 59 => ⟨S1x100000, .i32⟩
  | 60 => ⟨S1x100000, .i1⟩
  | 61 => ⟨S64x100000, .i1⟩
  | 62 => ⟨S64x100000, .i1⟩
  | 63 => ⟨S_, .f32⟩
  | 64 => ⟨S_, .f32⟩
  | 65 => ⟨S64x100000, .f32⟩
  | 66 => ⟨S64x100000, .f32⟩
  | 67 => ⟨S_, .f32⟩
  | 68 => ⟨S64, .f32⟩
  | 69 => ⟨S64x1, .f32⟩
  | 70 => ⟨S64x100000, .f32⟩
  | 71 => ⟨S64x100000, .f32⟩
  | 72 => ⟨S_, .f32⟩
  | 73 => ⟨S64x100000, .f32⟩
  | 74 => ⟨S64x100000, .f32⟩
  | 75 => ⟨S64x100000, .f32⟩
  | 76 => ⟨S_, .i32⟩
  | 77 => ⟨S_, .i32⟩
  | 78 => ⟨S64x100000, .i32⟩
  | 79 => ⟨S_, .i32⟩
  | 80 => ⟨S64x100000, .i32⟩
  | 81 => ⟨S64x100000, .i32⟩
  | 82 => ⟨S64x100000, .i32⟩
  | 83 => ⟨S64x100000, .i32⟩
  | 84 => ⟨S_, .i32⟩
  | 85 => ⟨S_, .i32⟩
  | 86 => ⟨S_, .i32⟩
  | 87 => ⟨S64x100000, .i32⟩
  | 88 => ⟨S64x100000, .i32⟩
  | 89 => ⟨S64x100000, .i32⟩
  | 90 => ⟨S64x100000, .i32⟩
  | 91 => ⟨S_, .i32⟩
  | 92 => ⟨S64x100000, .i32⟩
  | 93 => ⟨S64x100000, .i32⟩
  | 94 => ⟨S_, .i32⟩
  | 95 => ⟨S64x100000, .i32⟩
  | 96 => ⟨S64x100000, .i32⟩
  | 97 => ⟨S64x100000, .i32⟩
  | 98 => ⟨S64x100000, .i32⟩
  | 99 => ⟨S64x100000, .i32⟩
  | 100 => ⟨S_, .i32⟩
  | 101 => ⟨S64x100000, .i32⟩
  | 102 => ⟨S64x100000, .i32⟩
  | 103 => ⟨S_, .i32⟩
  | 104 => ⟨S64x100000, .i32⟩
  | 105 => ⟨S64x100000, .i32⟩
  | 106 => ⟨S64x100000, .i32⟩
  | 107 => ⟨S64x100000, .i32⟩
  | 108 => ⟨S64x100000, .i32⟩
  | 109 => ⟨S_, .i32⟩
  | 110 => ⟨S64x100000, .i32⟩
  | 111 => ⟨S64x100000, .i32⟩
  | 112 => ⟨S_, .i32⟩
  | 113 => ⟨S64x100000, .i32⟩
  | 114 => ⟨S64x100000, .i32⟩
  | 115 => ⟨S64x100000, .i32⟩
  | 116 => ⟨S64x100000, .i32⟩
  | 117 => ⟨S64x100000, .i32⟩
  | 118 => ⟨S_, .i32⟩
  | 119 => ⟨S64x100000, .i32⟩
  | 120 => ⟨S64x100000, .i32⟩
  | 121 => ⟨S_, .i32⟩
  | 122 => ⟨S64x100000, .i32⟩
  | 123 => ⟨S64x100000, .i32⟩
  | 124 => ⟨S64x100000, .i32⟩
  | 125 => ⟨S64x100000, .i32⟩
  | 126 => ⟨S64x100000, .i32⟩
  | 127 => ⟨S64x100000, .i32⟩
  | _ => ⟨S64x100000, .f32⟩

abbrev hbmTy0_1 (i : Nat) : BufTy := match i % 128 with
  | 0 => ⟨S_, .i32⟩
  | 1 => ⟨S_, .i32⟩
  | 2 => ⟨S64x100000, .i32⟩
  | 3 => ⟨S64x100000, .i32⟩
  | 4 => ⟨S64x100000, .i32⟩
  | 5 => ⟨S_, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S64x100000, .i32⟩
  | 12 => ⟨S64x100000, .i32⟩
  | 13 => ⟨S64x100000, .i32⟩
  | 14 => ⟨S_, .i32⟩
  | 15 => ⟨S64x100000, .i32⟩
  | 16 => ⟨S64x100000, .i32⟩
  | 17 => ⟨S_, .i32⟩
  | 18 => ⟨S64x100000, .i32⟩
  | 19 => ⟨S64x100000, .i32⟩
  | 20 => ⟨S64x100000, .i32⟩
  | 21 => ⟨S64x100000, .i32⟩
  | 22 => ⟨S64x100000, .i32⟩
  | 23 => ⟨S_, .i32⟩
  | 24 => ⟨S64x100000, .i32⟩
  | 25 => ⟨S64x100000, .i32⟩
  | 26 => ⟨S_, .i32⟩
  | 27 => ⟨S64x100000, .i32⟩
  | 28 => ⟨S64x100000, .i32⟩
  | 29 => ⟨S64x100000, .i32⟩
  | 30 => ⟨S64x100000, .i32⟩
  | 31 => ⟨S64x100000, .i32⟩
  | 32 => ⟨S_, .i32⟩
  | 33 => ⟨S64x100000, .i32⟩
  | 34 => ⟨S64x100000, .i32⟩
  | 35 => ⟨S_, .i32⟩
  | 36 => ⟨S64x100000, .i32⟩
  | 37 => ⟨S64x100000, .i32⟩
  | 38 => ⟨S64x100000, .i32⟩
  | 39 => ⟨S64x100000, .i32⟩
  | 40 => ⟨S64x100000, .i32⟩
  | 41 => ⟨S64x100000, .i32⟩
  | 42 => ⟨S_, .i32⟩
  | 43 => ⟨S_, .i32⟩
  | 44 => ⟨S64x100000, .i32⟩
  | 45 => ⟨S64x100000, .i32⟩
  | 46 => ⟨S64x100000, .i32⟩
  | 47 => ⟨S_, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S64x100000, .i32⟩
  | 54 => ⟨S64x100000, .i32⟩
  | 55 => ⟨S64x100000, .i32⟩
  | 56 => ⟨S_, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S64x100000, .i32⟩
  | 63 => ⟨S64x100000, .i32⟩
  | 64 => ⟨S64x100000, .i32⟩
  | 65 => ⟨S_, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S64x100000, .i32⟩
  | 72 => ⟨S64x100000, .i32⟩
  | 73 => ⟨S64x100000, .i32⟩
  | 74 => ⟨S_, .i32⟩
  | 75 => ⟨S64x100000, .i32⟩
  | 76 => ⟨S64x100000, .i32⟩
  | 77 => ⟨S_, .i32⟩
  | 78 => ⟨S64x100000, .i32⟩
  | 79 => ⟨S64x100000, .i32⟩
  | 80 => ⟨S64x100000, .i32⟩
  | 81 => ⟨S64x100000, .i32⟩
  | 82 => ⟨S64x100000, .i32⟩
  | 83 => ⟨S64x100000, .i32⟩
  | 84 => ⟨S_, .i32⟩
  | 85 => ⟨S_, .i32⟩
  | 86 => ⟨S64x100000, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S_, .i32⟩
  | 93 => ⟨S64x100000, .i32⟩
  | 94 => ⟨S64x100000, .i32⟩
  | 95 => ⟨S64x100000, .i32⟩
  | 96 => ⟨S64x100000, .i32⟩
  | 97 => ⟨S64x100000, .i32⟩
  | 98 => ⟨S_, .i32⟩
  | 99 => ⟨S64x100000, .i32⟩
  | 100 => ⟨S64x100000, .i32⟩
  | 101 => ⟨S_, .i32⟩
  | 102 => ⟨S64x100000, .i32⟩
  | 103 => ⟨S64x100000, .i32⟩
  | 104 => ⟨S64x100000, .i32⟩
  | 105 => ⟨S64x100000, .i32⟩
  | 106 => ⟨S64x100000, .i32⟩
  | 107 => ⟨S_, .i32⟩
  | 108 => ⟨S64x100000, .i32⟩
  | 109 => ⟨S64x100000, .i32⟩
  | 110 => ⟨S_, .i32⟩
  | 111 => ⟨S64x100000, .i32⟩
  | 112 => ⟨S64x100000, .i32⟩
  | 113 => ⟨S64x100000, .i32⟩
  | 114 => ⟨S64x100000, .i32⟩
  | 115 => ⟨S64x100000, .i32⟩
  | 116 => ⟨S_, .i32⟩
  | 117 => ⟨S64x100000, .i32⟩
  | 118 => ⟨S64x100000, .i32⟩
  | 119 => ⟨S_, .i32⟩
  | 120 => ⟨S64x100000, .i32⟩
  | 121 => ⟨S64x100000, .i32⟩
  | 122 => ⟨S64x100000, .i32⟩
  | 123 => ⟨S64x100000, .i32⟩
  | 124 => ⟨S64x100000, .i32⟩
  | 125 => ⟨S64x100000, .i32⟩
  | 126 => ⟨S_, .i32⟩
  | 127 => ⟨S_, .i32⟩
  | _ => ⟨S64x100000, .f32⟩

abbrev hbmTy0_2 (i : Nat) : BufTy := match i % 128 with
  | 0 => ⟨S64x100000, .i32⟩
  | 1 => ⟨S64x100000, .i32⟩
  | 2 => ⟨S64x100000, .i32⟩
  | 3 => ⟨S_, .i32⟩
  | 4 => ⟨S64x100000, .i32⟩
  | 5 => ⟨S64x100000, .i32⟩
  | 6 => ⟨S_, .i32⟩
  | 7 => ⟨S64x100000, .i32⟩
  | 8 => ⟨S64x100000, .i32⟩
  | 9 => ⟨S64x100000, .i32⟩
  | 10 => ⟨S64x100000, .i32⟩
  | 11 => ⟨S64x100000, .i32⟩
  | 12 => ⟨S_, .i32⟩
  | 13 => ⟨S64x100000, .i32⟩
  | 14 => ⟨S64x100000, .i32⟩
  | 15 => ⟨S_, .i32⟩
  | 16 => ⟨S64x100000, .i32⟩
  | 17 => ⟨S64x100000, .i32⟩
  | 18 => ⟨S64x100000, .i32⟩
  | 19 => ⟨S64x100000, .i32⟩
  | 20 => ⟨S64x100000, .i32⟩
  | 21 => ⟨S_, .i32⟩
  | 22 => ⟨S64x100000, .i32⟩
  | 23 => ⟨S64x100000, .i32⟩
  | 24 => ⟨S_, .i32⟩
  | 25 => ⟨S64x100000, .i32⟩
  | 26 => ⟨S64x100000, .i32⟩
  | 27 => ⟨S64x100000, .i32⟩
  | 28 => ⟨S64x100000, .i32⟩
  | 29 => ⟨S64x100000, .i32⟩
  | 30 => ⟨S_, .i32⟩
  | 31 => ⟨S64x100000, .i32⟩
  | 32 => ⟨S64x100000, .i32⟩
  | 33 => ⟨S_, .i32⟩
  | 34 => ⟨S64x100000, .i32⟩
  | 35 => ⟨S64x100000, .i32⟩
  | 36 => ⟨S64x100000, .i32⟩
  | 37 => ⟨S64x100000, .i32⟩
  | 38 => ⟨S64x100000, .i32⟩
  | 39 => ⟨S64x100000, .i32⟩
  | 40 => ⟨S_, .i32⟩
  | 41 => ⟨S_, .i32⟩
  | 42 => ⟨S64x100000, .i32⟩
  | 43 => ⟨S64x100000, .i32⟩
  | 44 => ⟨S64x100000, .i32⟩
  | 45 => ⟨S_, .i32⟩
  | 46 => ⟨S64x100000, .i32⟩
  | 47 => ⟨S64x100000, .i32⟩
  | 48 => ⟨S_, .i32⟩
  | 49 => ⟨S64x100000, .i32⟩
  | 50 => ⟨S64x100000, .i32⟩
  | 51 => ⟨S64x100000, .f32⟩
  | 52 => ⟨S_, .f32⟩
  | 53 => ⟨S64x100000, .f32⟩
  | 54 => ⟨S64x100000, .f32⟩
  | 55 => ⟨S_, .f32⟩
  | 56 => ⟨S64x100000, .f32⟩
  | 57 => ⟨S64x100000, .f32⟩
  | 58 => ⟨S_, .f32⟩
  | 59 => ⟨S64x100000, .f32⟩
  | 60 => ⟨S64x100000, .f32⟩
  | 61 => ⟨S_, .f32⟩
  | 62 => ⟨S64x100000, .f32⟩
  | 63 => ⟨S64x100000, .f32⟩
  | 64 => ⟨S64x100000, .f32⟩
  | 65 => ⟨S64x100000, .f32⟩
  | 66 => ⟨S64x100000, .f32⟩
  | 67 => ⟨S64x100000, .f32⟩
  | 68 => ⟨S64x100000, .f32⟩
  | 69 => ⟨S_, .f32⟩
  | 70 => ⟨S64, .f32⟩
  | 71 => ⟨S64x1, .f32⟩
  | 72 => ⟨S64x100000, .f32⟩
  | 73 => ⟨S64x100000, .i1⟩
  | 74 => ⟨S100000, .i32⟩
  | 75 => ⟨S_, .i32⟩
  | 76 => ⟨S_, .i32⟩
  | 77 => ⟨S64x100000, .i32⟩
  | 78 => ⟨S64x100000, .i32⟩
  | 79 => ⟨S64x100000, .i32⟩
  | 80 => ⟨S_, .i32⟩
  | 81 => ⟨S64, .i32⟩
  | 82 => ⟨S64x1, .i32⟩
  | 83 => ⟨S_, .i32⟩
  | 84 => ⟨S64x1, .i32⟩
  | 85 => ⟨S64x1, .i1⟩
  | 86 => ⟨S_, .i32⟩
  | 87 => ⟨S64x1, .i32⟩
  | 88 => ⟨S64x1, .i32⟩
  | 89 => ⟨S64x1, .i32⟩
  | 90 => ⟨S64x1x1, .i32⟩
  | 91 => ⟨S1, .i32⟩
  | 92 => ⟨S_, .i32⟩
  | 93 => ⟨S64x1x1, .i32⟩
  | 94 => ⟨S64x1x1, .i1⟩
  | 95 => ⟨S1x1x1, .i32⟩
  | 96 => ⟨S64x1x1, .i32⟩
  | 97 => ⟨S64x1x1, .i1⟩
  | 98 => ⟨S64x1x1, .i1⟩
  | 99 => ⟨S_, .i1⟩
  | 100 => ⟨S64x1, .i1⟩
  | 101 => ⟨S64x1, .i32⟩
  | 102 => ⟨S_, .i32⟩
  | 103 => ⟨S64x1, .i32⟩
  | 104 => ⟨S64x1, .i32⟩
  | 105 => ⟨S64, .i32⟩
  | 106 => ⟨S64x10, .i32⟩
  | 107 => ⟨S64x1, .i32⟩
  | 108 => ⟨S64x10, .i32⟩
  | 109 => ⟨S64x10, .i1⟩
  | 110 => ⟨S64x10, .i32⟩
  | 111 => ⟨S_, .i32⟩
  | 112 => ⟨S64, .i32⟩
  | 113 => ⟨S64, .f32⟩
  | 114 => ⟨S_, .f32⟩
  | 115 => ⟨S64, .f32⟩
  | 116 => ⟨S64, .f32⟩
  | 117 => ⟨S64, .f32⟩
  | 118 => ⟨S64, .i1⟩
  | 119 => ⟨S_, .f32⟩
  | 120 => ⟨S64x100000, .f32⟩
  | 121 => ⟨S64x100000, .f32⟩
  | 122 => ⟨S64x100000, .f32⟩
  | 123 => ⟨S_, .i32⟩
  | 124 => ⟨S_, .i32⟩
  | 125 => ⟨S64x100000, .i32⟩
  | 126 => ⟨S_, .i32⟩
  | 127 => ⟨S64x100000, .i32⟩
  | _ => ⟨S64x100000, .f32⟩

abbrev hbmTy0_3 (i : Nat) : BufTy := match i % 128 with
  | 0 => ⟨S64x100000, .i32⟩
  | 1 => ⟨S64x100000, .i32⟩
  | 2 => ⟨S64x100000, .i32⟩
  | 3 => ⟨S_, .i32⟩
  | 4 => ⟨S_, .i32⟩
  | 5 => ⟨S_, .i32⟩
  | 6 => ⟨S64x100000, .i32⟩
  | 7 => ⟨S64x100000, .i32⟩
  | 8 => ⟨S64x100000, .i32⟩
  | 9 => ⟨S64x100000, .i32⟩
  | 10 => ⟨S_, .i32⟩
  | 11 => ⟨S64x100000, .i32⟩
  | 12 => ⟨S64x100000, .i32⟩
  | 13 => ⟨S_, .i32⟩
  | 14 => ⟨S64x100000, .i32⟩
  | 15 => ⟨S64x100000, .i32⟩
  | 16 => ⟨S64x100000, .i32⟩
  | 17 => ⟨S64x100000, .i32⟩
  | 18 => ⟨S64x100000, .i32⟩
  | 19 => ⟨S_, .i32⟩
  | 20 => ⟨S64x100000, .i32⟩
  | 21 => ⟨S64x100000, .i32⟩
  | 22 => ⟨S_, .i32⟩
  | 23 => ⟨S64x100000, .i32⟩
  | 24 => ⟨S64x100000, .i32⟩
  | 25 => ⟨S64x100000, .i32⟩
  | 26 => ⟨S64x100000, .i32⟩
  | 27 => ⟨S64x100000, .i32⟩
  | 28 => ⟨S_, .i32⟩
  | 29 => ⟨S64x100000, .i32⟩
  | 30 => ⟨S64x100000, .i32⟩
  | 31 => ⟨S_, .i32⟩
  | 32 => ⟨S64x100000, .i32⟩
  | 33 => ⟨S64x100000, .i32⟩
  | 34 => ⟨S64x100000, .i32⟩
  | 35 => ⟨S64x100000, .i32⟩
  | 36 => ⟨S64x100000, .i32⟩
  | 37 => ⟨S_, .i32⟩
  | 38 => ⟨S64x100000, .i32⟩
  | 39 => ⟨S64x100000, .i32⟩
  | 40 => ⟨S_, .i32⟩
  | 41 => ⟨S64x100000, .i32⟩
  | 42 => ⟨S64x100000, .i32⟩
  | 43 => ⟨S64x100000, .i32⟩
  | 44 => ⟨S64x100000, .i32⟩
  | 45 => ⟨S64x100000, .i32⟩
  | 46 => ⟨S64x100000, .i32⟩
  | 47 => ⟨S_, .i32⟩
  | 48 => ⟨S_, .i32⟩
  | 49 => ⟨S64x100000, .i32⟩
  | 50 => ⟨S64x100000, .i32⟩
  | 51 => ⟨S64x100000, .i32⟩
  | 52 => ⟨S_, .i32⟩
  | 53 => ⟨S64x100000, .i32⟩
  | 54 => ⟨S64x100000, .i32⟩
  | 55 => ⟨S_, .i32⟩
  | 56 => ⟨S64x100000, .i32⟩
  | 57 => ⟨S64x100000, .i32⟩
  | 58 => ⟨S64x100000, .i32⟩
  | 59 => ⟨S64x100000, .i32⟩
  | 60 => ⟨S64x100000, .i32⟩
  | 61 => ⟨S_, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S64x100000, .i32⟩
  | 68 => ⟨S64x100000, .i32⟩
  | 69 => ⟨S64x100000, .i32⟩
  | 70 => ⟨S_, .i32⟩
  | 71 => ⟨S64x100000, .i32⟩
  | 72 => ⟨S64x100000, .i32⟩
  | 73 => ⟨S_, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S_, .i32⟩
  | 80 => ⟨S64x100000, .i32⟩
  | 81 => ⟨S64x100000, .i32⟩
  | 82 => ⟨S_, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S_, .i32⟩
  | 90 => ⟨S_, .i32⟩
  | 91 => ⟨S64x100000, .i32⟩
  | 92 => ⟨S64x100000, .i32⟩
  | 93 => ⟨S64x100000, .i32⟩
  | 94 => ⟨S_, .i32⟩
  | 95 => ⟨S64x100000, .i32⟩
  | 96 => ⟨S64x100000, .i32⟩
  | 97 => ⟨S_, .i32⟩
  | 98 => ⟨S64x100000, .i32⟩
  | 99 => ⟨S64x100000, .i32⟩
  | 100 => ⟨S64x100000, .i32⟩
  | 101 => ⟨S64x100000, .i32⟩
  | 102 => ⟨S64x100000, .i32⟩
  | 103 => ⟨S_, .i32⟩
  | 104 => ⟨S64x100000, .i32⟩
  | 105 => ⟨S64x100000, .i32⟩
  | 106 => ⟨S_, .i32⟩
  | 107 => ⟨S64x100000, .i32⟩
  | 108 => ⟨S64x100000, .i32⟩
  | 109 => ⟨S64x100000, .i32⟩
  | 110 => ⟨S64x100000, .i32⟩
  | 111 => ⟨S64x100000, .i32⟩
  | 112 => ⟨S_, .i32⟩
  | 113 => ⟨S64x100000, .i32⟩
  | 114 => ⟨S64x100000, .i32⟩
  | 115 => ⟨S_, .i32⟩
  | 116 => ⟨S64x100000, .i32⟩
  | 117 => ⟨S64x100000, .i32⟩
  | 118 => ⟨S64x100000, .i32⟩
  | 119 => ⟨S64x100000, .i32⟩
  | 120 => ⟨S64x100000, .i32⟩
  | 121 => ⟨S_, .i32⟩
  | 122 => ⟨S64x100000, .i32⟩
  | 123 => ⟨S64x100000, .i32⟩
  | 124 => ⟨S_, .i32⟩
  | 125 => ⟨S64x100000, .i32⟩
  | 126 => ⟨S64x100000, .i32⟩
  | 127 => ⟨S64x100000, .i32⟩
  | _ => ⟨S64x100000, .f32⟩

abbrev hbmTy0_4 (i : Nat) : BufTy := match i % 128 with
  | 0 => ⟨S64x100000, .i32⟩
  | 1 => ⟨S64x100000, .i32⟩
  | 2 => ⟨S64x100000, .i32⟩
  | 3 => ⟨S_, .i32⟩
  | 4 => ⟨S_, .i32⟩
  | 5 => ⟨S64x100000, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S_, .i32⟩
  | 12 => ⟨S64x100000, .i32⟩
  | 13 => ⟨S64x100000, .i32⟩
  | 14 => ⟨S64x100000, .i32⟩
  | 15 => ⟨S64x100000, .i32⟩
  | 16 => ⟨S64x100000, .i32⟩
  | 17 => ⟨S_, .i32⟩
  | 18 => ⟨S64x100000, .i32⟩
  | 19 => ⟨S64x100000, .i32⟩
  | 20 => ⟨S_, .i32⟩
  | 21 => ⟨S64x100000, .i32⟩
  | 22 => ⟨S64x100000, .i32⟩
  | 23 => ⟨S64x100000, .i32⟩
  | 24 => ⟨S64x100000, .i32⟩
  | 25 => ⟨S64x100000, .i32⟩
  | 26 => ⟨S_, .i32⟩
  | 27 => ⟨S64x100000, .i32⟩
  | 28 => ⟨S64x100000, .i32⟩
  | 29 => ⟨S_, .i32⟩
  | 30 => ⟨S64x100000, .i32⟩
  | 31 => ⟨S64x100000, .i32⟩
  | 32 => ⟨S64x100000, .i32⟩
  | 33 => ⟨S64x100000, .i32⟩
  | 34 => ⟨S64x100000, .i32⟩
  | 35 => ⟨S_, .i32⟩
  | 36 => ⟨S64x100000, .i32⟩
  | 37 => ⟨S64x100000, .i32⟩
  | 38 => ⟨S_, .i32⟩
  | 39 => ⟨S64x100000, .i32⟩
  | 40 => ⟨S64x100000, .i32⟩
  | 41 => ⟨S64x100000, .i32⟩
  | 42 => ⟨S64x100000, .i32⟩
  | 43 => ⟨S64x100000, .i32⟩
  | 44 => ⟨S64x100000, .i32⟩
  | 45 => ⟨S_, .i32⟩
  | 46 => ⟨S_, .i32⟩
  | 47 => ⟨S64x100000, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S_, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S_, .i32⟩
  | 63 => ⟨S64x100000, .i32⟩
  | 64 => ⟨S64x100000, .i32⟩
  | 65 => ⟨S64x100000, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S_, .i32⟩
  | 72 => ⟨S64x100000, .i32⟩
  | 73 => ⟨S64x100000, .i32⟩
  | 74 => ⟨S64x100000, .i32⟩
  | 75 => ⟨S64x100000, .i32⟩
  | 76 => ⟨S64x100000, .i32⟩
  | 77 => ⟨S_, .i32⟩
  | 78 => ⟨S64x100000, .i32⟩
  | 79 => ⟨S64x100000, .i32⟩
  | 80 => ⟨S_, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S_, .i32⟩
  | 88 => ⟨S_, .i32⟩
  | 89 => ⟨S64x100000, .i32⟩
  | 90 => ⟨S64x100000, .i32⟩
  | 91 => ⟨S64x100000, .i32⟩
  | 92 => ⟨S_, .i32⟩
  | 93 => ⟨S64x100000, .i32⟩
  | 94 => ⟨S64x100000, .i32⟩
  | 95 => ⟨S_, .i32⟩
  | 96 => ⟨S64x100000, .i32⟩
  | 97 => ⟨S64x100000, .i32⟩
  | 98 => ⟨S64x100000, .f32⟩
  | 99 => ⟨S_, .f32⟩
  | 100 => ⟨S64x100000, .f32⟩
  | 101 => ⟨S64x100000, .f32⟩
  | 102 => ⟨S_, .f32⟩
  | 103 => ⟨S64x100000, .f32⟩
  | 104 => ⟨S64x100000, .f32⟩
  | 105 => ⟨S_, .f32⟩
  | 106 => ⟨S64x100000, .f32⟩
  | 107 => ⟨S64x100000, .f32⟩
  | 108 => ⟨S_, .f32⟩
  | 109 => ⟨S64x100000, .f32⟩
  | 110 => ⟨S64x100000, .f32⟩
  | 111 => ⟨S64x100000, .f32⟩
  | 112 => ⟨S64x100000, .f32⟩
  | 113 => ⟨S64x100000, .f32⟩
  | 114 => ⟨S64x100000, .f32⟩
  | 115 => ⟨S64x100000, .f32⟩
  | 116 => ⟨S_, .f32⟩
  | 117 => ⟨S64, .f32⟩
  | 118 => ⟨S64x1, .f32⟩
  | 119 => ⟨S64x100000, .f32⟩
  | 120 => ⟨S64x100000, .i1⟩
  | 121 => ⟨S100000, .i32⟩
  | 122 => ⟨S_, .i32⟩
  | 123 => ⟨S_, .i32⟩
  | 124 => ⟨S64x100000, .i32⟩
  | 125 => ⟨S64x100000, .i32⟩
  | 126 => ⟨S64x100000, .i32⟩
  | 127 => ⟨S_, .i32⟩
  | _ => ⟨S64x100000, .f32⟩

abbrev hbmTy0_5 (i : Nat) : BufTy := match i % 128 with
  | 0 => ⟨S64, .i32⟩
  | 1 => ⟨S64, .i32⟩
  | _ => ⟨S64x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1_0 : Ref sig .tc := ⟨.hbm, 21, rfl⟩
abbrev main_v13 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v14 : Ref sig .tc := ⟨.hbm, 44, rfl⟩
abbrev main_call2_call0_cst : Ref sig .tc := ⟨.hbm, 45, rfl⟩
abbrev main_call2_call0_v0 : Ref sig .tc := ⟨.hbm, 46, rfl⟩
abbrev main_v15 : Ref sig .tc := ⟨.hbm, 47, rfl⟩
abbrev main_cst_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_call3_v0 : Ref sig .tc := ⟨.hbm, 64, rfl⟩
abbrev main_call3_v1 : Ref sig .tc := ⟨.hbm, 65, rfl⟩
abbrev main_v28 : Ref sig .tc := ⟨.hbm, 66, rfl⟩
abbrev main_cst_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_8 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_9 : Ref sig .tc := ⟨.hbm, 76, rfl⟩
abbrev main_c_10 : Ref sig .tc := ⟨.hbm, 77, rfl⟩
abbrev main_call4_v0 : Ref sig .tc := ⟨.hbm, 78, rfl⟩
abbrev main_call4_c : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_0 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_call0_v0 : Ref sig .tc := ⟨.hbm, 90, rfl⟩
abbrev main_call4_call0_c : Ref sig .tc := ⟨.hbm, 91, rfl⟩
abbrev main_call4_call0_v1 : Ref sig .tc := ⟨.hbm, 92, rfl⟩
abbrev main_call4_call0_v2 : Ref sig .tc := ⟨.hbm, 93, rfl⟩
abbrev main_call4_call0_c_0 : Ref sig .tc := ⟨.hbm, 94, rfl⟩
abbrev main_call4_call0_v3 : Ref sig .tc := ⟨.hbm, 95, rfl⟩
abbrev main_call4_call0_v4 : Ref sig .tc := ⟨.hbm, 96, rfl⟩
abbrev main_call4_call0_v5 : Ref sig .tc := ⟨.hbm, 97, rfl⟩
abbrev main_call4_call0_v6 : Ref sig .tc := ⟨.hbm, 98, rfl⟩
abbrev main_call4_call0_v7 : Ref sig .tc := ⟨.hbm, 99, rfl⟩
abbrev main_call4_call0_c_1 : Ref sig .tc := ⟨.hbm, 100, rfl⟩
abbrev main_call4_call0_v8 : Ref sig .tc := ⟨.hbm, 101, rfl⟩
abbrev main_call4_call0_v9 : Ref sig .tc := ⟨.hbm, 102, rfl⟩
abbrev main_call4_call0_c_2 : Ref sig .tc := ⟨.hbm, 103, rfl⟩
abbrev main_call4_call0_v10 : Ref sig .tc := ⟨.hbm, 104, rfl⟩
abbrev main_call4_call0_v11 : Ref sig .tc := ⟨.hbm, 105, rfl⟩
abbrev main_call4_call0_v12 : Ref sig .tc := ⟨.hbm, 106, rfl⟩
abbrev main_call4_call0_v13 : Ref sig .tc := ⟨.hbm, 107, rfl⟩
abbrev main_call4_call0_v14 : Ref sig .tc := ⟨.hbm, 108, rfl⟩
abbrev main_call4_call0_c_3 : Ref sig .tc := ⟨.hbm, 109, rfl⟩
abbrev main_call4_call0_v15 : Ref sig .tc := ⟨.hbm, 110, rfl⟩
abbrev main_call4_call0_v16 : Ref sig .tc := ⟨.hbm, 111, rfl⟩
abbrev main_call4_call0_c_4 : Ref sig .tc := ⟨.hbm, 112, rfl⟩
abbrev main_call4_call0_v17 : Ref sig .tc := ⟨.hbm, 113, rfl⟩
abbrev main_call4_call0_v18 : Ref sig .tc := ⟨.hbm, 114, rfl⟩
abbrev main_call4_call0_v19 : Ref sig .tc := ⟨.hbm, 115, rfl⟩
abbrev main_call4_call0_v20 : Ref sig .tc := ⟨.hbm, 116, rfl⟩
abbrev main_call4_v10_0 : Ref sig .tc := ⟨.hbm, 117, rfl⟩
abbrev main_call4_call0_c_5 : Ref sig .tc := ⟨.hbm, 118, rfl⟩
abbrev main_call4_call0_v22 : Ref sig .tc := ⟨.hbm, 119, rfl⟩
abbrev main_call4_call0_v23 : Ref sig .tc := ⟨.hbm, 120, rfl⟩
abbrev main_call4_call0_c_6 : Ref sig .tc := ⟨.hbm, 121, rfl⟩
abbrev main_call4_call0_v24 : Ref sig .tc := ⟨.hbm, 122, rfl⟩
abbrev main_call4_call0_v25 : Ref sig .tc := ⟨.hbm, 123, rfl⟩
abbrev main_call4_call0_v26 : Ref sig .tc := ⟨.hbm, 124, rfl⟩
abbrev main_call4_v10_1 : Ref sig .tc := ⟨.hbm, 125, rfl⟩
abbrev main_call4_v11 : Ref sig .tc := ⟨.hbm, 126, rfl⟩
abbrev main_call4_v12 : Ref sig .tc := ⟨.hbm, 127, rfl⟩
abbrev main_call4_c_1 : Ref sig .tc := ⟨.hbm, 128, rfl⟩
abbrev main_call4_v13 : Ref sig .tc := ⟨.hbm, 129, rfl⟩
abbrev main_call4_v14 : Ref sig .tc := ⟨.hbm, 130, rfl⟩
abbrev main_call4_v15 : Ref sig .tc := ⟨.hbm, 131, rfl⟩
abbrev main_call4_call1_v0 : Ref sig .tc := ⟨.hbm, 132, rfl⟩
abbrev main_call4_call1_c : Ref sig .tc := ⟨.hbm, 133, rfl⟩
abbrev main_call4_call1_v1 : Ref sig .tc := ⟨.hbm, 134, rfl⟩
abbrev main_call4_call1_v2 : Ref sig .tc := ⟨.hbm, 135, rfl⟩
abbrev main_call4_call1_c_0 : Ref sig .tc := ⟨.hbm, 136, rfl⟩
abbrev main_call4_call1_v3 : Ref sig .tc := ⟨.hbm, 137, rfl⟩
abbrev main_call4_call1_v4 : Ref sig .tc := ⟨.hbm, 138, rfl⟩
abbrev main_call4_call1_v5 : Ref sig .tc := ⟨.hbm, 139, rfl⟩
abbrev main_call4_call1_v6 : Ref sig .tc := ⟨.hbm, 140, rfl⟩
abbrev main_call4_call1_v7 : Ref sig .tc := ⟨.hbm, 141, rfl⟩
abbrev main_call4_call1_c_1 : Ref sig .tc := ⟨.hbm, 142, rfl⟩
abbrev main_call4_call1_v8 : Ref sig .tc := ⟨.hbm, 143, rfl⟩
abbrev main_call4_call1_v9 : Ref sig .tc := ⟨.hbm, 144, rfl⟩
abbrev main_call4_call1_c_2 : Ref sig .tc := ⟨.hbm, 145, rfl⟩
abbrev main_call4_call1_v10 : Ref sig .tc := ⟨.hbm, 146, rfl⟩
abbrev main_call4_call1_v11 : Ref sig .tc := ⟨.hbm, 147, rfl⟩
abbrev main_call4_call1_v12 : Ref sig .tc := ⟨.hbm, 148, rfl⟩
abbrev main_call4_call1_v13 : Ref sig .tc := ⟨.hbm, 149, rfl⟩
abbrev main_call4_call1_v14 : Ref sig .tc := ⟨.hbm, 150, rfl⟩
abbrev main_call4_call1_c_3 : Ref sig .tc := ⟨.hbm, 151, rfl⟩
abbrev main_call4_call1_v15 : Ref sig .tc := ⟨.hbm, 152, rfl⟩
abbrev main_call4_call1_v16 : Ref sig .tc := ⟨.hbm, 153, rfl⟩
abbrev main_call4_call1_c_4 : Ref sig .tc := ⟨.hbm, 154, rfl⟩
abbrev main_call4_call1_v17 : Ref sig .tc := ⟨.hbm, 155, rfl⟩
abbrev main_call4_call1_v18 : Ref sig .tc := ⟨.hbm, 156, rfl⟩
abbrev main_call4_call1_v19 : Ref sig .tc := ⟨.hbm, 157, rfl⟩
abbrev main_call4_call1_v20 : Ref sig .tc := ⟨.hbm, 158, rfl⟩
abbrev main_call4_v16_0 : Ref sig .tc := ⟨.hbm, 159, rfl⟩
abbrev main_call4_call1_c_5 : Ref sig .tc := ⟨.hbm, 160, rfl⟩
abbrev main_call4_call1_v22 : Ref sig .tc := ⟨.hbm, 161, rfl⟩
abbrev main_call4_call1_v23 : Ref sig .tc := ⟨.hbm, 162, rfl⟩
abbrev main_call4_call1_c_6 : Ref sig .tc := ⟨.hbm, 163, rfl⟩
abbrev main_call4_call1_v24 : Ref sig .tc := ⟨.hbm, 164, rfl⟩
abbrev main_call4_call1_v25 : Ref sig .tc := ⟨.hbm, 165, rfl⟩
abbrev main_call4_call1_v26 : Ref sig .tc := ⟨.hbm, 166, rfl⟩
abbrev main_call4_v16_1 : Ref sig .tc := ⟨.hbm, 167, rfl⟩
abbrev main_call4_v17 : Ref sig .tc := ⟨.hbm, 168, rfl⟩
abbrev main_call4_v18 : Ref sig .tc := ⟨.hbm, 169, rfl⟩
abbrev main_call4_c_2 : Ref sig .tc := ⟨.hbm, 170, rfl⟩
abbrev main_call4_v19 : Ref sig .tc := ⟨.hbm, 171, rfl⟩
abbrev main_call4_v20 : Ref sig .tc := ⟨.hbm, 172, rfl⟩
abbrev main_call4_v21 : Ref sig .tc := ⟨.hbm, 173, rfl⟩
abbrev main_call4_call2_v0 : Ref sig .tc := ⟨.hbm, 174, rfl⟩
abbrev main_call4_call2_c : Ref sig .tc := ⟨.hbm, 175, rfl⟩
abbrev main_call4_call2_v1 : Ref sig .tc := ⟨.hbm, 176, rfl⟩
abbrev main_call4_call2_v2 : Ref sig .tc := ⟨.hbm, 177, rfl⟩
abbrev main_call4_call2_c_0 : Ref sig .tc := ⟨.hbm, 178, rfl⟩
abbrev main_call4_call2_v3 : Ref sig .tc := ⟨.hbm, 179, rfl⟩
abbrev main_call4_call2_v4 : Ref sig .tc := ⟨.hbm, 180, rfl⟩
abbrev main_call4_call2_v5 : Ref sig .tc := ⟨.hbm, 181, rfl⟩
abbrev main_call4_call2_v6 : Ref sig .tc := ⟨.hbm, 182, rfl⟩
abbrev main_call4_call2_v7 : Ref sig .tc := ⟨.hbm, 183, rfl⟩
abbrev main_call4_call2_c_1 : Ref sig .tc := ⟨.hbm, 184, rfl⟩
abbrev main_call4_call2_v8 : Ref sig .tc := ⟨.hbm, 185, rfl⟩
abbrev main_call4_call2_v9 : Ref sig .tc := ⟨.hbm, 186, rfl⟩
abbrev main_call4_call2_c_2 : Ref sig .tc := ⟨.hbm, 187, rfl⟩
abbrev main_call4_call2_v10 : Ref sig .tc := ⟨.hbm, 188, rfl⟩
abbrev main_call4_call2_v11 : Ref sig .tc := ⟨.hbm, 189, rfl⟩
abbrev main_call4_call2_v12 : Ref sig .tc := ⟨.hbm, 190, rfl⟩
abbrev main_call4_call2_v13 : Ref sig .tc := ⟨.hbm, 191, rfl⟩
abbrev main_call4_call2_v14 : Ref sig .tc := ⟨.hbm, 192, rfl⟩
abbrev main_call4_call2_c_3 : Ref sig .tc := ⟨.hbm, 193, rfl⟩
abbrev main_call4_call2_v15 : Ref sig .tc := ⟨.hbm, 194, rfl⟩
abbrev main_call4_call2_v16 : Ref sig .tc := ⟨.hbm, 195, rfl⟩
abbrev main_call4_call2_c_4 : Ref sig .tc := ⟨.hbm, 196, rfl⟩
abbrev main_call4_call2_v17 : Ref sig .tc := ⟨.hbm, 197, rfl⟩
abbrev main_call4_call2_v18 : Ref sig .tc := ⟨.hbm, 198, rfl⟩
abbrev main_call4_call2_v19 : Ref sig .tc := ⟨.hbm, 199, rfl⟩
abbrev main_call4_call2_v20 : Ref sig .tc := ⟨.hbm, 200, rfl⟩
abbrev main_call4_v22_0 : Ref sig .tc := ⟨.hbm, 201, rfl⟩
abbrev main_call4_call2_c_5 : Ref sig .tc := ⟨.hbm, 202, rfl⟩
abbrev main_call4_call2_v22 : Ref sig .tc := ⟨.hbm, 203, rfl⟩
abbrev main_call4_call2_v23 : Ref sig .tc := ⟨.hbm, 204, rfl⟩
abbrev main_call4_call2_c_6 : Ref sig .tc := ⟨.hbm, 205, rfl⟩
abbrev main_call4_call2_v24 : Ref sig .tc := ⟨.hbm, 206, rfl⟩
abbrev main_call4_call2_v25 : Ref sig .tc := ⟨.hbm, 207, rfl⟩
abbrev main_call4_call2_v26 : Ref sig .tc := ⟨.hbm, 208, rfl⟩
abbrev main_call4_v22_1 : Ref sig .tc := ⟨.hbm, 209, rfl⟩
abbrev main_call4_v23 : Ref sig .tc := ⟨.hbm, 210, rfl⟩
abbrev main_call4_v24 : Ref sig .tc := ⟨.hbm, 211, rfl⟩
abbrev main_call4_c_3 : Ref sig .tc := ⟨.hbm, 212, rfl⟩
abbrev main_call4_v25 : Ref sig .tc := ⟨.hbm, 213, rfl⟩
abbrev main_call4_v26 : Ref sig .tc := ⟨.hbm, 214, rfl⟩
abbrev main_call4_v27 : Ref sig .tc := ⟨.hbm, 215, rfl⟩
abbrev main_call4_call3_v0 : Ref sig .tc := ⟨.hbm, 216, rfl⟩
abbrev main_call4_call3_c : Ref sig .tc := ⟨.hbm, 217, rfl⟩
abbrev main_call4_call3_v1 : Ref sig .tc := ⟨.hbm, 218, rfl⟩
abbrev main_call4_call3_v2 : Ref sig .tc := ⟨.hbm, 219, rfl⟩
abbrev main_call4_call3_c_0 : Ref sig .tc := ⟨.hbm, 220, rfl⟩
abbrev main_call4_call3_v3 : Ref sig .tc := ⟨.hbm, 221, rfl⟩
abbrev main_call4_call3_v4 : Ref sig .tc := ⟨.hbm, 222, rfl⟩
abbrev main_call4_call3_v5 : Ref sig .tc := ⟨.hbm, 223, rfl⟩
abbrev main_call4_call3_v6 : Ref sig .tc := ⟨.hbm, 224, rfl⟩
abbrev main_call4_call3_v7 : Ref sig .tc := ⟨.hbm, 225, rfl⟩
abbrev main_call4_call3_c_1 : Ref sig .tc := ⟨.hbm, 226, rfl⟩
abbrev main_call4_call3_v8 : Ref sig .tc := ⟨.hbm, 227, rfl⟩
abbrev main_call4_call3_v9 : Ref sig .tc := ⟨.hbm, 228, rfl⟩
abbrev main_call4_call3_c_2 : Ref sig .tc := ⟨.hbm, 229, rfl⟩
abbrev main_call4_call3_v10 : Ref sig .tc := ⟨.hbm, 230, rfl⟩
abbrev main_call4_call3_v11 : Ref sig .tc := ⟨.hbm, 231, rfl⟩
abbrev main_call4_call3_v12 : Ref sig .tc := ⟨.hbm, 232, rfl⟩
abbrev main_call4_call3_v13 : Ref sig .tc := ⟨.hbm, 233, rfl⟩
abbrev main_call4_call3_v14 : Ref sig .tc := ⟨.hbm, 234, rfl⟩
abbrev main_call4_call3_c_3 : Ref sig .tc := ⟨.hbm, 235, rfl⟩
abbrev main_call4_call3_v15 : Ref sig .tc := ⟨.hbm, 236, rfl⟩
abbrev main_call4_call3_v16 : Ref sig .tc := ⟨.hbm, 237, rfl⟩
abbrev main_call4_call3_c_4 : Ref sig .tc := ⟨.hbm, 238, rfl⟩
abbrev main_call4_call3_v17 : Ref sig .tc := ⟨.hbm, 239, rfl⟩
abbrev main_call4_call3_v18 : Ref sig .tc := ⟨.hbm, 240, rfl⟩
abbrev main_call4_call3_v19 : Ref sig .tc := ⟨.hbm, 241, rfl⟩
abbrev main_call4_call3_v20 : Ref sig .tc := ⟨.hbm, 242, rfl⟩
abbrev main_call4_v28_0 : Ref sig .tc := ⟨.hbm, 243, rfl⟩
abbrev main_call4_call3_c_5 : Ref sig .tc := ⟨.hbm, 244, rfl⟩
abbrev main_call4_call3_v22 : Ref sig .tc := ⟨.hbm, 245, rfl⟩
abbrev main_call4_call3_v23 : Ref sig .tc := ⟨.hbm, 246, rfl⟩
abbrev main_call4_call3_c_6 : Ref sig .tc := ⟨.hbm, 247, rfl⟩
abbrev main_call4_call3_v24 : Ref sig .tc := ⟨.hbm, 248, rfl⟩
abbrev main_call4_call3_v25 : Ref sig .tc := ⟨.hbm, 249, rfl⟩
abbrev main_call4_call3_v26 : Ref sig .tc := ⟨.hbm, 250, rfl⟩
abbrev main_call4_v28_1 : Ref sig .tc := ⟨.hbm, 251, rfl⟩
abbrev main_call4_v29 : Ref sig .tc := ⟨.hbm, 252, rfl⟩
abbrev main_call4_v30 : Ref sig .tc := ⟨.hbm, 253, rfl⟩
abbrev main_call4_c_4 : Ref sig .tc := ⟨.hbm, 254, rfl⟩
abbrev main_call4_v31 : Ref sig .tc := ⟨.hbm, 255, rfl⟩
abbrev main_call4_v32 : Ref sig .tc := ⟨.hbm, 256, rfl⟩
abbrev main_call4_v33 : Ref sig .tc := ⟨.hbm, 257, rfl⟩
abbrev main_call4_call4_v0 : Ref sig .tc := ⟨.hbm, 258, rfl⟩
abbrev main_call4_call4_c : Ref sig .tc := ⟨.hbm, 259, rfl⟩
abbrev main_call4_call4_v1 : Ref sig .tc := ⟨.hbm, 260, rfl⟩
abbrev main_call4_call4_v2 : Ref sig .tc := ⟨.hbm, 261, rfl⟩
abbrev main_call4_call4_c_0 : Ref sig .tc := ⟨.hbm, 262, rfl⟩
abbrev main_call4_call4_v3 : Ref sig .tc := ⟨.hbm, 263, rfl⟩
abbrev main_call4_call4_v4 : Ref sig .tc := ⟨.hbm, 264, rfl⟩
abbrev main_call4_call4_v5 : Ref sig .tc := ⟨.hbm, 265, rfl⟩
abbrev main_call4_call4_v6 : Ref sig .tc := ⟨.hbm, 266, rfl⟩
abbrev main_call4_call4_v7 : Ref sig .tc := ⟨.hbm, 267, rfl⟩
abbrev main_call4_call4_c_1 : Ref sig .tc := ⟨.hbm, 268, rfl⟩
abbrev main_call4_call4_v8 : Ref sig .tc := ⟨.hbm, 269, rfl⟩
abbrev main_call4_call4_v9 : Ref sig .tc := ⟨.hbm, 270, rfl⟩
abbrev main_call4_call4_c_2 : Ref sig .tc := ⟨.hbm, 271, rfl⟩
abbrev main_call4_call4_v10 : Ref sig .tc := ⟨.hbm, 272, rfl⟩
abbrev main_call4_call4_v11 : Ref sig .tc := ⟨.hbm, 273, rfl⟩
abbrev main_call4_call4_v12 : Ref sig .tc := ⟨.hbm, 274, rfl⟩
abbrev main_call4_call4_v13 : Ref sig .tc := ⟨.hbm, 275, rfl⟩
abbrev main_call4_call4_v14 : Ref sig .tc := ⟨.hbm, 276, rfl⟩
abbrev main_call4_call4_c_3 : Ref sig .tc := ⟨.hbm, 277, rfl⟩
abbrev main_call4_call4_v15 : Ref sig .tc := ⟨.hbm, 278, rfl⟩
abbrev main_call4_call4_v16 : Ref sig .tc := ⟨.hbm, 279, rfl⟩
abbrev main_call4_call4_c_4 : Ref sig .tc := ⟨.hbm, 280, rfl⟩
abbrev main_call4_call4_v17 : Ref sig .tc := ⟨.hbm, 281, rfl⟩
abbrev main_call4_call4_v18 : Ref sig .tc := ⟨.hbm, 282, rfl⟩
abbrev main_call4_call4_v19 : Ref sig .tc := ⟨.hbm, 283, rfl⟩
abbrev main_call4_call4_v20 : Ref sig .tc := ⟨.hbm, 284, rfl⟩
abbrev main_call4_v34_0 : Ref sig .tc := ⟨.hbm, 285, rfl⟩
abbrev main_call4_call4_c_5 : Ref sig .tc := ⟨.hbm, 286, rfl⟩
abbrev main_call4_call4_v22 : Ref sig .tc := ⟨.hbm, 287, rfl⟩
abbrev main_call4_call4_v23 : Ref sig .tc := ⟨.hbm, 288, rfl⟩
abbrev main_call4_call4_c_6 : Ref sig .tc := ⟨.hbm, 289, rfl⟩
abbrev main_call4_call4_v24 : Ref sig .tc := ⟨.hbm, 290, rfl⟩
abbrev main_call4_call4_v25 : Ref sig .tc := ⟨.hbm, 291, rfl⟩
abbrev main_call4_call4_v26 : Ref sig .tc := ⟨.hbm, 292, rfl⟩
abbrev main_call4_v34_1 : Ref sig .tc := ⟨.hbm, 293, rfl⟩
abbrev main_call4_v35 : Ref sig .tc := ⟨.hbm, 294, rfl⟩
abbrev main_call4_v36 : Ref sig .tc := ⟨.hbm, 295, rfl⟩
abbrev main_call4_c_5 : Ref sig .tc := ⟨.hbm, 296, rfl⟩
abbrev main_call4_v37 : Ref sig .tc := ⟨.hbm, 297, rfl⟩
abbrev main_call4_v38 : Ref sig .tc := ⟨.hbm, 298, rfl⟩
abbrev main_call4_v39 : Ref sig .tc := ⟨.hbm, 299, rfl⟩
abbrev main_v36 : Ref sig .tc := ⟨.hbm, 300, rfl⟩
abbrev main_c_11 : Ref sig .tc := ⟨.hbm, 301, rfl⟩
abbrev main_v37 : Ref sig .tc := ⟨.hbm, 302, rfl⟩
abbrev main_v38 : Ref sig .tc := ⟨.hbm, 303, rfl⟩
abbrev main_c_12 : Ref sig .tc := ⟨.hbm, 304, rfl⟩
abbrev main_v39 : Ref sig .tc := ⟨.hbm, 305, rfl⟩
abbrev main_v40 : Ref sig .tc := ⟨.hbm, 306, rfl⟩
abbrev main_v41 : Ref sig .tc := ⟨.hbm, 307, rfl⟩
abbrev main_cst_13 : Ref sig .tc := ⟨.hbm, 308, rfl⟩
abbrev main_v42 : Ref sig .tc := ⟨.hbm, 309, rfl⟩
abbrev main_v43 : Ref sig .tc := ⟨.hbm, 310, rfl⟩
abbrev main_cst_14 : Ref sig .tc := ⟨.hbm, 311, rfl⟩
abbrev main_v44 : Ref sig .tc := ⟨.hbm, 312, rfl⟩
abbrev main_v45 : Ref sig .tc := ⟨.hbm, 313, rfl⟩
abbrev main_cst_15 : Ref sig .tc := ⟨.hbm, 314, rfl⟩
abbrev main_v46 : Ref sig .tc := ⟨.hbm, 315, rfl⟩
abbrev main_v47 : Ref sig .tc := ⟨.hbm, 316, rfl⟩
abbrev main_cst_16 : Ref sig .tc := ⟨.hbm, 317, rfl⟩
abbrev main_v48 : Ref sig .tc := ⟨.hbm, 318, rfl⟩
abbrev main_v49 : Ref sig .tc := ⟨.hbm, 319, rfl⟩
abbrev main_v50 : Ref sig .tc := ⟨.hbm, 320, rfl⟩
abbrev main_v51 : Ref sig .tc := ⟨.hbm, 321, rfl⟩
abbrev main_v52 : Ref sig .tc := ⟨.hbm, 322, rfl⟩
abbrev main_v53 : Ref sig .tc := ⟨.hbm, 323, rfl⟩
abbrev main_v54 : Ref sig .tc := ⟨.hbm, 324, rfl⟩
abbrev main_cst_17 : Ref sig .tc := ⟨.hbm, 325, rfl⟩
abbrev main_v55 : Ref sig .tc := ⟨.hbm, 326, rfl⟩
abbrev main_v56 : Ref sig .tc := ⟨.hbm, 327, rfl⟩
abbrev main_v57 : Ref sig .tc := ⟨.hbm, 328, rfl⟩
abbrev main_v58 : Ref sig .tc := ⟨.hbm, 329, rfl⟩
abbrev main_v59 : Ref sig .tc := ⟨.hbm, 330, rfl⟩
abbrev main_c_18 : Ref sig .tc := ⟨.hbm, 331, rfl⟩
abbrev main_call5_v0 : Ref sig .tc := ⟨.hbm, 332, rfl⟩
abbrev main_call5_v1 : Ref sig .tc := ⟨.hbm, 333, rfl⟩
abbrev main_call5_v2 : Ref sig .tc := ⟨.hbm, 334, rfl⟩
abbrev main_v60 : Ref sig .tc := ⟨.hbm, 335, rfl⟩
abbrev main_c_19 : Ref sig .tc := ⟨.hbm, 336, rfl⟩
abbrev main_v61 : Ref sig .tc := ⟨.hbm, 337, rfl⟩
abbrev main_v62 : Ref sig .tc := ⟨.hbm, 338, rfl⟩
abbrev main_call6_c : Ref sig .tc := ⟨.hbm, 339, rfl⟩
abbrev main_call6_v0 : Ref sig .tc := ⟨.hbm, 340, rfl⟩
abbrev main_call6_v1 : Ref sig .tc := ⟨.hbm, 341, rfl⟩
abbrev main_call6_c_0 : Ref sig .tc := ⟨.hbm, 342, rfl⟩
abbrev main_call6_v2 : Ref sig .tc := ⟨.hbm, 343, rfl⟩
abbrev main_call6_v3 : Ref sig .tc := ⟨.hbm, 344, rfl⟩
abbrev main_call6_v4 : Ref sig .tc := ⟨.hbm, 345, rfl⟩
abbrev main_call6_v5 : Ref sig .tc := ⟨.hbm, 346, rfl⟩
abbrev main_call6_c_1 : Ref sig .tc := ⟨.hbm, 347, rfl⟩
abbrev main_call6_c_2 : Ref sig .tc := ⟨.hbm, 348, rfl⟩
abbrev main_call6_v6 : Ref sig .tc := ⟨.hbm, 349, rfl⟩
abbrev main_call6_v7 : Ref sig .tc := ⟨.hbm, 350, rfl⟩
abbrev main_call6_v8 : Ref sig .tc := ⟨.hbm, 351, rfl⟩
abbrev main_call6_v9 : Ref sig .tc := ⟨.hbm, 352, rfl⟩
abbrev main_call6_v10 : Ref sig .tc := ⟨.hbm, 353, rfl⟩
abbrev main_call6_v11 : Ref sig .tc := ⟨.hbm, 354, rfl⟩
abbrev main_call6_c_3 : Ref sig .tc := ⟨.hbm, 355, rfl⟩
abbrev main_call6_v12 : Ref sig .tc := ⟨.hbm, 356, rfl⟩
abbrev main_call6_v13 : Ref sig .tc := ⟨.hbm, 357, rfl⟩
abbrev main_call6_c_4 : Ref sig .tc := ⟨.hbm, 358, rfl⟩
abbrev main_call6_v14 : Ref sig .tc := ⟨.hbm, 359, rfl⟩
abbrev main_v63 : Ref sig .tc := ⟨.hbm, 360, rfl⟩
abbrev main_v64 : Ref sig .tc := ⟨.hbm, 361, rfl⟩
abbrev main_v65 : Ref sig .tc := ⟨.hbm, 362, rfl⟩
abbrev main_v66 : Ref sig .tc := ⟨.hbm, 363, rfl⟩
abbrev main_v67 : Ref sig .tc := ⟨.hbm, 364, rfl⟩
abbrev main_v68 : Ref sig .tc := ⟨.hbm, 365, rfl⟩
abbrev main_v69 : Ref sig .tc := ⟨.hbm, 366, rfl⟩
abbrev main_c_20 : Ref sig .tc := ⟨.hbm, 367, rfl⟩
abbrev main_v70 : Ref sig .tc := ⟨.hbm, 368, rfl⟩
abbrev main_v71 : Ref sig .tc := ⟨.hbm, 369, rfl⟩
abbrev main_cst_21 : Ref sig .tc := ⟨.hbm, 370, rfl⟩
abbrev main_v72 : Ref sig .tc := ⟨.hbm, 371, rfl⟩
abbrev main_v73 : Ref sig .tc := ⟨.hbm, 372, rfl⟩
abbrev main_v74 : Ref sig .tc := ⟨.hbm, 373, rfl⟩
abbrev main_v75 : Ref sig .tc := ⟨.hbm, 374, rfl⟩
abbrev main_cst_22 : Ref sig .tc := ⟨.hbm, 375, rfl⟩
abbrev main_v76 : Ref sig .tc := ⟨.hbm, 376, rfl⟩
abbrev main_v77 : Ref sig .tc := ⟨.hbm, 377, rfl⟩
abbrev main_v78 : Ref sig .tc := ⟨.hbm, 378, rfl⟩
abbrev main_c_23 : Ref sig .tc := ⟨.hbm, 379, rfl⟩
abbrev main_c_24 : Ref sig .tc := ⟨.hbm, 380, rfl⟩
abbrev main_call7_v0 : Ref sig .tc := ⟨.hbm, 381, rfl⟩
abbrev main_call7_c : Ref sig .tc := ⟨.hbm, 382, rfl⟩
abbrev main_call7_v1 : Ref sig .tc := ⟨.hbm, 383, rfl⟩
abbrev main_call7_v2 : Ref sig .tc := ⟨.hbm, 384, rfl⟩
abbrev main_call7_v3 : Ref sig .tc := ⟨.hbm, 385, rfl⟩
abbrev main_call7_v4 : Ref sig .tc := ⟨.hbm, 386, rfl⟩
abbrev main_call7_v5 : Ref sig .tc := ⟨.hbm, 387, rfl⟩
abbrev main_call7_c_0 : Ref sig .tc := ⟨.hbm, 388, rfl⟩
abbrev main_call7_v6 : Ref sig .tc := ⟨.hbm, 389, rfl⟩
abbrev main_call7_v7 : Ref sig .tc := ⟨.hbm, 390, rfl⟩
abbrev main_call7_v8 : Ref sig .tc := ⟨.hbm, 391, rfl⟩
abbrev main_call7_v9 : Ref sig .tc := ⟨.hbm, 392, rfl⟩
abbrev main_call7_call0_v0 : Ref sig .tc := ⟨.hbm, 393, rfl⟩
abbrev main_call7_call0_c : Ref sig .tc := ⟨.hbm, 394, rfl⟩
abbrev main_call7_call0_v1 : Ref sig .tc := ⟨.hbm, 395, rfl⟩
abbrev main_call7_call0_v2 : Ref sig .tc := ⟨.hbm, 396, rfl⟩
abbrev main_call7_call0_c_0 : Ref sig .tc := ⟨.hbm, 397, rfl⟩
abbrev main_call7_call0_v3 : Ref sig .tc := ⟨.hbm, 398, rfl⟩
abbrev main_call7_call0_v4 : Ref sig .tc := ⟨.hbm, 399, rfl⟩
abbrev main_call7_call0_v5 : Ref sig .tc := ⟨.hbm, 400, rfl⟩
abbrev main_call7_call0_v6 : Ref sig .tc := ⟨.hbm, 401, rfl⟩
abbrev main_call7_call0_v7 : Ref sig .tc := ⟨.hbm, 402, rfl⟩
abbrev main_call7_call0_c_1 : Ref sig .tc := ⟨.hbm, 403, rfl⟩
abbrev main_call7_call0_v8 : Ref sig .tc := ⟨.hbm, 404, rfl⟩
abbrev main_call7_call0_v9 : Ref sig .tc := ⟨.hbm, 405, rfl⟩
abbrev main_call7_call0_c_2 : Ref sig .tc := ⟨.hbm, 406, rfl⟩
abbrev main_call7_call0_v10 : Ref sig .tc := ⟨.hbm, 407, rfl⟩
abbrev main_call7_call0_v11 : Ref sig .tc := ⟨.hbm, 408, rfl⟩
abbrev main_call7_call0_v12 : Ref sig .tc := ⟨.hbm, 409, rfl⟩
abbrev main_call7_call0_v13 : Ref sig .tc := ⟨.hbm, 410, rfl⟩
abbrev main_call7_call0_v14 : Ref sig .tc := ⟨.hbm, 411, rfl⟩
abbrev main_call7_call0_c_3 : Ref sig .tc := ⟨.hbm, 412, rfl⟩
abbrev main_call7_call0_v15 : Ref sig .tc := ⟨.hbm, 413, rfl⟩
abbrev main_call7_call0_v16 : Ref sig .tc := ⟨.hbm, 414, rfl⟩
abbrev main_call7_call0_c_4 : Ref sig .tc := ⟨.hbm, 415, rfl⟩
abbrev main_call7_call0_v17 : Ref sig .tc := ⟨.hbm, 416, rfl⟩
abbrev main_call7_call0_v18 : Ref sig .tc := ⟨.hbm, 417, rfl⟩
abbrev main_call7_call0_v19 : Ref sig .tc := ⟨.hbm, 418, rfl⟩
abbrev main_call7_call0_v20 : Ref sig .tc := ⟨.hbm, 419, rfl⟩
abbrev main_call7_v10_0 : Ref sig .tc := ⟨.hbm, 420, rfl⟩
abbrev main_call7_call0_c_5 : Ref sig .tc := ⟨.hbm, 421, rfl⟩
abbrev main_call7_call0_v22 : Ref sig .tc := ⟨.hbm, 422, rfl⟩
abbrev main_call7_call0_v23 : Ref sig .tc := ⟨.hbm, 423, rfl⟩
abbrev main_call7_call0_c_6 : Ref sig .tc := ⟨.hbm, 424, rfl⟩
abbrev main_call7_call0_v24 : Ref sig .tc := ⟨.hbm, 425, rfl⟩
abbrev main_call7_call0_v25 : Ref sig .tc := ⟨.hbm, 426, rfl⟩
abbrev main_call7_call0_v26 : Ref sig .tc := ⟨.hbm, 427, rfl⟩
abbrev main_call7_v10_1 : Ref sig .tc := ⟨.hbm, 428, rfl⟩
abbrev main_call7_v11 : Ref sig .tc := ⟨.hbm, 429, rfl⟩
abbrev main_call7_v12 : Ref sig .tc := ⟨.hbm, 430, rfl⟩
abbrev main_call7_c_1 : Ref sig .tc := ⟨.hbm, 431, rfl⟩
abbrev main_call7_v13 : Ref sig .tc := ⟨.hbm, 432, rfl⟩
abbrev main_call7_v14 : Ref sig .tc := ⟨.hbm, 433, rfl⟩
abbrev main_call7_v15 : Ref sig .tc := ⟨.hbm, 434, rfl⟩
abbrev main_call7_call1_v0 : Ref sig .tc := ⟨.hbm, 435, rfl⟩
abbrev main_call7_call1_c : Ref sig .tc := ⟨.hbm, 436, rfl⟩
abbrev main_call7_call1_v1 : Ref sig .tc := ⟨.hbm, 437, rfl⟩
abbrev main_call7_call1_v2 : Ref sig .tc := ⟨.hbm, 438, rfl⟩
abbrev main_call7_call1_c_0 : Ref sig .tc := ⟨.hbm, 439, rfl⟩
abbrev main_call7_call1_v3 : Ref sig .tc := ⟨.hbm, 440, rfl⟩
abbrev main_call7_call1_v4 : Ref sig .tc := ⟨.hbm, 441, rfl⟩
abbrev main_call7_call1_v5 : Ref sig .tc := ⟨.hbm, 442, rfl⟩
abbrev main_call7_call1_v6 : Ref sig .tc := ⟨.hbm, 443, rfl⟩
abbrev main_call7_call1_v7 : Ref sig .tc := ⟨.hbm, 444, rfl⟩
abbrev main_call7_call1_c_1 : Ref sig .tc := ⟨.hbm, 445, rfl⟩
abbrev main_call7_call1_v8 : Ref sig .tc := ⟨.hbm, 446, rfl⟩
abbrev main_call7_call1_v9 : Ref sig .tc := ⟨.hbm, 447, rfl⟩
abbrev main_call7_call1_c_2 : Ref sig .tc := ⟨.hbm, 448, rfl⟩
abbrev main_call7_call1_v10 : Ref sig .tc := ⟨.hbm, 449, rfl⟩
abbrev main_call7_call1_v11 : Ref sig .tc := ⟨.hbm, 450, rfl⟩
abbrev main_call7_call1_v12 : Ref sig .tc := ⟨.hbm, 451, rfl⟩
abbrev main_call7_call1_v13 : Ref sig .tc := ⟨.hbm, 452, rfl⟩
abbrev main_call7_call1_v14 : Ref sig .tc := ⟨.hbm, 453, rfl⟩
abbrev main_call7_call1_c_3 : Ref sig .tc := ⟨.hbm, 454, rfl⟩
abbrev main_call7_call1_v15 : Ref sig .tc := ⟨.hbm, 455, rfl⟩
abbrev main_call7_call1_v16 : Ref sig .tc := ⟨.hbm, 456, rfl⟩
abbrev main_call7_call1_c_4 : Ref sig .tc := ⟨.hbm, 457, rfl⟩
abbrev main_call7_call1_v17 : Ref sig .tc := ⟨.hbm, 458, rfl⟩
abbrev main_call7_call1_v18 : Ref sig .tc := ⟨.hbm, 459, rfl⟩
abbrev main_call7_call1_v19 : Ref sig .tc := ⟨.hbm, 460, rfl⟩
abbrev main_call7_call1_v20 : Ref sig .tc := ⟨.hbm, 461, rfl⟩
abbrev main_call7_v16_0 : Ref sig .tc := ⟨.hbm, 462, rfl⟩
abbrev main_call7_call1_c_5 : Ref sig .tc := ⟨.hbm, 463, rfl⟩
abbrev main_call7_call1_v22 : Ref sig .tc := ⟨.hbm, 464, rfl⟩
abbrev main_call7_call1_v23 : Ref sig .tc := ⟨.hbm, 465, rfl⟩
abbrev main_call7_call1_c_6 : Ref sig .tc := ⟨.hbm, 466, rfl⟩
abbrev main_call7_call1_v24 : Ref sig .tc := ⟨.hbm, 467, rfl⟩
abbrev main_call7_call1_v25 : Ref sig .tc := ⟨.hbm, 468, rfl⟩
abbrev main_call7_call1_v26 : Ref sig .tc := ⟨.hbm, 469, rfl⟩
abbrev main_call7_v16_1 : Ref sig .tc := ⟨.hbm, 470, rfl⟩
abbrev main_call7_v17 : Ref sig .tc := ⟨.hbm, 471, rfl⟩
abbrev main_call7_v18 : Ref sig .tc := ⟨.hbm, 472, rfl⟩
abbrev main_call7_c_2 : Ref sig .tc := ⟨.hbm, 473, rfl⟩
abbrev main_call7_v19 : Ref sig .tc := ⟨.hbm, 474, rfl⟩
abbrev main_call7_v20 : Ref sig .tc := ⟨.hbm, 475, rfl⟩
abbrev main_call7_v21 : Ref sig .tc := ⟨.hbm, 476, rfl⟩
abbrev main_call7_call2_v0 : Ref sig .tc := ⟨.hbm, 477, rfl⟩
abbrev main_call7_call2_c : Ref sig .tc := ⟨.hbm, 478, rfl⟩
abbrev main_call7_call2_v1 : Ref sig .tc := ⟨.hbm, 479, rfl⟩
abbrev main_call7_call2_v2 : Ref sig .tc := ⟨.hbm, 480, rfl⟩
abbrev main_call7_call2_c_0 : Ref sig .tc := ⟨.hbm, 481, rfl⟩
abbrev main_call7_call2_v3 : Ref sig .tc := ⟨.hbm, 482, rfl⟩
abbrev main_call7_call2_v4 : Ref sig .tc := ⟨.hbm, 483, rfl⟩
abbrev main_call7_call2_v5 : Ref sig .tc := ⟨.hbm, 484, rfl⟩
abbrev main_call7_call2_v6 : Ref sig .tc := ⟨.hbm, 485, rfl⟩
abbrev main_call7_call2_v7 : Ref sig .tc := ⟨.hbm, 486, rfl⟩
abbrev main_call7_call2_c_1 : Ref sig .tc := ⟨.hbm, 487, rfl⟩
abbrev main_call7_call2_v8 : Ref sig .tc := ⟨.hbm, 488, rfl⟩
abbrev main_call7_call2_v9 : Ref sig .tc := ⟨.hbm, 489, rfl⟩
abbrev main_call7_call2_c_2 : Ref sig .tc := ⟨.hbm, 490, rfl⟩
abbrev main_call7_call2_v10 : Ref sig .tc := ⟨.hbm, 491, rfl⟩
abbrev main_call7_call2_v11 : Ref sig .tc := ⟨.hbm, 492, rfl⟩
abbrev main_call7_call2_v12 : Ref sig .tc := ⟨.hbm, 493, rfl⟩
abbrev main_call7_call2_v13 : Ref sig .tc := ⟨.hbm, 494, rfl⟩
abbrev main_call7_call2_v14 : Ref sig .tc := ⟨.hbm, 495, rfl⟩
abbrev main_call7_call2_c_3 : Ref sig .tc := ⟨.hbm, 496, rfl⟩
abbrev main_call7_call2_v15 : Ref sig .tc := ⟨.hbm, 497, rfl⟩
abbrev main_call7_call2_v16 : Ref sig .tc := ⟨.hbm, 498, rfl⟩
abbrev main_call7_call2_c_4 : Ref sig .tc := ⟨.hbm, 499, rfl⟩
abbrev main_call7_call2_v17 : Ref sig .tc := ⟨.hbm, 500, rfl⟩
abbrev main_call7_call2_v18 : Ref sig .tc := ⟨.hbm, 501, rfl⟩
abbrev main_call7_call2_v19 : Ref sig .tc := ⟨.hbm, 502, rfl⟩
abbrev main_call7_call2_v20 : Ref sig .tc := ⟨.hbm, 503, rfl⟩
abbrev main_call7_v22_0 : Ref sig .tc := ⟨.hbm, 504, rfl⟩
abbrev main_call7_call2_c_5 : Ref sig .tc := ⟨.hbm, 505, rfl⟩
abbrev main_call7_call2_v22 : Ref sig .tc := ⟨.hbm, 506, rfl⟩
abbrev main_call7_call2_v23 : Ref sig .tc := ⟨.hbm, 507, rfl⟩
abbrev main_call7_call2_c_6 : Ref sig .tc := ⟨.hbm, 508, rfl⟩
abbrev main_call7_call2_v24 : Ref sig .tc := ⟨.hbm, 509, rfl⟩
abbrev main_call7_call2_v25 : Ref sig .tc := ⟨.hbm, 510, rfl⟩
abbrev main_call7_call2_v26 : Ref sig .tc := ⟨.hbm, 511, rfl⟩
abbrev main_call7_v22_1 : Ref sig .tc := ⟨.hbm, 512, rfl⟩
abbrev main_call7_v23 : Ref sig .tc := ⟨.hbm, 513, rfl⟩
abbrev main_call7_v24 : Ref sig .tc := ⟨.hbm, 514, rfl⟩
abbrev main_call7_c_3 : Ref sig .tc := ⟨.hbm, 515, rfl⟩
abbrev main_call7_v25 : Ref sig .tc := ⟨.hbm, 516, rfl⟩
abbrev main_call7_v26 : Ref sig .tc := ⟨.hbm, 517, rfl⟩
abbrev main_call7_v27 : Ref sig .tc := ⟨.hbm, 518, rfl⟩
abbrev main_call7_call3_v0 : Ref sig .tc := ⟨.hbm, 519, rfl⟩
abbrev main_call7_call3_c : Ref sig .tc := ⟨.hbm, 520, rfl⟩
abbrev main_call7_call3_v1 : Ref sig .tc := ⟨.hbm, 521, rfl⟩
abbrev main_call7_call3_v2 : Ref sig .tc := ⟨.hbm, 522, rfl⟩
abbrev main_call7_call3_c_0 : Ref sig .tc := ⟨.hbm, 523, rfl⟩
abbrev main_call7_call3_v3 : Ref sig .tc := ⟨.hbm, 524, rfl⟩
abbrev main_call7_call3_v4 : Ref sig .tc := ⟨.hbm, 525, rfl⟩
abbrev main_call7_call3_v5 : Ref sig .tc := ⟨.hbm, 526, rfl⟩
abbrev main_call7_call3_v6 : Ref sig .tc := ⟨.hbm, 527, rfl⟩
abbrev main_call7_call3_v7 : Ref sig .tc := ⟨.hbm, 528, rfl⟩
abbrev main_call7_call3_c_1 : Ref sig .tc := ⟨.hbm, 529, rfl⟩
abbrev main_call7_call3_v8 : Ref sig .tc := ⟨.hbm, 530, rfl⟩
abbrev main_call7_call3_v9 : Ref sig .tc := ⟨.hbm, 531, rfl⟩
abbrev main_call7_call3_c_2 : Ref sig .tc := ⟨.hbm, 532, rfl⟩
abbrev main_call7_call3_v10 : Ref sig .tc := ⟨.hbm, 533, rfl⟩
abbrev main_call7_call3_v11 : Ref sig .tc := ⟨.hbm, 534, rfl⟩
abbrev main_call7_call3_v12 : Ref sig .tc := ⟨.hbm, 535, rfl⟩
abbrev main_call7_call3_v13 : Ref sig .tc := ⟨.hbm, 536, rfl⟩
abbrev main_call7_call3_v14 : Ref sig .tc := ⟨.hbm, 537, rfl⟩
abbrev main_call7_call3_c_3 : Ref sig .tc := ⟨.hbm, 538, rfl⟩
abbrev main_call7_call3_v15 : Ref sig .tc := ⟨.hbm, 539, rfl⟩
abbrev main_call7_call3_v16 : Ref sig .tc := ⟨.hbm, 540, rfl⟩
abbrev main_call7_call3_c_4 : Ref sig .tc := ⟨.hbm, 541, rfl⟩
abbrev main_call7_call3_v17 : Ref sig .tc := ⟨.hbm, 542, rfl⟩
abbrev main_call7_call3_v18 : Ref sig .tc := ⟨.hbm, 543, rfl⟩
abbrev main_call7_call3_v19 : Ref sig .tc := ⟨.hbm, 544, rfl⟩
abbrev main_call7_call3_v20 : Ref sig .tc := ⟨.hbm, 545, rfl⟩
abbrev main_call7_v28_0 : Ref sig .tc := ⟨.hbm, 546, rfl⟩
abbrev main_call7_call3_c_5 : Ref sig .tc := ⟨.hbm, 547, rfl⟩
abbrev main_call7_call3_v22 : Ref sig .tc := ⟨.hbm, 548, rfl⟩
abbrev main_call7_call3_v23 : Ref sig .tc := ⟨.hbm, 549, rfl⟩
abbrev main_call7_call3_c_6 : Ref sig .tc := ⟨.hbm, 550, rfl⟩
abbrev main_call7_call3_v24 : Ref sig .tc := ⟨.hbm, 551, rfl⟩
abbrev main_call7_call3_v25 : Ref sig .tc := ⟨.hbm, 552, rfl⟩
abbrev main_call7_call3_v26 : Ref sig .tc := ⟨.hbm, 553, rfl⟩
abbrev main_call7_v28_1 : Ref sig .tc := ⟨.hbm, 554, rfl⟩
abbrev main_call7_v29 : Ref sig .tc := ⟨.hbm, 555, rfl⟩
abbrev main_call7_v30 : Ref sig .tc := ⟨.hbm, 556, rfl⟩
abbrev main_call7_c_4 : Ref sig .tc := ⟨.hbm, 557, rfl⟩
abbrev main_call7_v31 : Ref sig .tc := ⟨.hbm, 558, rfl⟩
abbrev main_call7_v32 : Ref sig .tc := ⟨.hbm, 559, rfl⟩
abbrev main_call7_v33 : Ref sig .tc := ⟨.hbm, 560, rfl⟩
abbrev main_call7_call4_v0 : Ref sig .tc := ⟨.hbm, 561, rfl⟩
abbrev main_call7_call4_c : Ref sig .tc := ⟨.hbm, 562, rfl⟩
abbrev main_call7_call4_v1 : Ref sig .tc := ⟨.hbm, 563, rfl⟩
abbrev main_call7_call4_v2 : Ref sig .tc := ⟨.hbm, 564, rfl⟩
abbrev main_call7_call4_c_0 : Ref sig .tc := ⟨.hbm, 565, rfl⟩
abbrev main_call7_call4_v3 : Ref sig .tc := ⟨.hbm, 566, rfl⟩
abbrev main_call7_call4_v4 : Ref sig .tc := ⟨.hbm, 567, rfl⟩
abbrev main_call7_call4_v5 : Ref sig .tc := ⟨.hbm, 568, rfl⟩
abbrev main_call7_call4_v6 : Ref sig .tc := ⟨.hbm, 569, rfl⟩
abbrev main_call7_call4_v7 : Ref sig .tc := ⟨.hbm, 570, rfl⟩
abbrev main_call7_call4_c_1 : Ref sig .tc := ⟨.hbm, 571, rfl⟩
abbrev main_call7_call4_v8 : Ref sig .tc := ⟨.hbm, 572, rfl⟩
abbrev main_call7_call4_v9 : Ref sig .tc := ⟨.hbm, 573, rfl⟩
abbrev main_call7_call4_c_2 : Ref sig .tc := ⟨.hbm, 574, rfl⟩
abbrev main_call7_call4_v10 : Ref sig .tc := ⟨.hbm, 575, rfl⟩
abbrev main_call7_call4_v11 : Ref sig .tc := ⟨.hbm, 576, rfl⟩
abbrev main_call7_call4_v12 : Ref sig .tc := ⟨.hbm, 577, rfl⟩
abbrev main_call7_call4_v13 : Ref sig .tc := ⟨.hbm, 578, rfl⟩
abbrev main_call7_call4_v14 : Ref sig .tc := ⟨.hbm, 579, rfl⟩
abbrev main_call7_call4_c_3 : Ref sig .tc := ⟨.hbm, 580, rfl⟩
abbrev main_call7_call4_v15 : Ref sig .tc := ⟨.hbm, 581, rfl⟩
abbrev main_call7_call4_v16 : Ref sig .tc := ⟨.hbm, 582, rfl⟩
abbrev main_call7_call4_c_4 : Ref sig .tc := ⟨.hbm, 583, rfl⟩
abbrev main_call7_call4_v17 : Ref sig .tc := ⟨.hbm, 584, rfl⟩
abbrev main_call7_call4_v18 : Ref sig .tc := ⟨.hbm, 585, rfl⟩
abbrev main_call7_call4_v19 : Ref sig .tc := ⟨.hbm, 586, rfl⟩
abbrev main_call7_call4_v20 : Ref sig .tc := ⟨.hbm, 587, rfl⟩
abbrev main_call7_v34_0 : Ref sig .tc := ⟨.hbm, 588, rfl⟩
abbrev main_call7_call4_c_5 : Ref sig .tc := ⟨.hbm, 589, rfl⟩
abbrev main_call7_call4_v22 : Ref sig .tc := ⟨.hbm, 590, rfl⟩
abbrev main_call7_call4_v23 : Ref sig .tc := ⟨.hbm, 591, rfl⟩
abbrev main_call7_call4_c_6 : Ref sig .tc := ⟨.hbm, 592, rfl⟩
abbrev main_call7_call4_v24 : Ref sig .tc := ⟨.hbm, 593, rfl⟩
abbrev main_call7_call4_v25 : Ref sig .tc := ⟨.hbm, 594, rfl⟩
abbrev main_call7_call4_v26 : Ref sig .tc := ⟨.hbm, 595, rfl⟩
abbrev main_call7_v34_1 : Ref sig .tc := ⟨.hbm, 596, rfl⟩
abbrev main_call7_v35 : Ref sig .tc := ⟨.hbm, 597, rfl⟩
abbrev main_call7_v36 : Ref sig .tc := ⟨.hbm, 598, rfl⟩
abbrev main_call7_c_5 : Ref sig .tc := ⟨.hbm, 599, rfl⟩
abbrev main_call7_v37 : Ref sig .tc := ⟨.hbm, 600, rfl⟩
abbrev main_call7_v38 : Ref sig .tc := ⟨.hbm, 601, rfl⟩
abbrev main_call7_v39 : Ref sig .tc := ⟨.hbm, 602, rfl⟩
abbrev main_v79 : Ref sig .tc := ⟨.hbm, 603, rfl⟩
abbrev main_c_25 : Ref sig .tc := ⟨.hbm, 604, rfl⟩
abbrev main_v80 : Ref sig .tc := ⟨.hbm, 605, rfl⟩
abbrev main_v81 : Ref sig .tc := ⟨.hbm, 606, rfl⟩
abbrev main_c_26 : Ref sig .tc := ⟨.hbm, 607, rfl⟩
abbrev main_v82 : Ref sig .tc := ⟨.hbm, 608, rfl⟩
abbrev main_v83 : Ref sig .tc := ⟨.hbm, 609, rfl⟩
abbrev main_v84 : Ref sig .tc := ⟨.hbm, 610, rfl⟩
abbrev main_cst_27 : Ref sig .tc := ⟨.hbm, 611, rfl⟩
abbrev main_v85 : Ref sig .tc := ⟨.hbm, 612, rfl⟩
abbrev main_v86 : Ref sig .tc := ⟨.hbm, 613, rfl⟩
abbrev main_cst_28 : Ref sig .tc := ⟨.hbm, 614, rfl⟩
abbrev main_v87 : Ref sig .tc := ⟨.hbm, 615, rfl⟩
abbrev main_v88 : Ref sig .tc := ⟨.hbm, 616, rfl⟩
abbrev main_cst_29 : Ref sig .tc := ⟨.hbm, 617, rfl⟩
abbrev main_v89 : Ref sig .tc := ⟨.hbm, 618, rfl⟩
abbrev main_v90 : Ref sig .tc := ⟨.hbm, 619, rfl⟩
abbrev main_cst_30 : Ref sig .tc := ⟨.hbm, 620, rfl⟩
abbrev main_v91 : Ref sig .tc := ⟨.hbm, 621, rfl⟩
abbrev main_v92 : Ref sig .tc := ⟨.hbm, 622, rfl⟩
abbrev main_v93 : Ref sig .tc := ⟨.hbm, 623, rfl⟩
abbrev main_v94 : Ref sig .tc := ⟨.hbm, 624, rfl⟩
abbrev main_v95 : Ref sig .tc := ⟨.hbm, 625, rfl⟩
abbrev main_v96 : Ref sig .tc := ⟨.hbm, 626, rfl⟩
abbrev main_v97 : Ref sig .tc := ⟨.hbm, 627, rfl⟩
abbrev main_cst_31 : Ref sig .tc := ⟨.hbm, 628, rfl⟩
abbrev main_v98 : Ref sig .tc := ⟨.hbm, 629, rfl⟩
abbrev main_v99 : Ref sig .tc := ⟨.hbm, 630, rfl⟩
abbrev main_v100 : Ref sig .tc := ⟨.hbm, 631, rfl⟩
abbrev main_v101 : Ref sig .tc := ⟨.hbm, 632, rfl⟩
abbrev main_v102 : Ref sig .tc := ⟨.hbm, 633, rfl⟩
abbrev main_c_32 : Ref sig .tc := ⟨.hbm, 634, rfl⟩
abbrev main_call8_v0 : Ref sig .tc := ⟨.hbm, 635, rfl⟩
abbrev main_call8_v1 : Ref sig .tc := ⟨.hbm, 636, rfl⟩
abbrev main_call8_v2 : Ref sig .tc := ⟨.hbm, 637, rfl⟩
abbrev main_v103 : Ref sig .tc := ⟨.hbm, 638, rfl⟩
abbrev main_c_33 : Ref sig .tc := ⟨.hbm, 639, rfl⟩
abbrev main_v104 : Ref sig .tc := ⟨.hbm, 640, rfl⟩
abbrev main_v105 : Ref sig .tc := ⟨.hbm, 641, rfl⟩

abbrev nD : Nat := 1
abbrev τ : Topo := Topo.v7x

variable {F : FTy → Type} [FloatOps F]
-- ==== Proof.KI.Spec.lean ====
module

public import proofs.«01_k».proof.Proof.Gen.KernelIdeal.Loops
public import proofs.«01_k».proof.Proof.Gen.KernelIdeal.Skeleton
public import proofs.«01_k».proof.Proof.Gen.KernelIdeal.Frame
public import Idealize.ShloMosaic.Lib.Tactic
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The lane numbers of a 16 × 128 vector. -/
abbrev lane : IVec S16x128 32 := iota .tc S16x128 32 [1] iota_S16x128_d1_w32
/-- The column numbers of a 16 × 1024 vector. -/
abbrev col : IVec S16x1024 32 := iota .tc S16x1024 32 [1] iota_S16x1024_d1_w32
/-- The index that no entry has. -/
abbrev bigJ : BitVec 32 := 1073741824#32

/-- A slice of 1024 columns that ends within the block is inside it. -/
theorem slice_inb (o : ℕ) (h : o + 1024 ≤ 100000) :
    ∀ a : Fin 2, (![0, o] : Fin 2 → ℕ) a + S16x1024.size a ≤ S16x100000.size a := by
  intro a; fin_cases a
  · show 0 + 16 ≤ 16; omega
  · exact h

/-- The 1024 columns of the block from column `o` on. -/
def slice (x : Vec F S16x100000 .f32) (o : ℕ) (h : o + 1024 ≤ 100000) : Vec F S16x1024 .f32 :=
  View.ld (Val := Elt F) (e' := .f32) x (Rect.unit (s := S16x100000) ![0, o] S16x1024.size (slice_inb o h))

/-! ## The three largest entries of each column -/

/-- The three largest entries of each column met so far, with their indices. -/
structure Top (F : FTy → Type) [FloatOps F] where
  c1 : Vec F S16x1024 .f32
  j1 : IVec S16x1024 32
  c2 : Vec F S16x1024 .f32
  j2 : IVec S16x1024 32
  c3 : Vec F S16x1024 .f32
  j3 : IVec S16x1024 32

/-- One more entry of each column, put in its place. -/
def Top.merge (s : Top F) (v : Vec F S16x1024 .f32) (jv : IVec S16x1024 32) : Top F where
  c1 := select (cmpf .ogt v s.c1) v s.c1
  j1 := select (cmpf .ogt v s.c1) jv s.j1
  c2 := select (cmpf .ogt v s.c1) s.c1 (select (cmpf .ogt v s.c2) v s.c2)
  j2 := select (cmpf .ogt v s.c1) s.j1 (select (cmpf .ogt v s.c2) jv s.j2)
  c3 := select (cmpf .ogt v s.c2) s.c2 (select (cmpf .ogt v s.c3) v s.c3)
  j3 := select (cmpf .ogt v s.c2) s.j2 (select (cmpf .ogt v s.c3) jv s.j3)

/-- The state after slices 0, …, w. -/
def tops (x : Vec F S16x100000 .f32) : (w : ℕ) → w < 97 → Top F
  | 0, h => ⟨slice x 0 (by omega), col, k0_pay65, k0_pay66, k0_pay65, k0_pay66⟩
  | w + 1, h => (tops x w (by omega)).merge (slice x (1024 * (w + 1)) (by omega))
      (addi (broadcast S16x1024 (BitVec.ofNat 32 (1024 * (w + 1)))) col)

/-- The state after the whole block: the last, overlapping slice with its repeated columns masked. -/
def top3 (x : Vec F S16x100000 .f32) : Top F :=
  (tops x 96 (by omega)).merge (k0_pay967 col (slice x 98976 (by omega))) (k0_pay968 col)

/-! ## The picks from the three stacked entries -/

/-- What a pick from the stacks carries: each column's head, its index and how many entries it has given; the picked values and indices; the running probability, and the running probabilities at each pick. -/
abbrev FastAcc (F : FTy → Type) [FloatOps F] : Type :=
  FVec F S16x1024 .f32 × IVec S16x1024 32 × IVec S16x1024 32 × FVec F S16x128 .f32 × IVec S16x128 32 × FVec F S16x1 .f32 × FVec F S16x128 .f32

/-- The row maxima. -/
def rowMax (x : Vec F S16x100000 .f32) : FVec F S16x1 .f32 := k0_pay978 (top3 x).c1

/-- The whole block, as one load reads it. -/
def whole (x : Vec F S16x100000 .f32) : Vec F S16x100000 .f32 :=
  View.ld (Val := Elt F) (e' := .f32) x (Rect.unit (s := S16x100000) ![0, 0] S16x100000.size inb_S16x100000_S16x100000_0_0)

/-- The row sums of the exponentials. -/
def rowSum (x : Vec F S16x100000 .f32) : FVec F S16x1 .f32 := k0_pay979 (top3 x).c1 (whole x)

/-- What the first pick starts from: the tops of the stacks, and nothing picked. -/
def fastInit (x : Vec F S16x100000 .f32) : FastAcc F :=
  ((top3 x).c1, (top3 x).j1, k0_pay980, k0_pay981, k0_pay982, k0_pay983, k0_pay984)

/-- One pick from the stacked entries. -/
def fastStep (x : Vec F S16x100000 .f32) (k : Fin k0_t1_loop.trips) (a : FastAcc F) : FastAcc F :=
  (k0_pay993 (top3 x).c3 (top3 x).c2 a.1 a.2.1 a.2.2.1,
    k0_pay994 (top3 x).j3 (top3 x).j2 a.1 a.2.1 a.2.2.1,
    k0_pay995 a.1 a.2.1 a.2.2.1, k0_pay990 lane k a.1 a.2.2.2.1,
    k0_pay991 lane k a.1 a.2.1 a.2.2.2.2.1,
    k0_pay988 (top3 x).c1 (whole x) a.1 a.2.2.2.2.2.1,
    k0_pay992 lane (top3 x).c1 (whole x) k a.1 a.2.2.2.2.2.1 a.2.2.2.2.2.2)

/-- The 25 picks from the stacked entries. -/
def fast (x : Vec F S16x100000 .f32) : FastAcc F := Scf.fold (fastStep x) (fastInit x)

/-- Whether some column gave all three of its stacked entries. -/
def overflow (x : Vec F S16x100000 .f32) : BitVec 1 :=
  Scalar.cmpi .ne ((Scalar.extui (Scalar.cmpf .ogt (k0_pay999 (F := F) (fast x).2.2.1) (Scalar.ofBits (F := F) .f32 0x00000000#32)) : BitVec 32)) 0#32

/-! ## The picks from the whole columns -/

/-- What a trip of the slow loop carries: each column's head and its index, the picked values, the
    picked indices, the running probability and the running probabilities at each pick. -/
abbrev SlowAcc (F : FTy → Type) [FloatOps F] : Type :=
  FVec F S16x1024 .f32 × IVec S16x1024 32 × FVec F S16x128 .f32 × IVec S16x128 32 × FVec F S16x1 .f32 × FVec F S16x128 .f32

/-- Slice `k` of the block, at the offset that the inner loop computes. -/
def sliceAt (x : Vec F S16x100000 .f32) (k : Fin k0_t3_loop.trips) : Vec F S16x1024 .f32 :=
  View.ld (Val := Elt F) (e' := .f32) x (Rect.unit (s := S16x100000) (k0_off1 k) S16x1024.size (k0_off1_inb k))

/-- The best entry of each column after the pick, among the first `k` slices. -/
def next (x : Vec F S16x100000 .f32) (v : FVec F S16x1024 .f32) (j : IVec S16x1024 32) : ℕ → FVec F S16x1024 .f32 × IVec S16x1024 32
  | 0 => (k0_pay10, k0_pay11 bigJ)
  | k + 1 =>
    if h : k < k0_t3_loop.trips then
      (k0_pay15 col bigJ v j ⟨k, h⟩ (next x v j k).1 (next x v j k).2 (sliceAt x ⟨k, h⟩),
        k0_pay16 col bigJ v j ⟨k, h⟩ (next x v j k).1 (next x v j k).2 (sliceAt x ⟨k, h⟩))
    else next x v j k

/-- One more slice, put to the best entries so far. -/
theorem next_succ (x : Vec F S16x100000 .f32) (v : FVec F S16x1024 .f32) (j : IVec S16x1024 32) (k : Fin k0_t3_loop.trips) :
    next x v j (k.val + 1)
      = (k0_pay15 col bigJ v j k (next x v j k.val).1 (next x v j k.val).2 (sliceAt x k),
        k0_pay16 col bigJ v j k (next x v j k.val).1 (next x v j k.val).2 (sliceAt x k)) := by
  rw [next.eq_2]; exact dif_pos k.isLt

/-- One pick from the whole columns. -/
def slowStep (x : Vec F S16x100000 .f32) (m s : FVec F S16x1 .f32) (k : Fin k0_t2_loop.trips) (a : SlowAcc F) : SlowAcc F :=
  (k0_pay1005 a.1 (k0_pay4 bigJ a.1 a.2.1) (next x a.1 a.2.1 k0_t3_loop.trips).1 (next x a.1 a.2.1 k0_t3_loop.trips).2
      (k0_pay17 col) (k0_pay18 col bigJ a.1 a.2.1 (slice x 98976 (by omega))),
    k0_pay1006 a.2.1 (k0_pay4 bigJ a.1 a.2.1) (next x a.1 a.2.1 k0_t3_loop.trips).1 (next x a.1 a.2.1 k0_t3_loop.trips).2
      (k0_pay17 col) (k0_pay18 col bigJ a.1 a.2.1 (slice x 98976 (by omega))),
    k0_pay7 lane 0#32 1#32 k a.1 a.2.2.1, k0_pay8 lane bigJ 0#32 1#32 k a.1 a.2.1 a.2.2.2.1,
    k0_pay5 m s a.1 a.2.2.2.2.1, k0_pay9 lane m s 0#32 1#32 k a.1 a.2.2.2.2.1 a.2.2.2.2.2)

/-- The carried value before trip `k` of the slow loop. -/
def slowAt (x : Vec F S16x100000 .f32) (m s : FVec F S16x1 .f32) (init : SlowAcc F) : ℕ → SlowAcc F
  | 0 => init
  | k + 1 => if h : k < k0_t2_loop.trips then slowStep x m s ⟨k, h⟩ (slowAt x m s init k) else slowAt x m s init k

/-- One more pick of the slow loop. -/
theorem slowAt_succ (x : Vec F S16x100000 .f32) (m s : FVec F S16x1 .f32) (init : SlowAcc F) (k : Fin k0_t2_loop.trips) :
    slowAt x m s init (k.val + 1) = slowStep x m s k (slowAt x m s init k.val) := by
  rw [slowAt.eq_2]; exact dif_pos k.isLt

/-- Before its first trip the slow loop carries what it starts from. -/
theorem slowAt_zero (x : Vec F S16x100000 .f32) (m s : FVec F S16x1 .f32) (init : SlowAcc F) : slowAt x m s init 0 = init := rfl

/-- What the slow loop starts from: the columns' greatest entries, and nothing picked. -/
def slowInit (x : Vec F S16x100000 .f32) : SlowAcc F :=
  ((top3 x).c1, (top3 x).j1, k0_pay1000, k0_pay1001, k0_pay1002, k0_pay1003)

/-- The 25 picks from the whole columns. -/
def slow (x : Vec F S16x100000 .f32) : SlowAcc F := slowAt x (rowMax x) (rowSum x) (slowInit x) k0_t2_loop.trips

/-! ## The sample -/

/-- The picked values. -/
def vals (x : Vec F S16x100000 .f32) : FVec F S16x128 .f32 :=
  if overflow x = 1#1 then k0_pay1007 (slow x).2.2.1 else k0_pay996 (fast x).2.2.2.1
/-- The picked indices. -/
def idxs (x : Vec F S16x100000 .f32) : IVec S16x128 32 :=
  if overflow x = 1#1 then k0_pay1008 (slow x).2.2.2.1 else k0_pay997 (fast x).2.2.2.2.1
/-- The running probabilities. -/
def cums (x : Vec F S16x100000 .f32) : FVec F S16x128 .f32 :=
  if overflow x = 1#1 then k0_pay1009 (slow x).2.2.2.2.2 else k0_pay998 (fast x).2.2.2.2.2.2

/-- Which picks may be sampled, from the running probabilities `C`. -/
def kept (C : FVec F S16x128 .f32) : IVec S16x128 1 := k0_pay1010 lane C
/-- The kept picks' probabilities, from the picked values `A` and the running probabilities `C`. -/
def keptProb (x : Vec F S16x100000 .f32) (A C : FVec F S16x128 .f32) : FVec F S16x128 .f32 :=
  k0_pay1011 lane (rowMax x) (rowSum x) A C

/-- Three words of the generator's state. -/
abbrev W3 : Type := IVec S16x128 32 × IVec S16x128 32 × IVec S16x128 32
/-- The generator's state in the first draw after its first operations. -/
def gum39 (a : BitVec 32) : W3 := (k0_pay1013 a lane, k0_pay1014 a lane, k0_pay1015 a lane)
/-- The generator's state in the first draw, a second part of its rounds on. -/
def gum40 (a : BitVec 32) : W3 :=
  (k0_pay1026 (gum39 a).1 (gum39 a).2.1 (gum39 a).2.2, k0_pay1027 (gum39 a).1 (gum39 a).2.1 (gum39 a).2.2, k0_pay1028 (gum39 a).1 (gum39 a).2.1 (gum39 a).2.2)
/-- The generator's state in the first draw, a third part of its rounds on. -/
def gum41 (a : BitVec 32) : IVec S16x128 32 × IVec S16x128 32 :=
  (k0_pay1038 (gum40 a).1 (gum40 a).2.1 (gum40 a).2.2, k0_pay1039 (gum40 a).1 (gum40 a).2.1 (gum40 a).2.2)
/-- The generator's state in the first draw before its last operations. -/
def gum42 (a : BitVec 32) : W3 :=
  (k0_pay1049 (gum41 a).1 (gum41 a).2 1264997412#32, k0_pay1050 (gum41 a).1 (gum41 a).2 1264997412#32, k0_pay1051 (gum41 a).1 (gum41 a).2 1264997412#32)
/-- The noise of the first draw. -/
def gumTop (a : BitVec 32) : FVec F S16x128 .f32 := k0_pay1052 (gum42 a).1 (gum42 a).2.1 (gum42 a).2.2

/-- The first draw's index in each row, from the picks. -/
def topId (x : Vec F S16x100000 .f32) (A : FVec F S16x128 .f32) (J : IVec S16x128 32) (C : FVec F S16x128 .f32) (a : BitVec 32) : IVec S16x1 32 :=
  k0_pay1053 lane J (kept C) (keptProb x A C) (gumTop a)

/-- The decoded tokens, as one load reads them. -/
def wholeD (d : Vec F S16x128 .i32) : Vec F S16x128 .i32 :=
  View.ld (Val := Elt F) (e' := .i32) d (Rect.unit (s := S16x128) ![0, 0] S16x128.size inb_S16x128_S16x128_0_0)

/-- Which rows repeat themselves. -/
def need (x : Vec F S16x100000 .f32) (d : Vec F S16x128 .i32) (A : FVec F S16x128 .f32) (J : IVec S16x128 32) (C : FVec F S16x128 .f32) (a : BitVec 32) : IVec S16x1 1 :=
  k0_pay1054 lane J (kept C) (keptProb x A C) (gumTop a) (wholeD d)

/-- Whether some row does. -/
def anyNeed (x : Vec F S16x100000 .f32) (d : Vec F S16x128 .i32) (A : FVec F S16x128 .f32) (J : IVec S16x128 32) (C : FVec F S16x128 .f32) (a : BitVec 32) : BitVec 1 :=
  Scalar.cmpi .ne ((Scalar.extui (Scalar.cmpf .ogt (k0_pay1056 (F := F) lane J (kept C) (keptProb x A C) (gumTop a) (wholeD d)) (Scalar.ofBits (F := F) .f32 0x00000000#32)) : BitVec 32)) 0#32

/-- Three words of the generator's state, over the vocabulary. -/
abbrev V2 : Type := IVec S16x100000 32 × IVec S16x100000 32
/-- The generator's state in the second draw after its first four rounds. -/
def gumV3 (a : BitVec 32) : V2 := (k0_pay27 a, k0_pay28 a)
/-- The generator's state in the second draw, a second part of its rounds on. -/
def gumV4 (a : BitVec 32) : IVec S16x100000 32 × V2 :=
  (k0_pay38 (gumV3 a).1 (gumV3 a).2, k0_pay39 (gumV3 a).1 (gumV3 a).2, k0_pay40 (gumV3 a).1 (gumV3 a).2)
/-- The generator's state in the second draw, a third part of its rounds on. -/
def gumV5 (a : BitVec 32) : V2 :=
  (k0_pay52 (gumV4 a).1 (gumV4 a).2.1 (gumV4 a).2.2 k0_pay41, k0_pay53 (gumV4 a).1 (gumV4 a).2.1 (gumV4 a).2.2 k0_pay41)
/-- The generator's state in the second draw at its end. -/
def gumV (a : BitVec 32) : V2 :=
  (k0_pay63 (gumV5 a).1 (gumV5 a).2 k0_pay54, k0_pay64 (gumV5 a).1 (gumV5 a).2 k0_pay54)

/-- The second draw where a row repeats itself, the first elsewhere. -/
def redrawn (x : Vec F S16x100000 .f32) (d : Vec F S16x128 .i32) (A : FVec F S16x128 .f32) (J : IVec S16x128 32) (C : FVec F S16x128 .f32) (a : BitVec 32) : IVec S16x128 32 :=
  k0_pay1 (rowMax x) (whole x) (rowSum x) (topId x A J C a) (need x d A J C a)
    (iota .tc S16x100000 32 [1] iota_S16x100000_d1_w32) (gumV a).1 (gumV a).2
/-- The first draw. -/
def firstDraw (x : Vec F S16x100000 .f32) (A : FVec F S16x128 .f32) (J : IVec S16x128 32) (C : FVec F S16x128 .f32) (a : BitVec 32) : IVec S16x128 32 :=
  k0_pay1055 lane J (kept C) (keptProb x A C) (gumTop a)

/-- What the body writes from the picks. -/
def outOf (x : Vec F S16x100000 .f32) (d : Vec F S16x128 .i32) (A : FVec F S16x128 .f32) (J : IVec S16x128 32) (C : FVec F S16x128 .f32) (a : BitVec 32) : IVec S16x128 32 :=
  if anyNeed x d A J C a = 1#1 then redrawn x d A J C a else firstDraw x A J C a

/-- What the body writes: in each row the first draw, or where it repeats itself the second. -/
def bodyOut (x : Vec F S16x100000 .f32) (d : Vec F S16x128 .i32) (a : BitVec 32) : IVec S16x128 32 :=
  outOf x d (vals x) (idxs x) (cums x) a

end Cert.KernelIdeal.Hand
-- ==== Proof.KI.Slow.lean ====
module

public import proofs.«01_k».proof.Proof.Gen.KernelIdeal.Loops
public import proofs.«01_k».proof.Proof.Gen.KernelIdeal.Skeleton
public import proofs.«01_k».proof.Proof.Gen.KernelIdeal.Frame
public import proofs.«01_k».proof.Proof.KI.Spec
public import Idealize.ShloMosaic.Lib.Tactic
public import Idealize.ShloMosaic.Lib.Tactic.Stretches
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S16x100000 .f32) (harg1 : arg1.IsWhole)
  (arg2 : Memref sig .tc .vmem S16x128 .i32) (harg2 : arg2.IsWhole)
  (arg3 : Memref sig .tc .vmem S16x128 .i32) (harg3 : arg3.IsWhole)
  (arg4 : Memref sig .tc .vmem S16x128 .f32) (harg4 : arg4.IsWhole)
  (arg5 : Memref sig .tc .vmem S16x128 .i32) (harg5 : arg5.IsWhole)
  (arg6 : Memref sig .tc .vmem S16x128 .f32) (harg6 : arg6.IsWhole)
  (arg0 : BitVec 32)
  (v1559 : FVec F S16x1024 .f32) (v1560 : IVec S16x1024 32) (v1562 v1568 : FVec F S16x1 .f32)
  (v1593 cst_119 : F .f32)
  (X : BufTy.Contents (Elt F) arg1.view.ty)

/-- What the inner loop carries before trip `k` is the fold of the first `k` slices. -/
theorem st_k0_t3_eq (k0_t2 : Fin k0_t2_loop.trips) (arg8 : FVec F S16x1024 .f32) (arg9 : IVec S16x1024 32) (arg10 : FVec F S16x128 .f32)
    (arg11 : IVec S16x128 32) (arg12 : FVec F S16x1 .f32) (arg13 : FVec F S16x128 .f32) (k : ℕ) (hk : k ≤ k0_t3_loop.trips) :
    st_k0_t3 (F := F) Variants.none c none i arg1 harg1 arg2 harg2 arg3 harg3 arg4 harg4 arg5 harg5 arg6 harg6 lane col v1562 v1568 bigJ 0#32 1#32 k0_t2 arg8 arg9 arg10 arg11 arg12 arg13 X (k0_pay10, k0_pay11 bigJ) k = next (arg1.view.read (Elt F) X) arg8 arg9 k := by
  induction k with
  | zero => rfl
  | succ k ih =>
    rw [st_k0_t3_succ (k := ⟨k, hk⟩), next_succ (k := ⟨k, hk⟩)]
    rw [ih (by omega)]
    unfold tripR_k0_t3 trip_k0_t3
    rfl

/-- One trip of the slow loop, run: it yields the step of the specification. -/
theorem trip_k0_t2 (k : Fin k0_t2_loop.trips) (E : Set ℕ) (acc : SlowAcc F) :
    Trip_k0_t3 (F := F) c arg1 X
      ⊢ wp frame (wpE (defs₀ (F := F)) Variants.none (c : Thread nD τ) none) E
          (k0_t2_body (F := F) i arg1 harg1 arg2 harg2 arg3 harg3 arg4 harg4 arg5 harg5 arg6 harg6 arg0 lane col v1559 v1560 v1562 v1568 v1593 cst_119 k acc)
          (fun yld => iprop(⌜yld = slowStep (arg1.view.read (Elt F) X) v1562 v1568 k acc⌝ ∗ Trip_k0_t3 (F := F) c arg1 X)) := by
  unfold k0_t2_body
  iintro HR_arg1
  sl_exec
  sl_step
  isplitr [HR_arg1]
  · ipureintro
    sl_open_run
    rw [st_k0_t3_eq _ _ _ _ _ _ _ _ _ _ _ _ _ _ _ _ _ _ _ _ _ _ _ _ _ (le_refl _)]
    rfl
  · iexact HR_arg1

/-- The slow loop's invariant before trip `k`: the block's buffer at its contents, and the carried value
    the recursion's. -/
abbrev inv_k0_t2 (init : SlowAcc F) (k : ℕ) (acc : SlowAcc F) : sProp 𝕄 :=
  iprop((arg1.view.loc (c : Thread nD τ) ↦[arg1.view.set]{fullShare} X)
    ∗ ⌜acc = slowAt (arg1.view.read (Elt F) X) v1562 v1568 init k⌝)

set_option warn.classDefReducibility false in
/-- The slow loop by its invariant. -/
@[sl_loop] def loopInv_k0_t2 (E : Set ℕ) (init : SlowAcc F) :
    LoopInvTy_k0_t2 (F := F) Unit ℕ (UR sig nD τ) ℕ Variants.none c none E i arg1 harg1 arg2 harg2 arg3 harg3 arg4 harg4 arg5 harg5 arg6 harg6 arg0 lane col v1559 v1560 v1562 v1568 v1593 cst_119 init where
  inv := inv_k0_t2 (F := F) c arg1 v1562 v1568 X init
  step k acc := by
    iintro ⟨HR_arg1, %h_acc⟩
    subst h_acc
    iapply (wp_wand_r Idealize.ShloMosaic.frame (wpE (defs₀ (F := F)) Variants.none (c : Thread nD τ) none) E)
    isplitl [HR_arg1]
    · iapply (trip_k0_t2 (F := F) c i arg1 harg1 arg2 harg2 arg3 harg3 arg4 harg4 arg5 harg5 arg6 harg6 arg0 v1559 v1560 v1562 v1568 v1593 cst_119 X k E (slowAt (arg1.view.read (Elt F) X) v1562 v1568 init k))
      iexact HR_arg1
    · iintro %yld ⟨%h_res, HR_arg1⟩
      isplitl [HR_arg1]; · iexact HR_arg1
      simp only [slowAt_succ]
      ipureintro; exact h_res

end Cert.KernelIdeal.Hand
-- ==== Proof.KI.Run.lean ====
module

public import proofs.«01_k».proof.Proof.KI.Slow
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option sl_exec.resultNames true in
/-- The body run once: from its six buffers it leaves the two inputs as they were, the output at `bodyOut` of
    the inputs, and the scratch buffers at something. -/
theorem kernelRun (c : Dev nD) (i : grid0.Coords)
  (arg1 : Memref sig .tc .vmem S16x100000 .f32) (harg1 : arg1.IsWhole)
  (arg2 : Memref sig .tc .vmem S16x128 .i32) (harg2 : arg2.IsWhole)
  (arg3 : Memref sig .tc .vmem S16x128 .i32) (harg3 : arg3.IsWhole)
  (arg4 : Memref sig .tc .vmem S16x128 .f32) (harg4 : arg4.IsWhole)
  (arg5 : Memref sig .tc .vmem S16x128 .i32) (harg5 : arg5.IsWhole)
  (arg6 : Memref sig .tc .vmem S16x128 .f32) (harg6 : arg6.IsWhole)
  (X : BufTy.Contents (Elt F) arg1.view.ty) (D : BufTy.Contents (Elt F) arg2.view.ty)
  (Y : BufTy.Contents (Elt F) arg3.view.ty)
  (S4 : BufTy.Contents (Elt F) arg4.view.ty) (S5 : BufTy.Contents (Elt F) arg5.view.ty) (S6 : BufTy.Contents (Elt F) arg6.view.ty)
  (K : PUnit → sProp 𝕄) :
    iprop((arg1.view.loc (c : Thread nD τ) ↦[arg1.view.set]{fullShare} X)
      ∗ (arg2.view.loc (c : Thread nD τ) ↦[arg2.view.set]{fullShare} D)
      ∗ (arg3.view.loc (c : Thread nD τ) ↦[arg3.view.set]{fullShare} Y)
      ∗ (arg4.view.loc (c : Thread nD τ) ↦[arg4.view.set]{fullShare} S4)
      ∗ (arg5.view.loc (c : Thread nD τ) ↦[arg5.view.set]{fullShare} S5)
      ∗ (arg6.view.loc (c : Thread nD τ) ↦[arg6.view.set]{fullShare} S6)
      ∗ (iprop((arg1.view.loc (c : Thread nD τ) ↦[arg1.view.set]{fullShare} X)
          ∗ (arg2.view.loc (c : Thread nD τ) ↦[arg2.view.set]{fullShare} D)
          ∗ owns (c : Thread nD τ) arg3 fullShare
              (bodyOut (arg1.view.read (Elt F) X) (arg2.view.read (Elt F) D) (BitVec.ofNat 32 (i 0).val))
          ∗ (∃ d, owns (c : Thread nD τ) arg4 fullShare d) ∗ (∃ d, owns (c : Thread nD τ) arg5 fullShare d)
          ∗ (∃ d, owns (c : Thread nD τ) arg6 fullShare d)) -∗ K ⟨⟩))
      ⊢ wp frame (wpE (defs₀ (F := F)) Variants.none (c : Thread nD τ) none) Set.univ
          (cc0__body i arg1 harg1 arg2 harg2 arg3 harg3 arg4 harg4 arg5 harg5 arg6 harg6) K := by
  simp only [cc0__body_eq_skeleton]; unfold cc0__body_skel
  unfold owns
  iintro ⟨H1, H2, H3, H4, H5, H6, HK⟩
  sl_exec_parts!
  split
  · sl_exec_parts!
    split
    · rename_i h1 h2
      sl_exec_parts!
      sl_step
      iapply HK
      isplitl [H1]; · iexact H1
      isplitl [H2]; · iexact H2
      isplitl [H3]
      · iexists _; isplitr; swap; · iexact H3
        ipureintro
        have hov : kernelRun.sl.v1596 arg1 X = overflow (arg1.view.read (Elt F) X) := by sl_kernel_rfl
        have hA : kernelRun.sl.v1597 arg1 arg4 X = vals (arg1.view.read (Elt F) X) := by
          unfold kernelRun.sl.v1597 kernelRun.sl.H4_2 vals
          rw [View.readCov_full, if_pos (hov.symm.trans h1)]; sl_kernel_rfl
        have hJ : kernelRun.sl.v1598 arg1 arg5 X = idxs (arg1.view.read (Elt F) X) := by
          unfold kernelRun.sl.v1598 kernelRun.sl.H5_2 idxs
          rw [View.readCov_full, if_pos (hov.symm.trans h1)]; sl_kernel_rfl
        have hC : kernelRun.sl.v1599 arg1 arg6 X = cums (arg1.view.read (Elt F) X) := by
          unfold kernelRun.sl.v1599 kernelRun.sl.H6_2 cums
          rw [View.readCov_full, if_pos (hov.symm.trans h1)]; sl_kernel_rfl
        have hN : kernelRun.sl.v1858 i arg1 arg2 arg4 arg5 arg6 X D = anyNeed (arg1.view.read (Elt F) X) (arg2.view.read (Elt F) D) (vals (arg1.view.read (Elt F) X)) (idxs (arg1.view.read (Elt F) X)) (cums (arg1.view.read (Elt F) X)) (BitVec.ofNat 32 (i 0).val) := by
          rw [← hA, ← hJ, ← hC]; sl_kernel_rfl
        unfold bodyOut outOf
        rw [if_pos (hN.symm.trans h2), ← hA, ← hJ, ← hC]
        rw [View.read_writes_full]
        sl_kernel_rfl
      isplitl [H4]
      · iexists _, _; isplitr; swap; · iexact H4
        ipureintro; rfl
      isplitl [H5]
      · iexists _, _; isplitr; swap; · iexact H5
        ipureintro; rfl
      iexists _, _; isplitr; swap; · iexact H6
      ipureintro; rfl
    · rename_i h1 h2
      sl_exec_parts!
      sl_step
      iapply HK
      isplitl [H1]; · iexact H1
      isplitl [H2]; · iexact H2
      isplitl [H3]
      · iexists _; isplitr; swap; · iexact H3
        ipureintro
        have hov : kernelRun.sl.v1596 arg1 X = overflow (arg1.view.read (Elt F) X) := by sl_kernel_rfl
        have hA : kernelRun.sl.v1597 arg1 arg4 X = vals (arg1.view.read (Elt F) X) := by
          unfold kernelRun.sl.v1597 kernelRun.sl.H4_2 vals
          rw [View.readCov_full, if_pos (hov.symm.trans h1)]; sl_kernel_rfl
        have hJ : kernelRun.sl.v1598 arg1 arg5 X = idxs (arg1.view.read (Elt F) X) := by
          unfold kernelRun.sl.v1598 kernelRun.sl.H5_2 idxs
          rw [View.readCov_full, if_pos (hov.symm.trans h1)]; sl_kernel_rfl
        have hC : kernelRun.sl.v1599 arg1 arg6 X = cums (arg1.view.read (Elt F) X) := by
          unfold kernelRun.sl.v1599 kernelRun.sl.H6_2 cums
          rw [View.readCov_full, if_pos (hov.symm.trans h1)]; sl_kernel_rfl
        have hN : kernelRun.sl.v1858 i arg1 arg2 arg4 arg5 arg6 X D = anyNeed (arg1.view.read (Elt F) X) (arg2.view.read (Elt F) D) (vals (arg1.view.read (Elt F) X)) (idxs (arg1.view.read (Elt F) X)) (cums (arg1.view.read (Elt F) X)) (BitVec.ofNat 32 (i 0).val) := by
          rw [← hA, ← hJ, ← hC]; sl_kernel_rfl
        unfold bodyOut outOf
        rw [if_neg (hN ▸ h2), ← hA, ← hJ, ← hC]
        unfold kernelRun.sl.H3_1
        rw [View.read_writes_full]
        sl_kernel_rfl
      isplitl [H4]
      · iexists _, _; isplitr; swap; · iexact H4
        ipureintro; rfl
      isplitl [H5]
      · iexists _, _; isplitr; swap; · iexact H5
        ipureintro; rfl
      iexists _, _; isplitr; swap; · iexact H6
      ipureintro; rfl
  · sl_exec_parts!
    split
    · rename_i h1 h2
      sl_exec_parts!
      sl_step
      iapply HK
      isplitl [H1]; · iexact H1
      isplitl [H2]; · iexact H2
      isplitl [H3]
      · iexists _; isplitr; swap; · iexact H3
        ipureintro
        have hov : kernelRun.sl.v1596 arg1 X = overflow (arg1.view.read (Elt F) X) := by sl_kernel_rfl
        have hA : kernelRun.sl.v1597_1 arg1 arg4 X = vals (arg1.view.read (Elt F) X) := by
          unfold kernelRun.sl.v1597_1 kernelRun.sl.H4_1 vals
          rw [View.readCov_full, if_neg (hov ▸ h1)]; sl_kernel_rfl
        have hJ : kernelRun.sl.v1598_1 arg1 arg5 X = idxs (arg1.view.read (Elt F) X) := by
          unfold kernelRun.sl.v1598_1 kernelRun.sl.H5_1 idxs
          rw [View.readCov_full, if_neg (hov ▸ h1)]; sl_kernel_rfl
        have hC : kernelRun.sl.v1599_1 arg1 arg6 X = cums (arg1.view.read (Elt F) X) := by
          unfold kernelRun.sl.v1599_1 kernelRun.sl.H6_1 cums
          rw [View.readCov_full, if_neg (hov ▸ h1)]; sl_kernel_rfl
        have hN : kernelRun.sl.v1858_1 i arg1 arg2 arg4 arg5 arg6 X D = anyNeed (arg1.view.read (Elt F) X) (arg2.view.read (Elt F) D) (vals (arg1.view.read (Elt F) X)) (idxs (arg1.view.read (Elt F) X)) (cums (arg1.view.read (Elt F) X)) (BitVec.ofNat 32 (i 0).val) := by
          rw [← hA, ← hJ, ← hC]; sl_kernel_rfl
        unfold bodyOut outOf
        rw [if_pos (hN.symm.trans h2), ← hA, ← hJ, ← hC]
        rw [View.read_writes_full]
        sl_kernel_rfl
      isplitl [H4]
      · iexists _, _; isplitr; swap; · iexact H4
        ipureintro; rfl
      isplitl [H5]
      · iexists _, _; isplitr; swap; · iexact H5
        ipureintro; rfl
      iexists _, _; isplitr; swap; · iexact H6
      ipureintro; rfl
    · rename_i h1 h2
      sl_exec_parts!
      sl_step
      iapply HK
      isplitl [H1]; · iexact H1
      isplitl [H2]; · iexact H2
      isplitl [H3]
      · iexists _; isplitr; swap; · iexact H3
        ipureintro
        have hov : kernelRun.sl.v1596 arg1 X = overflow (arg1.view.read (Elt F) X) := by sl_kernel_rfl
        have hA : kernelRun.sl.v1597_1 arg1 arg4 X = vals (arg1.view.read (Elt F) X) := by
          unfold kernelRun.sl.v1597_1 kernelRun.sl.H4_1 vals
          rw [View.readCov_full, if_neg (hov ▸ h1)]; sl_kernel_rfl
        have hJ : kernelRun.sl.v1598_1 arg1 arg5 X = idxs (arg1.view.read (Elt F) X) := by
          unfold kernelRun.sl.v1598_1 kernelRun.sl.H5_1 idxs
          rw [View.readCov_full, if_neg (hov ▸ h1)]; sl_kernel_rfl
        have hC : kernelRun.sl.v1599_1 arg1 arg6 X = cums (arg1.view.read (Elt F) X) := by
          unfold kernelRun.sl.v1599_1 kernelRun.sl.H6_1 cums
          rw [View.readCov_full, if_neg (hov ▸ h1)]; sl_kernel_rfl
        have hN : kernelRun.sl.v1858_1 i arg1 arg2 arg4 arg5 arg6 X D = anyNeed (arg1.view.read (Elt F) X) (arg2.view.read (Elt F) D) (vals (arg1.view.read (Elt F) X)) (idxs (arg1.view.read (Elt F) X)) (cums (arg1.view.read (Elt F) X)) (BitVec.ofNat 32 (i 0).val) := by
          rw [← hA, ← hJ, ← hC]; sl_kernel_rfl
        unfold bodyOut outOf
        rw [if_neg (hN ▸ h2), ← hA, ← hJ, ← hC]
        unfold kernelRun.sl.H3_1_1
        rw [View.read_writes_full]
        sl_kernel_rfl
      isplitl [H4]
      · iexists _, _; isplitr; swap; · iexact H4
        ipureintro; rfl
      isplitl [H5]
      · iexists _, _; isplitr; swap; · iexact H5
        ipureintro; rfl
      iexists _, _; isplitr; swap; · iexact H6
      ipureintro; rfl

end Cert.KernelIdeal.Hand
-- ==== Proof.KI.Frame.lean ====
module

public import proofs.«01_k».proof.Proof.KI.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers the body is handed at point `t`. -/
abbrev ms0 (t : Fin cfg0.N) : Memref sig .tc .vmem S16x100000 .f32 := win0_0.stage (cfg0.slots t 0)
/-- The logits' staging buffer is a whole buffer. -/
abbrev hs0 (t : Fin cfg0.N) : (ms0 t).IsWhole := hstage0_0 _
/-- The recent tokens' staging buffer at point `t`. -/
abbrev ms1 (t : Fin cfg0.N) : Memref sig .tc .vmem S16x128 .i32 := win0_1.stage (cfg0.slots t 1)
/-- It is a whole buffer. -/
abbrev hs1 (t : Fin cfg0.N) : (ms1 t).IsWhole := hstage0_1 _
/-- The output's staging buffer at point `t`. -/
abbrev ms2 (t : Fin cfg0.N) : Memref sig .tc .vmem S16x128 .i32 := win0_2.stage (cfg0.slots t 2)
/-- It is a whole buffer. -/
abbrev hs2 (t : Fin cfg0.N) : (ms2 t).IsWhole := hstage0_2 _
/-- The three scratch buffers. -/
abbrev sc4 : Memref sig .tc .vmem S16x128 .f32 := Memref.whole cc0_scratch0
/-- The scratch buffer of the picked indices. -/
abbrev sc5 : Memref sig .tc .vmem S16x128 .i32 := Memref.whole cc0_scratch1
/-- The scratch buffer of the running probabilities. -/
abbrev sc6 : Memref sig .tc .vmem S16x128 .f32 := Memref.whole cc0_scratch2

/-- What the output window holds after the body at point `t`: `bodyOut` of the two input blocks. -/
def outBlk (c : Dev nD) (t : Fin cfg0.N) : IVec S16x128 32 :=
  bodyOut (iblk m c 0 t) (iblk m c 1 t) (BitVec.ofNat 32 ((cfg0.grid.coords t) 0).val)

/-- The proof data on core `c`: each window's array as the region finds it; the input blocks left in place, the
    output block `outBlk`; the scratch buffers at something; full shares; nothing owed. -/
def dats (_ : Fin 1) (c : Dev nD) : Dat τ (Elt F) Unit ℕ (UR sig nD τ) ℕ cfg0 c where
  A w := V m c (Pipeline.arrRef spec0 w)
  after := fun w => match w with
    | 0 => fun t => iblk m c 0 t
    | 1 => fun t => iblk m c 1 t
    | 2 => fun t => outBlk m c t
  Φ _ := Pipeline.ΦA spec0 c
  q _ := fullShare
  owed _ := 0

/-- The arrays of the proof data are the arrays as the region finds them. -/
theorem A_eq (c : Dev nD) (w : Fin cfg0.W) : (dats m 0 c).A w = V m c (Pipeline.arrRef spec0 w) := by dsimp only [dats]

/-- The scratch buffers at something and the generator register, conjunct by conjunct. -/
theorem PhiA0_eq (c : Dev nD) :
    (Pipeline.ΦA spec0 c : sProp 𝕄)
      = iprop(iprop((∃ d, owns (c : Thread nD τ) sc4 fullShare d) ∗ (∃ d, owns (c : Thread nD τ) sc5 fullShare d)
          ∗ (∃ d, owns (c : Thread nD τ) sc6 fullShare d)) ∗ (∃ r, prngReg c r)) := by
  unfold Pipeline.ΦA
  rw [scopedRest0_eq]; simp only [sc4, sc5, sc6, owns_whole]; try rfl

/-- What the body is called with at point `t`: the scratch, what the core owes, the two input blocks and the output
    buffer at something. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
/-- What it returns: the same, with the output block computed. -/
def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (outBlk m c t))

/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (fun _ => rfl), before0_1_of m (dats m 0 c) (A_eq m c 1) (fun _ => rfl)]
  iintro ⟨⟨⟨H4, H5, H6⟩, Hg⟩, HO, ⟨%d1, H1⟩, ⟨%d2, H2⟩, ⟨%d3, H3⟩⟩
  unfold owns
  icases H1 with ⟨%f1, %e1, H1⟩
  icases H2 with ⟨%f2, %e2, H2⟩
  icases H3 with ⟨%f3, -, H3⟩
  icases H4 with ⟨%d4, %f4, -, H4⟩
  icases H5 with ⟨%d5, %f5, -, H5⟩
  icases H6 with ⟨%d6, %f6, -, H6⟩
  iapply (kernelRun c (grid0.coords t) (ms0 t) (hs0 t) (ms1 t) (hs1 t) (ms2 t) (hs2 t) sc4 (Memref.isWhole_whole _)
    sc5 (Memref.isWhole_whole _) sc6 (Memref.isWhole_whole _) f1 f2 f3 f4 f5 f6 _)
  isplitl [H1]; · iexact H1
  isplitl [H2]; · iexact H2
  isplitl [H3]; · iexact H3
  isplitl [H4]; · iexact H4
  isplitl [H5]; · iexact H5
  isplitl [H6]; · iexact H6
  rw [show (ms0 t).view.read (Elt F) f1 = iblk m c 0 t from e1, show (ms1 t).view.read (Elt F) f2 = iblk m c 1 t from e2]
  iintro ⟨H1, H2, H3, H4, H5, H6⟩
  isplitl [H4 H5 H6 Hg]
  · isplitr [Hg]
    · isplitl [H4]; · iexact H4
      isplitl [H5]; · iexact H5
      iexact H6
    · iexact Hg
  isplitl [HO]; · iexact HO
  isplitl [H1]
  · iexists f1; isplitr; · ipureintro; exact e1
    iexact H1
  isplitl [H2]
  · iexists f2; isplitr; · ipureintro; exact e2
    iexact H2
  unfold owns outBlk
  iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every fair execution of the program terminates, with the arrays at what the proof data say, every other buffer at
    what the host lines after the region leave, and every semaphore at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _)

end Cert.KernelIdeal.Hand
-- ==== Proof.Frames.lean ====
module

public import proofs.«01_k».proof.Defs
public import proofs.«01_k».proof.Proof.Gen.Kernel
public import proofs.«01_k».proof.Proof.Gen.KernelIdeal
public import proofs.«01_k».proof.Proof.K.Frame
public import proofs.«01_k».proof.Proof.KI.Frame
public import proofs.«01_k».proof.Proof.Gen.ReferenceIdeal.Run
public import Idealize.ShloMosaic.Lib.Pipeline.Quiescent

@[expose] public section

noncomputable section

namespace Cert.Proof

open Idealize.ShloMosaic Idealize.SL.Sem

/-- The kernel runs to its end at float words, its arguments unchanged and every semaphore at zero. -/
theorem frame_k : Cert.quiescent_Kernel (hKernel := Cert.Kernel.Gen.facts) := fun m ρ _ =>
  θ_run_with_sems (Cert.Kernel.Gen.frame_of m ρ (Cert.Kernel.Hand.dats m) (fun _ _ => rfl)) (Cert.Kernel.Hand.run_main m ρ)

/-- The same over the extended reals. -/
theorem frame_ki : Cert.quiescent_KernelIdeal (hKernelIdeal := Cert.KernelIdeal.Gen.facts) := fun m ρ _ =>
  θ_run_with_sems (Cert.KernelIdeal.Gen.frame_of m ρ (Cert.KernelIdeal.Hand.dats m) (fun _ _ => rfl)) (Cert.KernelIdeal.Hand.run_main m ρ)

/-- The reference runs to its end over the extended reals, its arguments unchanged. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof
-- ==== Proof.KI.Array.lean ====
module

public import proofs.«01_k».proof.Proof.KI.Frame
public import Idealize.ShloMosaic.Lib.Pipeline.ValueKit
public import Idealize.ShloMosaic.Lib.KernelVsHost

@[expose] public section

set_option maxRecDepth 16384

/-! What the whole run leaves in the result, in terms of the body's block: row `R` is the body's first column at row `R % 16` of block `R / 16`, the blocks being sixteen rows of the logits and of the padded recent tokens. -/

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The block positions of the three windows at each grid point: block row `t`, the only block column. -/
theorem index_eq : ∀ t : Fin cfg0.N, win0_0.index t = ![t.val, 0] ∧ win0_1.index t = ![t.val, 0] ∧ win0_2.index t = ![t.val, 0]
    ∧ ((cfg0.grid.coords t) 0).val = t.val :=
  (by decide +kernel : ∀ t : Fin grid0.N, _)

/-- The logits the program is launched on. -/
def logits (c : Dev nD) : FVec F S64x100000 .f32 := m ((c.tc : Thread nD τ).loc main_arg0)
/-- The decoded tokens the program is launched on. -/
def tokens (c : Dev nD) : IVec S64x200 32 := m ((c.tc : Thread nD τ).loc main_arg1)

/-- The padded tokens: the last ten of each row, then minus one. -/
theorem padded_eq (c : Dev nD) : V m c main_call0_v1
    = pad S64x128 ![0, 0] ![0, 118] ![0, 0] (extractStridedSlice S64x10 ![0, 190] (tokens m c) slices_S64x200_S64x10_0_190)
        (constantI S_ 32 4294967295#32) pads_S64x10_S64x128_000_01180 h_S_ := by
  show StableHlo.after (List.flatten [hostOps0]) (fun b => m (c, b)) (Proc.devRef .tc main_call0_v1) = _
  simp only [hostOps0, List.flatten_cons, List.flatten_nil, List.append_nil]
  after_results; try rfl

/-- A padded row's first ten words are the row's last ten tokens. -/
theorem pad_left (x : IVec S64x200 32) (R : Fin 64) (k : Fin 10) :
    pad S64x128 ![0, 0] ![0, 118] ![0, 0] (extractStridedSlice S64x10 ![0, 190] x slices_S64x200_S64x10_0_190)
        (constantI S_ 32 4294967295#32) pads_S64x10_S64x128_000_01180 h_S_ (ix2 R (⟨k.val, by omega⟩ : Fin 128))
      = x (ix2 R (⟨190 + k.val, by omega⟩ : Fin 200)) := by
  rw [pad_apply_of_inside (k := ix2 R k)]
  · pointwise
  · intro a; fin_cases a <;> simp

/-- A padded row's other words are minus one. -/
theorem pad_right (x : IVec S64x200 32) (R : Fin 64) (l : Fin 128) (h : 10 ≤ l.val) :
    pad S64x128 ![0, 0] ![0, 118] ![0, 0] (extractStridedSlice S64x10 ![0, 190] x slices_S64x200_S64x10_0_190)
        (constantI S_ 32 4294967295#32) pads_S64x10_S64x128_000_01180 h_S_ (ix2 R l) = 4294967295#32 := by
  rw [pad_apply_of_not_inside (a := (1 : Fin 2))]
  · rfl
  · simp; omega

/-- Row `r` of block `t` of the logits. -/
theorem block0_apply (c : Dev nD) (t : Fin cfg0.N) (r : Fin 16) (i : Fin 100000) (R : Fin 64) (hR : R.val = 16 * t.val + r.val) :
    (show FVec F S16x100000 .f32 from iblk m c 0 t) (ix2 r i) = logits m c (ix2 R i) := by
  obtain ⟨e, -⟩ := index_eq t
  have hV : V m c main_arg0 = logits m c := V_main_arg0 m c
  blk_simp [iblk]
  rw [hV]
  congr 1
  funext a
  fin_cases a <;> apply Fin.ext <;> blk_simp [e] <;> simp [hR] <;> omega

/-- Row `r` of block `t` of the padded tokens. -/
theorem block1_apply (c : Dev nD) (t : Fin cfg0.N) (r : Fin 16) (l : Fin 128) (R : Fin 64) (hR : R.val = 16 * t.val + r.val) :
    (show IVec S16x128 32 from iblk m c 1 t) (ix2 r l) = (show IVec S64x128 32 from V m c main_call0_v1) (ix2 R l) := by
  obtain ⟨-, e, -⟩ := index_eq t
  blk_simp [iblk]
  congr 1
  funext a
  fin_cases a <;> apply Fin.ext <;> blk_simp [e] <;> simp [hR] <;> omega

/-- The grid point whose block holds row `R`. -/
def pointOf (R : Fin 64) : Fin cfg0.N := ⟨R.val / 16, by rw [show cfg0.N = 4 by decide]; omega⟩
/-- Row `R`'s place in its block. -/
def placeOf (R : Fin 64) : Fin 16 := ⟨R.val % 16, by omega⟩

/-- The output array after the run. -/
def outArr (c : Dev nD) : IVec S64x128 32 := fun j => outBlk m c (pointOf (j 0)) (ix2 (placeOf (j 0)) (j 1))

/-- The output array after the run is `outArr`: the blocks cover it, and each is what the body left. -/
theorem array_eq (c : Dev nD) : (dats m 0 c).arrAt 2 (cfgs 0).N = outArr m c := by
  refine (dats m 0 c).arrAt_eq_of_covers 2 _ (by decide +kernel) fun t hf y => ?_
  blk_simp
  obtain ⟨-, -, e, -⟩ := index_eq t
  show outBlk m c t y = outBlk m c _ _
  have h0 : (y 0).val < 16 := (y 0).isLt
  have ht : pointOf ((win0_2.blk t).view.emb y 0) = t := by
    apply Fin.ext
    show ((win0_2.blk t).view.emb y 0).val / 16 = t.val
    blk_simp [e]
    omega
  rw [ht]
  congr 1
  funext a
  fin_cases a <;> apply Fin.ext
  · show (y 0).val = ((win0_2.blk t).view.emb y 0).val % 16
    blk_simp [e]
    omega
  · show (y 1).val = ((win0_2.blk t).view.emb y 1).val
    blk_simp [e]

/-- The result the host reads off the output array: its first column. -/
theorem host_tail_eq (c : Dev nD) : Pipeline.afterTail₀ cfgs (dats m) 0 (V0 m) [hostOps1] c main_v0
    = shapeCast S64 (extractStridedSlice S64x1 ![0, 0] (outArr m c) slices_S64x128_S64x1_0_0) shapeCasts_S64x1_S64 := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.devRef .tc main_call0_v2) = outArr m c :=
    (Pipeline.withArrays_arr spec0 launch0.win.arr_inj c _ _ 2).trans (array_eq m c)
  rw [← h]
  rfl

/-- The host's slice and reshape read the first column. -/
theorem first_column (x : IVec S64x128 32) (R : Fin 64) :
    shapeCast S64 (extractStridedSlice S64x1 ![0, 0] x slices_S64x128_S64x1_0_0) shapeCasts_S64x1_S64 (ix1 R) = x (ix2 R 0) := by
  pointwise

end Cert.KernelIdeal.Hand

end
-- ==== Proof.Math.Rank.lean ====
module

public import Mathlib.Data.EReal.Basic
public import Mathlib.Data.Fintype.Card
public import Mathlib.Data.Fintype.EquivFin
public import Mathlib.Data.Finset.Card
public import Mathlib.Order.Fin.Basic

@[expose] public section

/-! Ranks of the entries of a row: the largest first, the earlier of two equal ones first. -/

namespace Cert.Rank

open Finset Classical

variable {n : ℕ}

/-- Entry `i` comes before entry `j`: it is larger, or equal and earlier. -/
def Before (x : Fin n → EReal) (i j : Fin n) : Prop := x j < x i ∨ (x i = x j ∧ i < j)

/-- No entry is before itself. -/
theorem Before.irrefl {x : Fin n → EReal} {i : Fin n} : ¬ Before x i i := by
  rintro (h | ⟨-, h⟩) <;> exact lt_irrefl _ h

/-- The order is transitive. -/
theorem Before.trans {x : Fin n → EReal} {i j k : Fin n} (h : Before x i j) (h' : Before x j k) : Before x i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two entries one is before the other. -/
theorem Before.total (x : Fin n → EReal) {i j : Fin n} (h : i ≠ j) : Before x i j ∨ Before x j i := by
  rcases lt_trichotomy (x i) (x j) with a | a | a
  · exact .inr (.inl a)
  · rcases lt_or_gt_of_ne h with b | b
    · exact .inl (.inr ⟨a, b⟩)
    · exact .inr (.inr ⟨a.symm, b⟩)
  · exact .inl (.inl a)

/-- The number of entries before entry `i`. -/
noncomputable def pos (x : Fin n → EReal) (i : Fin n) : ℕ := (univ.filter fun j => Before x j i).card

/-- An entry before another has the lower rank. -/
theorem pos_lt_of_before {x : Fin n → EReal} {i j : Fin n} (h : Before x i j) : pos x i < pos x j := by
  refine card_lt_card ⟨fun k hk => ?_, fun hs => ?_⟩
  · simp only [mem_filter, mem_univ, true_and] at hk ⊢; exact hk.trans h
  · have := hs (mem_filter.2 ⟨mem_univ i, h⟩)
    exact Before.irrefl (mem_filter.1 this).2

/-- Ranks are ordered as the entries are. -/
theorem pos_lt_iff {x : Fin n → EReal} {i j : Fin n} : pos x i < pos x j ↔ Before x i j := by
  refine ⟨fun h => ?_, pos_lt_of_before⟩
  by_cases e : i = j
  · subst e; exact absurd h (lt_irrefl _)
  · exact (Before.total x e).resolve_right fun h' => lt_asymm h (pos_lt_of_before h')

/-- Two entries of one rank are the same. -/
theorem pos_inj {x : Fin n → EReal} {i j : Fin n} (h : pos x i = pos x j) : i = j := by
  by_contra e
  rcases Before.total x e with h' | h' <;> have := pos_lt_of_before h' <;> omega

/-- A rank is below the number of entries. -/
theorem pos_lt (x : Fin n → EReal) (i : Fin n) : pos x i < n := by
  have : (univ.filter fun j => Before x j i).card < (univ : Finset (Fin n)).card := by
    refine card_lt_card ⟨filter_subset _ _, fun hs => ?_⟩
    exact Before.irrefl (mem_filter.1 (hs (mem_univ i))).2
  simpa [pos] using this

/-- Every number below the number of entries is a rank. -/
theorem exists_pos (x : Fin n → EReal) (k : ℕ) (h : k < n) : ∃ i, pos x i = k := by
  have inj : Function.Injective (fun i => (⟨pos x i, pos_lt x i⟩ : Fin n)) := fun i j e => pos_inj (Fin.mk.inj e)
  obtain ⟨i, hi⟩ := Finite.surjective_of_injective inj ⟨k, h⟩
  exact ⟨i, congrArg Fin.val hi⟩

/-- The entry with `k` entries before it. -/
noncomputable def nth (x : Fin n → EReal) (k : Fin n) : Fin n := (exists_pos x k k.isLt).choose

/-- The entry of rank `k` has rank `k`. -/
theorem pos_nth (x : Fin n → EReal) (k : Fin n) : pos x (nth x k) = k := (exists_pos x k k.isLt).choose_spec

/-- The entry of an entry's rank is that entry. -/
theorem nth_pos (x : Fin n → EReal) (i : Fin n) : nth x ⟨pos x i, pos_lt x i⟩ = i := pos_inj (pos_nth x _)

/-- Different ranks have different entries. -/
theorem nth_inj (x : Fin n → EReal) : Function.Injective (nth x) := fun a b h => by
  have := congrArg (pos x) h
  rw [pos_nth, pos_nth] at this
  exact Fin.ext this

/-- A listing in order lists entry after entry by rank. -/
theorem eq_nth_of_sorted (x : Fin n → EReal) (σ : Fin n → Fin n) (h : ∀ a b, a < b → Before x (σ a) (σ b)) (a : Fin n) :
    σ a = nth x a := by
  have mono : StrictMono (fun a => (⟨pos x (σ a), pos_lt x _⟩ : Fin n)) := fun a b hab => pos_lt_of_before (h a b hab)
  have e : (⟨pos x (σ a), pos_lt x _⟩ : Fin n) = a := le_antisymm mono.apply_le mono.le_apply
  exact pos_inj ((congrArg Fin.val e).trans (pos_nth x a).symm)

/-! ## The stack of one column -/

/-- Slot `t` of a column's stack: the value `v` and index `j` of the entry of `E` with `t` entries of `E` before it; the value
    `neg` if `E` has no such entry. -/
def Slot (x : Fin n → EReal) (neg : EReal) (E : Finset (Fin n)) (t : ℕ) (v : EReal) (j : BitVec 32) : Prop :=
  (∃ i ∈ E, (E.filter fun i' => Before x i' i).card = t ∧ v = x i ∧ j = BitVec.ofNat 32 i.val) ∨ (E.card ≤ t ∧ v = neg)

section
variable {x : Fin n → EReal} {neg : EReal} {E : Finset (Fin n)} {e : Fin n} {t : ℕ} {v v₀ v₁ : EReal} {j j₀ j₁ : BitVec 32}

/-- A place of the stack holds no less than the value of no entry. -/
theorem Slot.neg_le (hneg : ∀ i, neg < x i) (h : Slot x neg E t v j) : neg ≤ v := by
  rcases h with ⟨i, -, -, rfl, -⟩ | ⟨-, rfl⟩
  · exact (hneg i).le
  · exact le_rfl

/-- A later entry comes before `i` only if it is larger. -/
theorem before_new {i : Fin n} (h : i < e) : Before x e i ↔ x i < x e :=
  ⟨fun hb => hb.resolve_right fun ⟨_, h'⟩ => lt_asymm h h', .inl⟩

/-- An earlier entry is before a new one when it is no less. -/
theorem before_old {i : Fin n} (h : i < e) : Before x i e ↔ x e ≤ x i := by
  constructor
  · rintro (a | ⟨a, -⟩)
    · exact a.le
    · exact a.ge
  · intro a
    rcases a.lt_or_eq with a | a
    · exact .inl a
    · exact .inr ⟨a.symm, h⟩

/-- An index above all of a set is not in it. -/
theorem notMem_of_lt (h : ∀ i ∈ E, i < e) : e ∉ E := fun he => lt_irrefl _ (h e he)

/-- How many entries are before an old one, with a new entry added. -/
theorem card_old (hE : ∀ i ∈ E, i < e) {i : Fin n} (hi : i ∈ E) :
    ((insert e E).filter fun i' => Before x i' i).card = (E.filter fun i' => Before x i' i).card + if x i < x e then 1 else 0 := by
  rw [filter_insert, before_new (hE i hi)]
  split_ifs
  · rw [card_insert_of_notMem fun h => notMem_of_lt hE (mem_of_mem_filter _ h)]
  · rfl

/-- How many entries are before the new one. -/
theorem card_new (hE : ∀ i ∈ E, i < e) :
    ((insert e E).filter fun i' => Before x i' e).card = (E.filter fun i' => x e ≤ x i').card := by
  rw [filter_insert, if_neg Before.irrefl]
  exact congrArg card (filter_congr fun i hi => before_old (hE i hi))

/-- The top of the stack with a new entry added. -/
theorem slot_new_zero (hneg : ∀ i, neg < x i) (hE : ∀ i ∈ E, i < e) (h : Slot x neg E 0 v j) :
    Slot x neg (insert e E) 0 (if v < x e then x e else v) (if v < x e then BitVec.ofNat 32 e.val else j) := by
  split_ifs with hv
  · refine .inl ⟨e, mem_insert_self _ _, ?_, rfl, rfl⟩
    rw [card_new hE, card_eq_zero, filter_eq_empty_iff]
    intro i hi hle
    rcases h with ⟨i₀, hi₀, hc, rfl, -⟩ | ⟨hc, -⟩
    · rw [card_eq_zero, filter_eq_empty_iff] at hc
      have hlt : x i₀ < x i := hv.trans_le hle
      exact hc hi (.inl hlt)
    · rw [Nat.le_zero, card_eq_zero] at hc
      rw [hc] at hi; exact notMem_empty _ hi
  · rcases h with ⟨i₀, hi₀, hc, rfl, rfl⟩ | ⟨hc, rfl⟩
    · refine .inl ⟨i₀, mem_insert_of_mem hi₀, ?_, rfl, rfl⟩
      rw [card_old hE hi₀, hc, if_neg hv]
    · exact absurd (hneg e) hv

/-- A lower place of the stack with a new entry added. -/
theorem slot_new_succ (hneg : ∀ i, neg < x i) (hE : ∀ i ∈ E, i < e) (h₀ : Slot x neg E t v₀ j₀) (h₁ : Slot x neg E (t + 1) v₁ j₁) :
    Slot x neg (insert e E) (t + 1) (if v₀ < x e then v₀ else if v₁ < x e then x e else v₁)
      (if v₀ < x e then j₀ else if v₁ < x e then BitVec.ofNat 32 e.val else j₁) := by
  split_ifs with hv hv'
  · rcases h₀ with ⟨i, hi, hc, rfl, rfl⟩ | ⟨hc, rfl⟩
    · refine .inl ⟨i, mem_insert_of_mem hi, ?_, rfl, rfl⟩
      rw [card_old hE hi, hc, if_pos hv]
    · refine .inr ⟨?_, rfl⟩
      rw [card_insert_of_notMem (notMem_of_lt hE)]; omega
  · refine .inl ⟨e, mem_insert_self _ _, ?_, rfl, rfl⟩
    rw [card_new hE]
    rcases h₀ with ⟨i, hi, hc, rfl, rfl⟩ | ⟨hc, rfl⟩
    · have hi' : i ∉ E.filter fun i' => Before x i' i := fun h => Before.irrefl (mem_filter.1 h).2
      apply le_antisymm
      · rcases h₁ with ⟨i₁, hi₁, hc₁, rfl, rfl⟩ | ⟨hc₁, rfl⟩
        · rw [← hc₁]
          refine card_le_card fun k hk => ?_
          rw [mem_filter] at hk ⊢
          exact ⟨hk.1, .inl (hv'.trans_le hk.2)⟩
        · exact (card_le_card (filter_subset _ _)).trans hc₁
      · rw [← hc, ← card_insert_of_notMem hi']
        refine card_le_card fun k hk => ?_
        rw [mem_insert, mem_filter] at hk
        rw [mem_filter]
        rcases hk with rfl | ⟨hk, hb⟩
        · exact ⟨hi, not_lt.1 hv⟩
        · refine ⟨hk, (not_lt.1 hv).trans ?_⟩
          rcases hb with hb | ⟨hb, -⟩
          · exact hb.le
          · exact hb.ge
    · exact absurd (hneg e) hv
  · rcases h₁ with ⟨i, hi, hc, rfl, rfl⟩ | ⟨hc, rfl⟩
    · refine .inl ⟨i, mem_insert_of_mem hi, ?_, rfl, rfl⟩
      rw [card_old hE hi, hc, if_neg hv']
    · exact absurd (hneg e) hv'

/-! ## Heads -/

/-- The entry of `E` that comes first among those of rank at least `k`: value `v`, index `j`. -/
def Head (x : Fin n → EReal) (E : Finset (Fin n)) (k : ℕ) (v : EReal) (j : BitVec 32) : Prop :=
  ∃ i ∈ E, k ≤ pos x i ∧ (∀ i' ∈ E, k ≤ pos x i' → pos x i ≤ pos x i') ∧ v = x i ∧ j = BitVec.ofNat 32 i.val

/-- How many entries of `E` have rank below `k`. -/
noncomputable def below (x : Fin n → EReal) (E : Finset (Fin n)) (k : ℕ) : ℕ := (E.filter fun i => pos x i < k).card

/-- No rank is below zero. -/
theorem below_zero : below x E 0 = 0 := by simp [below]

/-- At most `t` entries have rank below `t`. -/
theorem below_le : below x E t ≤ t := by
  have h : (E.filter fun i => pos x i < t).image (pos x) ⊆ range t := fun k hk => by
    obtain ⟨i, hi, rfl⟩ := mem_image.1 hk
    exact mem_range.2 (mem_filter.1 hi).2
  have := card_le_card h
  rwa [card_image_of_injective _ fun a b h => pos_inj h, card_range] at this

/-- One rank further there is one more entry exactly when the set has it. -/
theorem below_succ {g : Fin n} {k : ℕ} (hg : pos x g = k) : below x E (k + 1) = below x E k + if g ∈ E then 1 else 0 := by
  have hiff : ∀ i, pos x i < k + 1 ↔ pos x i < k ∨ i = g := fun i => by
    constructor
    · intro h
      rcases Nat.lt_succ_iff_lt_or_eq.1 h with h | h
      · exact .inl h
      · exact .inr (pos_inj (h.trans hg.symm))
    · rintro (h | rfl) <;> omega
  unfold below
  split_ifs with h
  · have : (E.filter fun i => pos x i < k + 1) = insert g (E.filter fun i => pos x i < k) := by
      ext i; simp only [mem_filter, mem_insert, hiff]
      constructor
      · rintro ⟨a, b | b⟩
        · exact .inr ⟨a, b⟩
        · exact .inl b
      · rintro (rfl | ⟨a, b⟩)
        · exact ⟨h, .inr rfl⟩
        · exact ⟨a, .inl b⟩
    rw [this, card_insert_of_notMem]
    rw [mem_filter]; omega
  · refine congrArg card (filter_congr fun i hi => ?_)
    rw [hiff]
    exact ⟨fun h' => h'.resolve_right fun e => h (e ▸ hi), .inl⟩

/-- The place below the entries already given holds the head of the rest. -/
theorem slot_head {k : ℕ} (h : Slot x neg E (below x E k) v j) (hc : below x E k < E.card) : Head x E k v j := by
  rcases h with ⟨i, hi, hr, rfl, rfl⟩ | ⟨hr, -⟩
  · have hk : k ≤ pos x i := by
      by_contra hk
      have hlt : (E.filter fun i' => Before x i' i).card < below x E k := by
        refine card_lt_card ⟨fun a ha => ?_, fun hs => ?_⟩
        · rw [mem_filter] at ha ⊢
          exact ⟨ha.1, (pos_lt_of_before ha.2).trans (not_le.1 hk)⟩
        · exact Before.irrefl (mem_filter.1 (hs (mem_filter.2 ⟨hi, not_le.1 hk⟩))).2
      omega
    refine ⟨i, hi, hk, fun i' hi' hk' => ?_, rfl, rfl⟩
    have hsub : (E.filter fun a => pos x a < k) ⊆ E.filter fun a => Before x a i := fun a ha => by
      rw [mem_filter] at ha ⊢
      exact ⟨ha.1, pos_lt_iff.1 (ha.2.trans_le hk)⟩
    have heq := eq_of_subset_of_card_le hsub hr.le
    by_contra hlt
    have : i' ∈ E.filter fun a => Before x a i := mem_filter.2 ⟨hi', pos_lt_iff.1 (not_le.1 hlt)⟩
    rw [← heq, mem_filter] at this
    omega
  · omega

/-- A head that is not the entry of rank `k` stays the head. -/
theorem Head.keep {k : ℕ} {g : Fin n} (hg : pos x g = k) (h : Head x E k v j) (hgE : g ∉ E) : Head x E (k + 1) v j := by
  obtain ⟨i, hi, hk, hmin, hv, hj⟩ := h
  refine ⟨i, hi, ?_, fun i' hi' hk' => hmin i' hi' (by omega), hv, hj⟩
  rcases hk.lt_or_eq with h | h
  · exact h
  · exact absurd ((pos_inj (hg.trans h)) ▸ hi) hgE

/-- The head of the set that holds the entry of rank `k` is that entry. -/
theorem Head.eq {k : ℕ} {g : Fin n} (hg : pos x g = k) (h : Head x E k v j) (hgE : g ∈ E) : v = x g ∧ j = BitVec.ofNat 32 g.val := by
  obtain ⟨i, hi, hk, hmin, hv, hj⟩ := h
  have := hmin g hgE hg.ge
  have : i = g := pos_inj (x := x) (by omega)
  subst this; exact ⟨hv, hj⟩

/-- No head is larger than the entry of rank `k`, and an equal one has no smaller index. -/
theorem Head.le {k : ℕ} {g : Fin n} (hg : pos x g = k) (h : Head x E k v j) :
    v ≤ x g ∧ ∃ i : Fin n, i ∈ E ∧ j = BitVec.ofNat 32 i.val ∧ (v = x g → g ≤ i) := by
  obtain ⟨i, hi, hk, hmin, rfl, hj⟩ := h
  by_cases e : i = g
  · subst e; exact ⟨le_rfl, i, hi, hj, fun _ => le_rfl⟩
  · have hb : Before x g i := pos_lt_iff.1 (lt_of_le_of_ne (hg ▸ hk) fun h => e (pos_inj h.symm))
    rcases hb with hb | ⟨hb, hlt⟩
    · exact ⟨hb.le, i, hi, hj, fun h => absurd h hb.ne⟩
    · exact ⟨hb.ge, i, hi, hj, fun _ => hlt.le⟩

/-! ## The best entry after a pick, entry by entry -/

/-- The best entry among those of `E` after the entry of rank `k`: value `v` and index `j`; `neg` if there is none. -/
def Best (x : Fin n → EReal) (neg : EReal) (E : Finset (Fin n)) (k : ℕ) (v : EReal) (j : BitVec 32) : Prop :=
  Head x E (k + 1) v j ∨ ((∀ i ∈ E, pos x i ≤ k) ∧ v = neg)

/-- In a set with entries left, the best after a rank is the head of the rest. -/
theorem Best.head {k : ℕ} (h : Best x neg E k v j) (hc : k + 1 < E.card) : Head x E (k + 1) v j := by
  refine h.resolve_right fun ⟨h, _⟩ => ?_
  have h1 : (E.filter fun i => pos x i < k + 1) = E := filter_true_of_mem fun i hi => Nat.lt_succ_of_le (h i hi)
  have h2 := below_le (x := x) (E := E) (t := k + 1)
  unfold below at h2
  rw [h1] at h2; omega

/-- The best is no less than the value of no entry. -/
theorem Best.neg_le {k : ℕ} (hneg : ∀ i, neg < x i) (h : Best x neg E k v j) : neg ≤ v := by
  rcases h with ⟨i, -, -, -, rfl, -⟩ | ⟨-, rfl⟩
  · exact (hneg i).le
  · exact le_rfl

/-- One more entry, after the pick and larger than the best so far. -/
theorem best_new {k : ℕ} (hneg : ∀ i, neg < x i) (hE : ∀ i ∈ E, i < e) (h : Best x neg E k v j) (he : k < pos x e) (hv : v < x e) :
    Best x neg (insert e E) k (x e) (BitVec.ofNat 32 e.val) := by
  refine .inl ⟨e, mem_insert_self _ _, he, fun i hi hk => ?_, rfl, rfl⟩
  rcases mem_insert.1 hi with rfl | hi
  · exact le_rfl
  · rcases h with ⟨i₀, hi₀, hk₀, hmin, rfl, -⟩ | ⟨hall, rfl⟩
    · exact (pos_lt_of_before (Or.inl hv)).le.trans (hmin i hi hk)
    · have := hall i hi; omega

/-- One more entry, not after the pick or not larger than the best so far. -/
theorem best_old {k : ℕ} (hneg : ∀ i, neg < x i) (hE : ∀ i ∈ E, i < e) (h : Best x neg E k v j) (he : k < pos x e → ¬ v < x e) :
    Best x neg (insert e E) k v j := by
  by_cases hk : k < pos x e
  · rcases h with ⟨i₀, hi₀, hk₀, hmin, rfl, hj⟩ | ⟨hall, rfl⟩
    · refine .inl ⟨i₀, mem_insert_of_mem hi₀, hk₀, fun i hi hik => ?_, rfl, hj⟩
      rcases mem_insert.1 hi with rfl | hi
      · exact (pos_lt_of_before ((before_old (hE _ hi₀)).2 (not_lt.1 (he hk)))).le
      · exact hmin i hi hik
    · exact absurd (hneg e) (he hk)
  · rcases h with ⟨i₀, hi₀, hk₀, hmin, rfl, hj⟩ | ⟨hall, rfl⟩
    · refine .inl ⟨i₀, mem_insert_of_mem hi₀, hk₀, fun i hi hik => ?_, rfl, hj⟩
      rcases mem_insert.1 hi with rfl | hi
      · omega
      · exact hmin i hi hik
    · refine .inr ⟨fun i hi => ?_, rfl⟩
      rcases mem_insert.1 hi with rfl | hi
      · omega
      · exact hall i hi

end

end Cert.Rank
-- ==== Proof.KI.Columns.lean ====
module

public import proofs.«01_k».proof.Proof.KI.Spec
public import proofs.«01_k».proof.Proof.Math.Rank
public import Idealize.ShloMosaic.Lib.Pointwise
public import Idealize.ShloMosaic.Lib.WordCmp

@[expose] public section

set_option maxRecDepth 16384

/-! The stacks of three that the kernel keeps for each column hold the column's three first entries in order. -/

noncomputable section

namespace Cert.KernelIdeal.Hand

open Cert.KernelIdeal Cert.KernelIdeal.Gen Cert.Rank
open scoped Classical
open Idealize.ShloMosaic Idealize.ShloMosaic.TcCoe Idealize.ShloMosaic.Tactic

/-- Where the bit is one, the choice is the first value. -/
theorem select_pos {α : Type} {c : BitVec 1} {a b : α} (h : c = 1#1) : Scalar.select c a b = a := if_pos h
/-- Where the bit is not one, the choice is the second value. -/
theorem select_neg {α : Type} {c : BitVec 1} {a b : α} (h : ¬ c = 1#1) : Scalar.select c a b = b := if_neg h

/-- Row `r` of the block. -/
abbrev row (x : FVec Ideal S16x100000 .f32) (r : Fin 16) : Fin 100000 → EReal := fun i => x (ix2 r i)

/-- The least finite float, the value that stands for no entry. -/
abbrev NEG : EReal := Ideal.ofBits .f32 0xFF7FFFFF#32

/-- The column that an index belongs to. -/
def colOf (i : Fin 100000) : ℕ := if i.val < 99328 then i.val % 1024 else i.val - 98976

/-- The indices of column `c`. -/
def colE (c : Fin 1024) : Finset (Fin 100000) := Finset.univ.filter fun i => colOf i = c.val

/-- The indices of column `c` in the slices 0, …, w. -/
def colTo (w : ℕ) (c : Fin 1024) : Finset (Fin 100000) := Finset.univ.filter fun i => i.val % 1024 = c.val ∧ i.val < 1024 * (w + 1)

/-- Every index belongs to one of the 1024 columns. -/
theorem colOf_lt (i : Fin 100000) : colOf i < 1024 := by
  unfold colOf; split_ifs <;> omega

/-- An index is in a column's set when it belongs to the column. -/
theorem mem_colE {c : Fin 1024} {i : Fin 100000} : i ∈ colE c ↔ colOf i = c.val := by simp [colE]
/-- An index is in a column's first slices when its remainder is the column and it lies below their end. -/
theorem mem_colTo {w : ℕ} {c : Fin 1024} {i : Fin 100000} : i ∈ colTo w c ↔ i.val % 1024 = c.val ∧ i.val < 1024 * (w + 1) := by simp [colTo]

/-- The first slice gives a column one index. -/
theorem colTo_zero (c : Fin 1024) : colTo 0 c = {⟨c.val, by omega⟩} := by
  ext i; rw [mem_colTo, Finset.mem_singleton, Fin.ext_iff]; dsimp only; omega

/-- Each further slice gives a column one more index. -/
theorem colTo_succ (w : ℕ) (h : w < 96) (c : Fin 1024) :
    colTo (w + 1) c = insert ⟨1024 * (w + 1) + c.val, by omega⟩ (colTo w c) := by
  ext i; rw [Finset.mem_insert, mem_colTo, mem_colTo, Fin.ext_iff]; dsimp only; omega

/-- That index lies above all those before it. -/
theorem colTo_lt (w : ℕ) (h : w < 96) (c : Fin 1024) : ∀ i ∈ colTo w c, i < (⟨1024 * (w + 1) + c.val, by omega⟩ : Fin 100000) := by
  intro i hi; rw [mem_colTo] at hi; rw [Fin.lt_def]; dsimp only; omega

/-- A column below 352 gets nothing from the last slice. -/
theorem colE_low (c : Fin 1024) (h : c.val < 352) : colE c = colTo 96 c := by
  ext i; rw [mem_colE, mem_colTo]; unfold colOf; split_ifs <;> omega

/-- Another column gets one more index from the last slice. -/
theorem colE_high (c : Fin 1024) (h : ¬ c.val < 352) : colE c = insert ⟨98976 + c.val, by omega⟩ (colTo 96 c) := by
  ext i; rw [Finset.mem_insert, mem_colE, mem_colTo, Fin.ext_iff]; unfold colOf; dsimp only; split_ifs <;> omega

/-- That index lies above all those before it. -/
theorem colTo_last_lt (c : Fin 1024) (h : ¬ c.val < 352) : ∀ i ∈ colTo 96 c, i < (⟨98976 + c.val, by omega⟩ : Fin 100000) := by
  intro i hi; rw [mem_colTo] at hi; rw [Fin.lt_def]; dsimp only; omega

/-- A column has at least 97 entries. -/
theorem card_colE (c : Fin 1024) : 97 ≤ (colE c).card := by
  have h : (Finset.univ.image fun w : Fin 97 => (⟨1024 * w.val + c.val, by omega⟩ : Fin 100000)) ⊆ colE c := by
    intro i hi
    obtain ⟨w, -, rfl⟩ := Finset.mem_image.1 hi
    rw [mem_colE]; unfold colOf; dsimp only; split_ifs <;> omega
  have := Finset.card_le_card h
  rwa [Finset.card_image_of_injective, Finset.card_univ, Fintype.card_fin] at this
  intro a b hab
  have := congrArg Fin.val hab
  dsimp only at this
  exact Fin.ext (by omega)

/-! ## Reading the slices -/

/-- A slice's entry is the row's entry at the slice's offset. -/
theorem slice_apply (x : FVec Ideal S16x100000 .f32) (o : ℕ) (h : o + 1024 ≤ 100000) (r : Fin 16) (c : Fin 1024) :
    slice (F := Ideal) x o h (ix2 r c) = row x r ⟨o + c.val, by omega⟩ := by
  pointwise [slice]

/-- The whole block's entry is the row's entry. -/
theorem whole_apply (x : FVec Ideal S16x100000 .f32) (r : Fin 16) (i : Fin 100000) : whole (F := Ideal) x (ix2 r i) = row x r i := by
  pointwise [whole]
  all_goals (refine congrArg x ?_; idx_ext)

/-- Merging a slice, entry by entry: a new entry goes above the first of the three that it exceeds. -/
theorem merge_apply (s : Top Ideal) (v : FVec Ideal S16x1024 .f32) (jv : IVec S16x1024 32) (r : Fin 16) (c : Fin 1024) :
    (s.merge v jv).c1 (ix2 r c) = (if s.c1 (ix2 r c) < v (ix2 r c) then v (ix2 r c) else s.c1 (ix2 r c)) ∧
    (s.merge v jv).j1 (ix2 r c) = (if s.c1 (ix2 r c) < v (ix2 r c) then jv (ix2 r c) else s.j1 (ix2 r c)) ∧
    (s.merge v jv).c2 (ix2 r c) = (if s.c1 (ix2 r c) < v (ix2 r c) then s.c1 (ix2 r c) else if s.c2 (ix2 r c) < v (ix2 r c) then v (ix2 r c) else s.c2 (ix2 r c)) ∧
    (s.merge v jv).j2 (ix2 r c) = (if s.c1 (ix2 r c) < v (ix2 r c) then s.j1 (ix2 r c) else if s.c2 (ix2 r c) < v (ix2 r c) then jv (ix2 r c) else s.j2 (ix2 r c)) ∧
    (s.merge v jv).c3 (ix2 r c) = (if s.c2 (ix2 r c) < v (ix2 r c) then s.c2 (ix2 r c) else if s.c3 (ix2 r c) < v (ix2 r c) then v (ix2 r c) else s.c3 (ix2 r c)) ∧
    (s.merge v jv).j3 (ix2 r c) = (if s.c2 (ix2 r c) < v (ix2 r c) then s.j2 (ix2 r c) else if s.c3 (ix2 r c) < v (ix2 r c) then jv (ix2 r c) else s.j3 (ix2 r c)) := by
  refine ⟨?_, ?_, ?_, ?_, ?_, ?_⟩ <;> pointwise [Top.merge]

/-! ## The stacks -/

/-- The three slots of column `c` hold the first three entries of `E`. -/
def Stack (x : FVec Ideal S16x100000 .f32) (r : Fin 16) (E : Finset (Fin 100000)) (s : Top Ideal) (c : Fin 1024) : Prop :=
  Slot (row x r) NEG E 0 (s.c1 (ix2 r c)) (s.j1 (ix2 r c)) ∧ Slot (row x r) NEG E 1 (s.c2 (ix2 r c)) (s.j2 (ix2 r c)) ∧
    Slot (row x r) NEG E 2 (s.c3 (ix2 r c)) (s.j3 (ix2 r c))

/-- Merging an entry of the column keeps the stack right for the column with it. -/
theorem stack_merge {x : FVec Ideal S16x100000 .f32} {r : Fin 16} (hneg : ∀ i, NEG < row x r i) {E : Finset (Fin 100000)} {s : Top Ideal} {c : Fin 1024}
    (h : Stack x r E s c) (e : Fin 100000) (hE : ∀ i ∈ E, i < e) (v : FVec Ideal S16x1024 .f32) (jv : IVec S16x1024 32)
    (hv : v (ix2 r c) = row x r e) (hj : jv (ix2 r c) = BitVec.ofNat 32 e.val) : Stack x r (insert e E) (s.merge v jv) c := by
  obtain ⟨h1, h2, h3⟩ := h
  obtain ⟨a1, b1, a2, b2, a3, b3⟩ := merge_apply s v jv r c
  rw [hv] at a1 b1 a2 b2 a3 b3
  rw [hj] at b1 b2 b3
  refine ⟨?_, ?_, ?_⟩
  · rw [a1, b1]; exact slot_new_zero hneg hE h1
  · rw [a2, b2]; exact slot_new_succ hneg hE h1 h2
  · rw [a3, b3]; exact slot_new_succ hneg hE h2 h3

/-- Merging a masked entry keeps the stack as it is. -/
theorem stack_masked {x : FVec Ideal S16x100000 .f32} {r : Fin 16} (hneg : ∀ i, NEG < row x r i) {E : Finset (Fin 100000)} {s : Top Ideal} {c : Fin 1024}
    (h : Stack x r E s c) (v : FVec Ideal S16x1024 .f32) (jv : IVec S16x1024 32) (hv : v (ix2 r c) = NEG) : Stack x r E (s.merge v jv) c := by
  obtain ⟨h1, h2, h3⟩ := h
  obtain ⟨a1, b1, a2, b2, a3, b3⟩ := merge_apply s v jv r c
  rw [hv] at a1 b1 a2 b2 a3 b3
  rw [if_neg (h1.neg_le hneg).not_gt] at a1 b1 a2 b2
  rw [if_neg (h2.neg_le hneg).not_gt] at a2 b2 a3 b3
  rw [if_neg (h3.neg_le hneg).not_gt] at a3 b3
  unfold Stack
  rw [a1, b1, a2, b2, a3, b3]
  exact ⟨h1, h2, h3⟩

/-- After the first slice a column's stack holds its one entry. -/
theorem stack_zero (x : FVec Ideal S16x100000 .f32) (r : Fin 16) (c : Fin 1024) : Stack x r (colTo 0 c) (tops (F := Ideal) x 0 (by omega)) c := by
  rw [colTo_zero]
  refine ⟨.inl ⟨_, Finset.mem_singleton_self _, ?_, ?_, ?_⟩, .inr ⟨?_, ?_⟩, .inr ⟨?_, ?_⟩⟩
  · rw [Finset.card_eq_zero, @Finset.filter_eq_empty_iff]
    intro i hi
    rw [Finset.mem_singleton] at hi; subst hi; exact Before.irrefl
  · show slice (F := Ideal) x 0 (by omega) (ix2 r c) = _
    rw [slice_apply]; exact congrArg (row x r) (Fin.ext (Nat.zero_add _))
  · show col (ix2 r c) = _
    pointwise []
  · simp
  · show k0_pay65 (F := Ideal) (ix2 r c) = _
    pointwise [k0_pay65]
  · simp
  · show k0_pay65 (F := Ideal) (ix2 r c) = _
    pointwise [k0_pay65]

/-- After all full slices a column's stack is right for its indices there. -/
theorem stack_tops {x : FVec Ideal S16x100000 .f32} {r : Fin 16} (hneg : ∀ i, NEG < row x r i) (c : Fin 1024) :
    ∀ (w : ℕ) (h : w < 97), Stack x r (colTo w c) (tops (F := Ideal) x w h) c
  | 0, h => stack_zero x r c
  | w + 1, h => by
    rw [colTo_succ w (by omega) c]
    refine stack_merge hneg (stack_tops hneg c w (by omega)) _ (colTo_lt w (by omega) c) _ _ (slice_apply ..) ?_
    pointwise []
    exact (BitVec.ofNat_add ..).symm

/-- The last slice with its repeated columns masked. -/
theorem pay967_apply (v : FVec Ideal S16x1024 .f32) (r : Fin 16) (c : Fin 1024) :
    (k0_pay967 (F := Ideal) col v (ix2 r c) : EReal) = if c.val < 352 then NEG else v (ix2 r c) := by
  pointwise [k0_pay967]
  by_cases h : c.val < 352
  · rw [if_pos h, select_pos (by word_cmp)]
  · rw [if_neg h, select_neg (by word_cmp)]

/-- The kernel's stacks hold the first three entries of each column. -/
theorem stack_top3 {x : FVec Ideal S16x100000 .f32} {r : Fin 16} (hneg : ∀ i, NEG < row x r i) (c : Fin 1024) :
    Stack x r (colE c) (top3 (F := Ideal) x) c := by
  by_cases h : c.val < 352
  · rw [colE_low c h]
    refine stack_masked hneg (stack_tops hneg c 96 (by omega)) _ _ ?_
    rw [pay967_apply, if_pos h]
  · rw [colE_high c h]
    refine stack_merge hneg (stack_tops hneg c 96 (by omega)) _ (colTo_last_lt c h) _ _ ?_ ?_
    · rw [pay967_apply, if_neg h, slice_apply]
    · pointwise [k0_pay968]
      exact (BitVec.ofNat_add ..).symm

end Cert.KernelIdeal.Hand
-- ==== Proof.Math.Folds.lean ====
module

public import Idealize.ShloMosaic.Lib.Pointwise
public import Idealize.ShloMosaic.Lib.WordCmp

@[expose] public section

/-! The greatest of a family of extended reals and the least of a family of signed words, as folds. -/

namespace Cert.Folds

open Idealize.ShloMosaic Finset

/-- A greatest value that bounds the start is the fold. -/
theorem fold_max_eq {ι : Type*} [Fintype ι] {init M : EReal} {f : ι → EReal} (hi : init ≤ M) (hle : ∀ c, f c ≤ M) (c₀ : ι) (h : f c₀ = M) :
    fold max init f univ = M :=
  le_antisymm ((fold_max_le M).2 ⟨hi, fun c _ => hle c⟩) ((le_fold_max M).2 (.inr ⟨c₀, mem_univ _, h.ge⟩))

/-- Every member is at most the greatest. -/
theorem le_fold {ι : Type*} [Fintype ι] {init : EReal} {f : ι → EReal} (c : ι) : f c ≤ fold max init f univ :=
  (le_fold_max _).2 (.inr ⟨c, mem_univ _, le_rfl⟩)

/-- The lesser of two words is the lesser of their numbers. -/
theorem toInt_minsi (x y : BitVec 32) : (IntOp.minsi x y).toInt = min x.toInt y.toInt := by
  unfold IntOp.minsi
  by_cases h : x.slt y
  · rw [if_pos h]; rw [BitVec.slt_iff_toInt_lt] at h; exact (min_eq_left h.le).symm
  · rw [if_neg h]; rw [BitVec.slt_iff_toInt_lt] at h; exact (min_eq_right (not_lt.1 h)).symm

/-- The least of the words is the least of their numbers. -/
theorem toInt_fold {ι : Type*} [DecidableEq ι] (s : Finset ι) (init : BitVec 32) (f : ι → BitVec 32) :
    (fold IntOp.minsi init f s).toInt = fold min init.toInt (fun c => (f c).toInt) s := by
  induction s using Finset.induction_on with
  | empty => rfl
  | insert a s ha ih => rw [fold_insert ha, fold_insert ha, toInt_minsi, ih]

/-- A least word that bounds the start is the fold. -/
theorem fold_minsi_eq {ι : Type*} [Fintype ι] [DecidableEq ι] {init M : BitVec 32} {f : ι → BitVec 32} (hi : M.toInt ≤ init.toInt)
    (hle : ∀ c, M.toInt ≤ (f c).toInt) (c₀ : ι) (h : f c₀ = M) : fold IntOp.minsi init f univ = M := by
  apply BitVec.eq_of_toInt_eq
  rw [toInt_fold]
  exact le_antisymm ((fold_min_le _).2 (.inr ⟨c₀, mem_univ _, by rw [h]⟩)) ((le_fold_min _).2 ⟨hi, fun c _ => hle c⟩)

/-- A number below two to the 31 is the signed number of its word. -/
theorem toInt_ofNat {a : ℕ} (h : a < 2147483648) : (BitVec.ofNat 32 a).toInt = a := by
  rw [BitVec.toInt_eq_toNat_cond, BitVec.toNat_ofNat]; split_ifs <;> omega

/-- Two such numbers with the same word are equal. -/
theorem ofNat_inj {a b : ℕ} (ha : a < 2147483648) (hb : b < 2147483648) (h : BitVec.ofNat 32 a = BitVec.ofNat 32 b) : a = b := by
  have := congrArg BitVec.toInt h
  rw [toInt_ofNat ha, toInt_ofNat hb] at this; omega

/-- The word of minus infinity. -/
theorem ofBits_bot : Ideal.ofBits .f32 0xFF800000#32 = ⊥ := by simp [Ideal.ofBits, Ideal.ieee]

/-- The greatest signed word's number. -/
theorem toInt_max : (2147483647#32 : BitVec 32).toInt = 2147483647 := by decide
/-- The number of the word that stands for no index. -/
theorem toInt_big : (1073741824#32 : BitVec 32).toInt = 1073741824 := by decide

/-- The bit of an equality, widened to a word. -/
theorem cmpi_word (a b : BitVec 32) : BitVec.setWidth 32 (IntOp.cmpi .eq a b) = if a = b then 1#32 else 0#32 := by
  split_ifs with h
  · subst h; simp [IntOp.cmpi]
  · have : (a == b) = false := beq_eq_false_iff_ne.2 h
    simp [IntOp.cmpi, this]

/-- Adding up the bits of an equality counts where it holds. -/
theorem fold_count_on {ι : Type*} [DecidableEq ι] (s : Finset ι) (f : ι → BitVec 32) (t : BitVec 32) :
    fold IntOp.addi 0#32 (fun i => BitVec.setWidth 32 (IntOp.cmpi .eq (f i) t)) s = BitVec.ofNat 32 (s.filter fun i => f i = t).card := by
  induction s using Finset.induction_on with
  | empty => rfl
  | insert a s ha ih =>
    rw [fold_insert ha, ih, filter_insert, cmpi_word]
    split_ifs with h
    · rw [card_insert_of_notMem (fun e => ha (mem_filter.1 e).1), Nat.add_comm, BitVec.ofNat_add]; rfl
    · exact BitVec.zero_add _

/-- Summed comparisons count the equal entries. -/
theorem fold_count {ι : Type*} [Fintype ι] [DecidableEq ι] (f : ι → BitVec 32) (t : BitVec 32) :
    fold IntOp.addi 0#32 (fun i => BitVec.setWidth 32 (IntOp.cmpi .eq (f i) t)) univ = BitVec.ofNat 32 (univ.filter fun i => f i = t).card :=
  fold_count_on univ f t

/-- A sum with one entry that is not zero is that entry. -/
theorem fold_single {ι : Type*} [DecidableEq ι] (s : Finset ι) (f : ι → BitVec 32) (p : ι) (h : ∀ i, i ≠ p → f i = 0#32) :
    fold IntOp.addi 0#32 f s = if p ∈ s then f p else 0#32 := by
  induction s using Finset.induction_on with
  | empty => rfl
  | insert a s ha ih =>
    rw [fold_insert ha, ih]
    by_cases e : a = p
    · subst e; rw [if_neg ha, if_pos (mem_insert_self _ _)]; exact BitVec.add_zero _
    · rw [h a e]
      have : p ∈ insert a s ↔ p ∈ s := by rw [mem_insert]; exact ⟨fun h => h.resolve_left fun h => e h.symm, .inr⟩
      simp only [this]
      exact BitVec.zero_add _

/-- Choosing one entry of a family and adding up is that entry. -/
theorem fold_one_hot {n : ℕ} (hn : n ≤ 2147483648) (J : Fin n → BitVec 32) (p : Fin n) :
    fold IntOp.addi 0#32 (fun i => Scalar.select (IntOp.cmpi .eq (BitVec.ofNat 32 i.val) (BitVec.ofNat 32 p.val)) (J i) 0#32) univ = J p := by
  rw [fold_single univ _ p, if_pos (mem_univ _)]
  · simp [Scalar.select, IntOp.cmpi]
  · intro b hb
    have : (BitVec.ofNat 32 b.val == BitVec.ofNat 32 p.val) = false :=
      beq_eq_false_iff_ne.2 fun e => hb (Fin.ext (ofNat_inj (by omega) (by omega) e))
    simp [Scalar.select, IntOp.cmpi, this]

end Cert.Folds
-- ==== Proof.KI.Pick.lean ====
module

public import proofs.«01_k».proof.Proof.KI.Columns
public import proofs.«01_k».proof.Proof.Math.Folds

@[expose] public section

set_option maxRecDepth 16384

/-! One pick: where every column shows its head, the pick is the entry of the next rank. -/

noncomputable section

namespace Cert.KernelIdeal.Hand

open Cert.KernelIdeal Cert.KernelIdeal.Gen Cert.Rank Cert.Folds
open scoped Classical
open Idealize.ShloMosaic Idealize.ShloMosaic.TcCoe Idealize.ShloMosaic.Tactic

/-- Every column of row `r` shows its first entry of rank at least `k`. -/
def Heads (x : FVec Ideal S16x100000 .f32) (r : Fin 16) (k : ℕ) (cm : FVec Ideal S16x1024 .f32) (jE : IVec S16x1024 32) : Prop :=
  ∀ c, Head (row x r) (colE c) k (cm (ix2 r c)) (jE (ix2 r c))

/-- The column of an index. -/
def colIx (g : Fin 100000) : Fin 1024 := ⟨colOf g, colOf_lt g⟩

/-- An index belongs to its column. -/
theorem mem_colIx (g : Fin 100000) : g ∈ colE (colIx g) := mem_colE.2 rfl

section
variable {x : FVec Ideal S16x100000 .f32} {r : Fin 16} {k : ℕ} {cm : FVec Ideal S16x1024 .f32} {jE : IVec S16x1024 32} {g : Fin 100000}

/-- The greatest of the heads is the entry of the next rank. -/
theorem pick_max (hg : pos (row x r) g = k) (h : Heads x r k cm jE) :
    Finset.fold max (Ideal.ofBits .f32 0xFF800000#32) (fun c => cm (ix2 r c)) Finset.univ = row x r g :=
  fold_max_eq (ofBits_bot ▸ bot_le) (fun c => ((h c).le hg).1) (colIx g) ((h _).eq hg (mem_colIx g)).1

/-- The least index among the greatest heads is that entry's. -/
theorem pick_min (hg : pos (row x r) g = k) (h : Heads x r k cm jE) :
    Finset.fold IntOp.minsi 2147483647#32 (fun c => if cm (ix2 r c) = row x r g then jE (ix2 r c) else 1073741824#32) Finset.univ
      = BitVec.ofNat 32 g.val := by
  have hgi : (BitVec.ofNat 32 g.val).toInt = g.val := toInt_ofNat (by omega)
  refine fold_minsi_eq ?_ (fun c => ?_) (colIx g) ?_
  · rw [hgi, toInt_max]; omega
  · split_ifs with hc
    · obtain ⟨-, i, -, hj, hle⟩ := (h c).le hg
      rw [hj, hgi, toInt_ofNat (by omega)]
      have := hle hc; rw [Fin.le_def] at this; omega
    · rw [hgi, toInt_big]; omega
  · obtain ⟨h1, h2⟩ := (h _).eq hg (mem_colIx g)
    rw [if_pos h1, h2]

/-- A head's index is the picked one exactly in the picked entry's column. -/
theorem pick_hot (hg : pos (row x r) g = k) (h : Heads x r k cm jE) (c : Fin 1024) :
    IntOp.cmpi .eq (jE (ix2 r c)) (BitVec.ofNat 32 g.val) = if g ∈ colE c then 1#1 else 0#1 := by
  split_ifs with hc
  · rw [((h c).eq hg hc).2]; word_cmp
  · obtain ⟨-, i, hi, hj, -⟩ := (h c).le hg
    have : i.val ≠ g.val := fun e => hc (Fin.ext e ▸ hi)
    rw [hj]; word_cmp

/-- The picked value is the entry of the next rank. -/
theorem pick_val (hg : pos (row x r) g = k) (h : Heads x r k cm jE) : (k0_pay985 (F := Ideal) cm (ix2 r 0) : EReal) = row x r g := by
  pointwise [k0_pay985]; exact pick_max hg h

/-- The picked index is that entry's. -/
theorem pick_idx (hg : pos (row x r) g = k) (h : Heads x r k cm jE) : k0_pay986 (F := Ideal) cm jE (ix2 r 0) = BitVec.ofNat 32 g.val := by
  pointwise [k0_pay986, k0_pay985]; rw [pick_max hg h]; exact pick_min hg h

/-- The mark of the picked column is set exactly in the picked entry's column. -/
theorem pick_eq (hg : pos (row x r) g = k) (h : Heads x r k cm jE) (c : Fin 1024) :
    k0_pay987 (F := Ideal) cm jE (ix2 r c) = if g ∈ colE c then 1#1 else 0#1 := by
  pointwise [k0_pay987, k0_pay986, k0_pay985]; rw [pick_max hg h, pick_min hg h]; exact pick_hot hg h c

end

end Cert.KernelIdeal.Hand
-- ==== Proof.KI.Picks.lean ====
module

public import proofs.«01_k».proof.Proof.KI.Pick

@[expose] public section

set_option maxRecDepth 16384

/-! What a row's picks have stored before trip `k`, the same for both loops of picks. -/

noncomputable section

namespace Cert.KernelIdeal.Hand

open Cert.KernelIdeal Cert.KernelIdeal.Gen Cert.Rank Cert.Folds
open scoped Classical
open Idealize.ShloMosaic Idealize.ShloMosaic.TcCoe Idealize.ShloMosaic.Tactic

/-- The entry of rank `l` of row `r`. -/
def nthAt (x : FVec Ideal S16x100000 .f32) (r : Fin 16) (l : ℕ) : Fin 100000 := if h : l < 100000 then nth (row x r) ⟨l, h⟩ else 0

/-- The entry of rank `l` has rank `l`. -/
theorem pos_nthAt (x : FVec Ideal S16x100000 .f32) (r : Fin 16) (l : ℕ) (h : l < 100000) : pos (row x r) (nthAt x r l) = l := by
  unfold nthAt; rw [dif_pos h]; exact pos_nth _ _

/-- The softmax weight of a value in row `r`. -/
def weight (x : FVec Ideal S16x100000 .f32) (r : Fin 16) (v : EReal) : EReal :=
  Ideal.div (Ideal.exp (v - rowMax (F := Ideal) x (ix2 r 0))) (rowSum (F := Ideal) x (ix2 r 0))

/-- The sum of the first `k` weights in order of rank. -/
def partialSum (x : FVec Ideal S16x100000 .f32) (r : Fin 16) : ℕ → EReal
  | 0 => 0
  | k + 1 => partialSum x r k + weight x r (row x r (nthAt x r k))

/-- The picks 0, …, k − 1 of row `r` are stored. -/
structure Stored (x : FVec Ideal S16x100000 .f32) (r : Fin 16) (k : ℕ) (A : FVec Ideal S16x128 .f32) (J : IVec S16x128 32) (s : FVec Ideal S16x1 .f32)
    (C : FVec Ideal S16x128 .f32) : Prop where
  val : ∀ l : Fin 128, l.val < k → A (ix2 r l) = row x r (nthAt x r l)
  idx : ∀ l : Fin 128, l.val < k → J (ix2 r l) = BitVec.ofNat 32 (nthAt x r l).val
  sum : s (ix2 r 0) = partialSum x r k
  cum : ∀ l : Fin 128, l.val < k → C (ix2 r l) = partialSum x r (l + 1)

/-- Storing the next pick in its lane keeps the stored picks right for one more rank. -/
theorem Stored.step {x : FVec Ideal S16x100000 .f32} {r : Fin 16} {k : ℕ} {A A' : FVec Ideal S16x128 .f32} {J J' : IVec S16x128 32} {s s' : FVec Ideal S16x1 .f32}
    {C C' : FVec Ideal S16x128 .f32} (h : Stored x r k A J s C) (v : EReal) (j : BitVec 32)
    (hv : v = row x r (nthAt x r k)) (hj : j = BitVec.ofNat 32 (nthAt x r k).val)
    (hA : ∀ l : Fin 128, A' (ix2 r l) = if l.val = k then v else A (ix2 r l))
    (hJ : ∀ l : Fin 128, J' (ix2 r l) = if l.val = k then j else J (ix2 r l))
    (hs : s' (ix2 r 0) = s (ix2 r 0) + weight x r v)
    (hC : ∀ l : Fin 128, C' (ix2 r l) = if l.val = k then s' (ix2 r 0) else C (ix2 r l)) : Stored x r (k + 1) A' J' s' C' := by
  have hs' : s' (ix2 r 0) = partialSum x r (k + 1) := by rw [hs, h.sum, hv]; rfl
  refine ⟨fun l hl => ?_, fun l hl => ?_, hs', fun l hl => ?_⟩
  · rw [hA]; split_ifs with e
    · rw [hv, e]
    · exact h.val l (by omega)
  · rw [hJ]; split_ifs with e
    · rw [hj, e]
    · exact h.idx l (by omega)
  · rw [hC]; split_ifs with e
    · rw [hs', e]
    · exact h.cum l (by omega)

/-- A loop's counter at trip `k` is the word of `k`. -/
theorem iv_ofNat {n : ℕ} (k : Fin n) : Scf.iv 0#32 1#32 k = BitVec.ofNat 32 k.val := by
  simp [Scf.iv]

/-- The test for a lane chooses at that lane only. -/
theorem at_lane {α : Type} (l : Fin 128) (k : ℕ) (h : k < 100000) (a b : α) :
    Scalar.select (IntOp.cmpi .eq (BitVec.ofNat 32 l.val) (BitVec.ofNat 32 k)) a b = if l.val = k then a else b := by
  split_ifs with e
  · rw [select_pos (by word_cmp)]
  · rw [select_neg (by word_cmp)]

/-- Adding a set bit adds one. -/
theorem addi_one (n : ℕ) : IntOp.addi (BitVec.ofNat 32 n) (BitVec.setWidth 32 1#1) = BitVec.ofNat 32 (n + 1) :=
  (BitVec.ofNat_add n 1).symm
/-- Adding a clear bit adds nothing. -/
theorem addi_zero (b : BitVec 32) : IntOp.addi b (BitVec.setWidth 32 0#1) = b := BitVec.add_zero b

/-- A disjunction of bits is one when one of them is. -/
theorem ori_one (a b : BitVec 1) : IntOp.ori a b = 1#1 ↔ a = 1#1 ∨ b = 1#1 := by revert a b; decide
/-- A conjunction of bits is one when both are. -/
theorem andi_one (a b : BitVec 1) : IntOp.andi a b = 1#1 ↔ a = 1#1 ∧ b = 1#1 := by revert a b; decide
/-- The bit of a proposition is one when it holds. -/
theorem ofBool_one (p : Prop) [Decidable p] : BitVec.ofBool (decide p) = 1#1 ↔ p := by
  by_cases h : p <;> simp [h]

end Cert.KernelIdeal.Hand
-- ==== Proof.KI.Next.lean ====
module

public import proofs.«01_k».proof.Proof.KI.Picks

@[expose] public section

set_option maxRecDepth 16384

/-! The best entry of each column after a pick, found by going through the whole column. -/

noncomputable section

namespace Cert.KernelIdeal.Hand

open Cert.KernelIdeal Cert.KernelIdeal.Gen Cert.Rank Cert.Folds
open scoped Classical
open Idealize.ShloMosaic Idealize.ShloMosaic.TcCoe Idealize.ShloMosaic.Tactic

/-- The entry if it comes after the pick, else the value of no entry. -/
def cand (val v : EReal) (jv jp : BitVec 32) : EReal :=
  Scalar.select (IntOp.ori (BitVec.ofBool (decide (val < v))) (IntOp.andi (BitVec.ofBool (decide (val = v))) (IntOp.cmpi .sgt jv jp))) val NEG

/-- Whether the entry replaces the best so far. -/
def takes (val v nv : EReal) (jv jp nj : BitVec 32) : BitVec 1 :=
  IntOp.ori (BitVec.ofBool (decide (nv < cand val v jv jp))) (IntOp.andi (BitVec.ofBool (decide (cand val v jv jp = nv))) (IntOp.cmpi .slt jv nj))

/-- The order of two index words is the order of the indices. -/
theorem slt_one {a b : ℕ} (ha : a < 100000) (hb : b < 100000) : IntOp.cmpi .slt (BitVec.ofNat 32 a) (BitVec.ofNat 32 b) = 1#1 ↔ a < b := by word_cmp
/-- The same with the sides exchanged. -/
theorem sgt_one {a b : ℕ} (ha : a < 100000) (hb : b < 100000) : IntOp.cmpi .sgt (BitVec.ofNat 32 a) (BitVec.ofNat 32 b) = 1#1 ↔ b < a := by word_cmp

section
variable {y : Fin 100000 → EReal} {E : Finset (Fin 100000)} {e g : Fin 100000} {k : ℕ} {v nv : EReal} {nj : BitVec 32}

/-- An entry is a candidate exactly when its rank is above the pick's. -/
theorem cand_eq (hg : pos y g = k) : cand (y e) (y g) (BitVec.ofNat 32 e.val) (BitVec.ofNat 32 g.val) = if k < pos y e then y e else NEG := by
  have : (IntOp.ori (BitVec.ofBool (decide (y e < y g))) (IntOp.andi (BitVec.ofBool (decide (y e = y g)))
      (IntOp.cmpi .sgt (BitVec.ofNat 32 e.val) (BitVec.ofNat 32 g.val))) = 1#1) ↔ k < pos y e := by
    rw [ori_one, andi_one, ofBool_one, ofBool_one, sgt_one e.isLt g.isLt, ← hg, pos_lt_iff]
    unfold Before
    rw [eq_comm, Fin.lt_def]
  unfold cand
  split_ifs with h
  · rw [select_pos (this.2 h)]
  · rw [select_neg fun h' => h (this.1 h')]

/-- One entry of the column, put to the best so far. -/
theorem best_step (hneg : ∀ i, NEG < y i) (hg : pos y g = k) (hE : ∀ i ∈ E, i < e) (h : Best y NEG E k nv nj) :
    Best y NEG (insert e E) k
      (Scalar.select (takes (y e) (y g) nv (BitVec.ofNat 32 e.val) (BitVec.ofNat 32 g.val) nj) (cand (y e) (y g) (BitVec.ofNat 32 e.val) (BitVec.ofNat 32 g.val)) nv)
      (Scalar.select (takes (y e) (y g) nv (BitVec.ofNat 32 e.val) (BitVec.ofNat 32 g.val) nj) (BitVec.ofNat 32 e.val) nj) := by
  have ht : takes (y e) (y g) nv (BitVec.ofNat 32 e.val) (BitVec.ofNat 32 g.val) nj = 1#1
      ↔ nv < cand (y e) (y g) (BitVec.ofNat 32 e.val) (BitVec.ofNat 32 g.val)
        ∨ (cand (y e) (y g) (BitVec.ofNat 32 e.val) (BitVec.ofNat 32 g.val) = nv ∧ IntOp.cmpi .slt (BitVec.ofNat 32 e.val) nj = 1#1) := by
    unfold takes
    rw [ori_one, andi_one, ofBool_one, ofBool_one]
  rw [cand_eq hg] at ht ⊢
  by_cases hk : k < pos y e
  · rw [if_pos hk] at ht ⊢
    by_cases hv : nv < y e
    · rw [select_pos (ht.2 (.inl hv)), select_pos (ht.2 (.inl hv))]
      exact best_new hneg hE h hk hv
    · have : ¬ takes (y e) (y g) nv (BitVec.ofNat 32 e.val) (BitVec.ofNat 32 g.val) nj = 1#1 := by
        rw [ht]
        rintro (h' | ⟨h', h''⟩)
        · exact hv h'
        · rcases h with ⟨i, hi, -, -, -, rfl⟩ | ⟨-, rfl⟩
          · rw [slt_one e.isLt i.isLt] at h''
            have := hE i hi; rw [Fin.lt_def] at this; omega
          · exact absurd h'.symm (hneg e).ne
      rw [select_neg this, select_neg this]
      exact best_old hneg hE h fun _ => hv
  · rw [if_neg hk] at ht ⊢
    by_cases hT : takes (y e) (y g) nv (BitVec.ofNat 32 e.val) (BitVec.ofNat 32 g.val) nj = 1#1
    · rw [select_pos hT, select_pos hT]
      have hnv : NEG = nv := by
        rcases ht.1 hT with h' | ⟨h', -⟩
        · exact absurd h' (h.neg_le hneg).not_gt
        · exact h'
      subst hnv
      refine .inr ⟨fun i hi => ?_, rfl⟩
      rcases Finset.mem_insert.1 hi with rfl | hi
      · omega
      · rcases h with ⟨i₀, -, -, -, h, -⟩ | ⟨h, -⟩
        · exact absurd h (hneg i₀).ne
        · exact h i hi
    · rw [select_neg hT, select_neg hT]
      exact best_old hneg hE h fun h' => absurd h' hk

/-- A masked entry changes nothing that is read. -/
theorem best_masked (hneg : ∀ i, NEG < y i) (h : Best y NEG E k nv nj) (jv jp : BitVec 32) (hnv : NEG < nv) :
    Best y NEG E k (Scalar.select (takes NEG v nv jv jp nj) (cand NEG v jv jp) nv) (Scalar.select (takes NEG v nv jv jp nj) jv nj) := by
  have hc : cand NEG v jv jp = NEG := by unfold cand Scalar.select; exact ite_self _
  have ht : ¬ takes NEG v nv jv jp nj = 1#1 := by
    unfold takes
    rw [ori_one, andi_one, ofBool_one, ofBool_one, hc]
    rintro (h | ⟨h, -⟩)
    · exact absurd h hnv.le.not_gt
    · exact absurd h hnv.ne
  rw [select_neg ht, select_neg ht]; exact h

end

/-! ## The loop over the slices -/

/-- The indices of column `c` below `1024 · n`. -/
def colBelow (n : ℕ) (c : Fin 1024) : Finset (Fin 100000) := Finset.univ.filter fun i => i.val % 1024 = c.val ∧ i.val < 1024 * n

/-- An index is among a column's first slices when its remainder is the column and it lies below their end. -/
theorem mem_colBelow {n : ℕ} {c : Fin 1024} {i : Fin 100000} : i ∈ colBelow n c ↔ i.val % 1024 = c.val ∧ i.val < 1024 * n := by simp [colBelow]

/-- Each further slice gives a column one more index. -/
theorem colBelow_succ (n : ℕ) (h : n < 97) (c : Fin 1024) : colBelow (n + 1) c = insert ⟨1024 * n + c.val, by omega⟩ (colBelow n c) := by
  ext i; rw [Finset.mem_insert, mem_colBelow, mem_colBelow, Fin.ext_iff]; dsimp only; omega

/-- That index lies above all those before it. -/
theorem colBelow_lt (n : ℕ) (h : n < 97) (c : Fin 1024) : ∀ i ∈ colBelow n c, i < (⟨1024 * n + c.val, by omega⟩ : Fin 100000) := by
  intro i hi; rw [mem_colBelow] at hi; rw [Fin.lt_def]; dsimp only; omega

/-- There are 97 full slices. -/
theorem t3_trips : k0_t3_loop.trips = 97 := by decide +kernel

/-- Slice `k` starts at row 0 and column `1024 k`. -/
theorem off1_val : ∀ k : Fin k0_t3_loop.trips, k0_off1 k 0 = 0 ∧ k0_off1 k 1 = 1024 * k.val := by decide +kernel

/-- A slice's entry is the row's entry at the slice's offset. -/
theorem sliceAt_apply (x : FVec Ideal S16x100000 .f32) (k : Fin k0_t3_loop.trips) (r : Fin 16) (c : Fin 1024) (h : 1024 * k.val + c.val < 100000) :
    sliceAt (F := Ideal) x k (ix2 r c) = row x r ⟨1024 * k.val + c.val, h⟩ := by
  pointwise [sliceAt]
  refine congrArg x ?_
  obtain ⟨h0, h1⟩ := off1_val k
  refine (ix2_inj ..).2 ⟨Fin.ext ?_, Fin.ext ?_⟩
  · dsimp only; omega
  · dsimp only; omega

/-- The slow loop's greatest head is the fast loop's. -/
theorem pay2_eq (cm : FVec Ideal S16x1024 .f32) : k0_pay2 (F := Ideal) cm = k0_pay985 (F := Ideal) cm := rfl
/-- The slow loop's picked index is the fast loop's. -/
theorem pay3_eq (cm : FVec Ideal S16x1024 .f32) (j : IVec S16x1024 32) : k0_pay3 (F := Ideal) bigJ cm j = k0_pay986 (F := Ideal) cm j := rfl
/-- The slow loop's mark of the picked column is the fast loop's. -/
theorem pay4_eq (cm : FVec Ideal S16x1024 .f32) (j : IVec S16x1024 32) : k0_pay4 (F := Ideal) bigJ cm j = k0_pay987 (F := Ideal) cm j := rfl

/-- A slice's indices. -/
theorem pay12_apply (k : Fin k0_t3_loop.trips) (r : Fin 16) (c : Fin 1024) : k0_pay12 col k (ix2 r c) = BitVec.ofNat 32 (1024 * k.val + c.val) := by
  unfold k0_pay12
  pointwise []
  rw [iv_ofNat]
  show IntOp.addi (IntOp.muli (BitVec.ofNat 32 k.val) (BitVec.ofNat 32 1024)) (BitVec.ofNat 32 c.val) = _
  rw [WordCmp.muli_ofNat, WordCmp.addi_ofNat, Nat.mul_comm]

/-- The best value after one more slice, entry by entry. -/
theorem pay15_apply (cm nv v : FVec Ideal S16x1024 .f32) (jE nj : IVec S16x1024 32) (k : Fin k0_t3_loop.trips) (r : Fin 16) (c : Fin 1024) :
    (k0_pay15 (F := Ideal) col bigJ cm jE k nv nj v (ix2 r c) : EReal)
      = Scalar.select (takes (v (ix2 r c)) (k0_pay985 (F := Ideal) cm (ix2 r 0)) (nv (ix2 r c)) (BitVec.ofNat 32 (1024 * k.val + c.val))
          (k0_pay986 (F := Ideal) cm jE (ix2 r 0)) (nj (ix2 r c)))
        (cand (v (ix2 r c)) (k0_pay985 (F := Ideal) cm (ix2 r 0)) (BitVec.ofNat 32 (1024 * k.val + c.val)) (k0_pay986 (F := Ideal) cm jE (ix2 r 0))) (nv (ix2 r c)) := by
  pointwise [k0_pay15, k0_pay14, k0_pay13, pay2_eq, pay3_eq, pay12_apply]
  rfl

/-- The best value's index after one more slice, entry by entry. -/
theorem pay16_apply (cm nv v : FVec Ideal S16x1024 .f32) (jE nj : IVec S16x1024 32) (k : Fin k0_t3_loop.trips) (r : Fin 16) (c : Fin 1024) :
    k0_pay16 (F := Ideal) col bigJ cm jE k nv nj v (ix2 r c)
      = Scalar.select (takes (v (ix2 r c)) (k0_pay985 (F := Ideal) cm (ix2 r 0)) (nv (ix2 r c)) (BitVec.ofNat 32 (1024 * k.val + c.val))
          (k0_pay986 (F := Ideal) cm jE (ix2 r 0)) (nj (ix2 r c)))
        (BitVec.ofNat 32 (1024 * k.val + c.val)) (nj (ix2 r c)) := by
  pointwise [k0_pay16, k0_pay14, k0_pay13, pay2_eq, pay3_eq, pay12_apply]
  rfl

section
variable {x : FVec Ideal S16x100000 .f32} {r : Fin 16} {k : ℕ} {cm : FVec Ideal S16x1024 .f32} {jE : IVec S16x1024 32} {g : Fin 100000}

/-- After some slices the best so far is the best of each column's indices there. -/
theorem next_best (hneg : ∀ i, NEG < row x r i) (hg : pos (row x r) g = k) (h : Heads x r k cm jE) (c : Fin 1024) : ∀ n : ℕ, n ≤ k0_t3_loop.trips →
    Best (row x r) NEG (colBelow n c) k ((next (F := Ideal) x cm jE n).1 (ix2 r c)) ((next (F := Ideal) x cm jE n).2 (ix2 r c))
  | 0, _ => by
    refine .inr ⟨fun i hi => ?_, ?_⟩
    · rw [mem_colBelow] at hi; omega
    · show k0_pay10 (F := Ideal) (ix2 r c) = NEG
      pointwise [k0_pay10]
  | n + 1, hn => by
    have ih := next_best hneg hg h c n (by omega)
    have h97 := t3_trips
    rw [next_succ (F := Ideal) x cm jE ⟨n, by omega⟩]
    dsimp only
    rw [pay15_apply, pay16_apply, pick_val hg h, pick_idx hg h, sliceAt_apply x ⟨n, by omega⟩ r c (by dsimp only; omega), colBelow_succ n (by omega)]
    exact best_step hneg hg (colBelow_lt n (by omega) c) ih

/-- What the loop and the last, overlapping slice find in column `c`. -/
theorem tail_head (hneg : ∀ i, NEG < row x r i) (hg : pos (row x r) g = k) (hk : k < 25) (h : Heads x r k cm jE) (c : Fin 1024) :
    Head (row x r) (colE c) (k + 1)
      (Scalar.select (k0_pay1004 (F := Ideal) (next (F := Ideal) x cm jE k0_t3_loop.trips).1 (next (F := Ideal) x cm jE k0_t3_loop.trips).2
        (k0_pay17 col) (k0_pay18 (F := Ideal) col bigJ cm jE (slice x 98976 (by omega))) (ix2 r c))
        (k0_pay18 (F := Ideal) col bigJ cm jE (slice x 98976 (by omega)) (ix2 r c)) ((next (F := Ideal) x cm jE k0_t3_loop.trips).1 (ix2 r c)))
      (Scalar.select (k0_pay1004 (F := Ideal) (next (F := Ideal) x cm jE k0_t3_loop.trips).1 (next (F := Ideal) x cm jE k0_t3_loop.trips).2
        (k0_pay17 col) (k0_pay18 (F := Ideal) col bigJ cm jE (slice x 98976 (by omega))) (ix2 r c))
        (k0_pay17 col (ix2 r c)) ((next (F := Ideal) x cm jE k0_t3_loop.trips).2 (ix2 r c))) := by
  have hn := next_best hneg hg h c k0_t3_loop.trips le_rfl
  generalize next (F := Ideal) x cm jE k0_t3_loop.trips = N at hn ⊢
  have hT : colBelow k0_t3_loop.trips c = colTo 96 c := by rw [t3_trips]; rfl
  rw [hT] at hn
  have h17 : k0_pay17 col (ix2 r c) = BitVec.ofNat 32 (98976 + c.val) := by
    pointwise [k0_pay17]
    exact WordCmp.addi_ofNat 98976 c.val
  have hcard : 97 ≤ (colTo 96 c).card := by
    have h : (Finset.univ.image fun w : Fin 97 => (⟨1024 * w.val + c.val, by omega⟩ : Fin 100000)) ⊆ colTo 96 c := by
      intro i hi
      obtain ⟨w, -, rfl⟩ := Finset.mem_image.1 hi
      rw [mem_colTo]; dsimp only; omega
    have := Finset.card_le_card h
    rwa [Finset.card_image_of_injective, Finset.card_univ, Fintype.card_fin] at this
    intro a b hab
    have := congrArg Fin.val hab
    dsimp only at this
    exact Fin.ext (by omega)
  by_cases hc : c.val < 352
  · have h18 : (k0_pay18 (F := Ideal) col bigJ cm jE (slice x 98976 (by omega)) (ix2 r c) : EReal)
        = cand NEG (k0_pay985 (F := Ideal) cm (ix2 r 0)) (BitVec.ofNat 32 (98976 + c.val)) (k0_pay986 (F := Ideal) cm jE (ix2 r 0)) := by
      pointwise [k0_pay18, pay2_eq, pay3_eq, h17]
      rw [select_pos (a := Ideal.ofBits FTy.f32 4286578687#32) (by word_cmp)]
      rfl
    have h4 : k0_pay1004 (F := Ideal) N.1 N.2 (k0_pay17 col) (k0_pay18 (F := Ideal) col bigJ cm jE (slice x 98976 (by omega))) (ix2 r c)
        = takes NEG (k0_pay985 (F := Ideal) cm (ix2 r 0)) (N.1 (ix2 r c)) (BitVec.ofNat 32 (98976 + c.val)) (k0_pay986 (F := Ideal) cm jE (ix2 r 0)) (N.2 (ix2 r c)) := by
      pointwise [k0_pay1004, h17, h18]
      rfl
    rw [h4, h18, h17, colE_low c hc]
    have hN : NEG < N.1 (ix2 r c) := by
      obtain ⟨i, -, -, -, hi, -⟩ := hn.head (by omega)
      rw [hi]; exact hneg i
    exact (best_masked hneg hn _ _ hN).head (by omega)
  · have h18 : (k0_pay18 (F := Ideal) col bigJ cm jE (slice x 98976 (by omega)) (ix2 r c) : EReal)
        = cand (row x r ⟨98976 + c.val, by omega⟩) (k0_pay985 (F := Ideal) cm (ix2 r 0)) (BitVec.ofNat 32 (98976 + c.val)) (k0_pay986 (F := Ideal) cm jE (ix2 r 0)) := by
      pointwise [k0_pay18, pay2_eq, pay3_eq, h17, slice_apply]
      rw [select_neg (b := x (ix2 r ⟨98976 + c.val, by omega⟩)) (by word_cmp)]
      rfl
    have h4 : k0_pay1004 (F := Ideal) N.1 N.2 (k0_pay17 col) (k0_pay18 (F := Ideal) col bigJ cm jE (slice x 98976 (by omega))) (ix2 r c)
        = takes (row x r ⟨98976 + c.val, by omega⟩) (k0_pay985 (F := Ideal) cm (ix2 r 0)) (N.1 (ix2 r c)) (BitVec.ofNat 32 (98976 + c.val))
          (k0_pay986 (F := Ideal) cm jE (ix2 r 0)) (N.2 (ix2 r c)) := by
      pointwise [k0_pay1004, h17, h18]
      rfl
    rw [h4, h18, h17, colE_high c hc, pick_val hg h, pick_idx hg h]
    refine (best_step hneg hg (colTo_last_lt c hc) hn).head ?_
    rw [Finset.card_insert_of_notMem (notMem_of_lt (colTo_last_lt c hc))]; omega

end

end Cert.KernelIdeal.Hand
-- ==== Proof.KI.Fast.lean ====
module

public import proofs.«01_k».proof.Proof.KI.Picks

@[expose] public section

set_option maxRecDepth 16384

/-! The picks from the stacks: right as long as no column has given three entries. -/

noncomputable section

namespace Cert.KernelIdeal.Hand

open Cert.KernelIdeal Cert.KernelIdeal.Gen Cert.Rank Cert.Folds
open scoped Classical
open Idealize.ShloMosaic Idealize.ShloMosaic.TcCoe Idealize.ShloMosaic.Tactic

/-- The state before trip `k` in row `r` while no column has given three entries. -/
structure FastOk (x : FVec Ideal S16x100000 .f32) (r : Fin 16) (k : ℕ) (a : FastAcc Ideal) : Prop where
  few : ∀ c, below (row x r) (colE c) k ≤ 2
  count : ∀ c, a.2.2.1 (ix2 r c) = BitVec.ofNat 32 (below (row x r) (colE c) k)
  heads : Heads x r k a.1 a.2.1
  stored : Stored x r k a.2.2.2.1 a.2.2.2.2.1 a.2.2.2.2.2.1 a.2.2.2.2.2.2

/-- Some column of row `r` has given three entries or more. -/
def Spent (r : Fin 16) (k : ℕ) (a : FastAcc Ideal) : Prop :=
  ∃ c : Fin 1024, ∃ n, 3 ≤ n ∧ n ≤ k ∧ a.2.2.1 (ix2 r c) = BitVec.ofNat 32 n

section
variable {x : FVec Ideal S16x100000 .f32} {r : Fin 16} {a : FastAcc Ideal}

/-- A column that has given nothing takes the first of the two next entries. -/
theorem sel_zero {α : Type} (p q s : α) : Scalar.select (IntOp.cmpi .eq (BitVec.ofNat 32 0) 0#32) p (Scalar.select (IntOp.cmpi .eq (BitVec.ofNat 32 0) 1#32) q s) = p := rfl
/-- A column that has given one entry takes the second of them. -/
theorem sel_one {α : Type} (p q s : α) : Scalar.select (IntOp.cmpi .eq (BitVec.ofNat 32 1) 0#32) p (Scalar.select (IntOp.cmpi .eq (BitVec.ofNat 32 1) 1#32) q s) = q := rfl

/-- The seven parts of one pick. -/
theorem fastStep_eq (k : Fin k0_t1_loop.trips) :
    (fastStep (F := Ideal) x k a).1 = k0_pay993 (F := Ideal) (top3 (F := Ideal) x).c3 (top3 (F := Ideal) x).c2 a.1 a.2.1 a.2.2.1 ∧
    (fastStep (F := Ideal) x k a).2.1 = k0_pay994 (F := Ideal) (top3 (F := Ideal) x).j3 (top3 (F := Ideal) x).j2 a.1 a.2.1 a.2.2.1 ∧
    (fastStep (F := Ideal) x k a).2.2.1 = k0_pay995 (F := Ideal) a.1 a.2.1 a.2.2.1 ∧
    (fastStep (F := Ideal) x k a).2.2.2.1 = k0_pay990 (F := Ideal) lane k a.1 a.2.2.2.1 ∧
    (fastStep (F := Ideal) x k a).2.2.2.2.1 = k0_pay991 (F := Ideal) lane k a.1 a.2.1 a.2.2.2.2.1 ∧
    (fastStep (F := Ideal) x k a).2.2.2.2.2.1 = k0_pay988 (F := Ideal) (top3 (F := Ideal) x).c1 (whole (F := Ideal) x) a.1 a.2.2.2.2.2.1 ∧
    (fastStep (F := Ideal) x k a).2.2.2.2.2.2 = k0_pay992 (F := Ideal) lane (top3 (F := Ideal) x).c1 (whole (F := Ideal) x) k a.1 a.2.2.2.2.2.1 a.2.2.2.2.2.2 := by
  simp only [fastStep, and_self]

/-- A pick adds one to the count of the column it is taken from. -/
theorem fastStep_count (k : Fin k0_t1_loop.trips) (c : Fin 1024) :
    (fastStep (F := Ideal) x k a).2.2.1 (ix2 r c) = IntOp.addi (a.2.2.1 (ix2 r c)) (BitVec.setWidth 32 (k0_pay987 (F := Ideal) a.1 a.2.1 (ix2 r c))) := by
  rw [(fastStep_eq (x := x) (a := a) k).2.2.1]
  pointwise [k0_pay995]

/-- A column that has given three entries stays so. -/
theorem spent_step (k : Fin k0_t1_loop.trips) (h : Spent r k.val a) : Spent r (k.val + 1) (fastStep (F := Ideal) x k a) := by
  obtain ⟨c, n, h3, hk, hn⟩ := h
  rcases (by decide : ∀ b : BitVec 1, b = 0#1 ∨ b = 1#1) (k0_pay987 (F := Ideal) a.1 a.2.1 (ix2 r c)) with hb | hb
  · refine ⟨c, n, h3, by omega, ?_⟩
    rw [fastStep_count, hb, hn]; exact addi_zero _
  · refine ⟨c, n + 1, by omega, by omega, ?_⟩
    rw [fastStep_count, hb, hn]; exact addi_one _

/-- A pick stores the entry of the next rank, its index and the running probability. -/
theorem fastStep_stored (k : Fin k0_t1_loop.trips) (hk : k.val < 100000) (h : FastOk x r k.val a) :
    Stored x r (k.val + 1) (fastStep (F := Ideal) x k a).2.2.2.1 (fastStep (F := Ideal) x k a).2.2.2.2.1 (fastStep (F := Ideal) x k a).2.2.2.2.2.1
      (fastStep (F := Ideal) x k a).2.2.2.2.2.2 := by
  have hg := pos_nthAt x r k.val hk
  refine h.stored.step (k0_pay985 (F := Ideal) a.1 (ix2 r 0)) (k0_pay986 (F := Ideal) a.1 a.2.1 (ix2 r 0)) (pick_val hg h.heads) (pick_idx hg h.heads)
    (fun l => ?_) (fun l => ?_) ?_ (fun l => ?_)
  · rw [(fastStep_eq (x := x) (a := a) k).2.2.2.1]
    pointwise [k0_pay990, k0_pay989]
    rw [iv_ofNat, at_lane l k.val hk]
  · rw [(fastStep_eq (x := x) (a := a) k).2.2.2.2.1]
    pointwise [k0_pay991, k0_pay989]
    rw [iv_ofNat, at_lane l k.val hk]
  · rw [(fastStep_eq (x := x) (a := a) k).2.2.2.2.2.1]
    pointwise [k0_pay988]
    rfl
  · rw [(fastStep_eq (x := x) (a := a) k).2.2.2.2.2.2]
    pointwise [k0_pay992, k0_pay989]
    rw [iv_ofNat, at_lane l k.val hk]
    rfl

/-- A pick keeps the state right while no column gives its third entry. -/
theorem fastStep_ok (hneg : ∀ i, NEG < row x r i) (k : Fin k0_t1_loop.trips) (hk : k.val < 100000) (h : FastOk x r k.val a)
    (hfew : ∀ c, below (row x r) (colE c) (k.val + 1) ≤ 2) : FastOk x r (k.val + 1) (fastStep (F := Ideal) x k a) := by
  have hg := pos_nthAt x r k.val hk
  refine ⟨hfew, fun c => ?_, fun c => ?_, fastStep_stored k hk h⟩
  · rw [fastStep_count, pick_eq hg h.heads, h.count, below_succ hg]
    split_ifs
    · exact addi_one _
    · rw [Nat.add_zero]; exact addi_zero _
  · have h1 : (fastStep (F := Ideal) x k a).1 (ix2 r c) = Scalar.select (k0_pay987 (F := Ideal) a.1 a.2.1 (ix2 r c))
        (Scalar.select (IntOp.cmpi .eq (a.2.2.1 (ix2 r c)) 0#32) ((top3 (F := Ideal) x).c2 (ix2 r c))
          (Scalar.select (IntOp.cmpi .eq (a.2.2.1 (ix2 r c)) 1#32) ((top3 (F := Ideal) x).c3 (ix2 r c)) NEG)) (a.1 (ix2 r c)) := by
      rw [(fastStep_eq (x := x) (a := a) k).1]
      pointwise [k0_pay993]
    have h2 : (fastStep (F := Ideal) x k a).2.1 (ix2 r c) = Scalar.select (k0_pay987 (F := Ideal) a.1 a.2.1 (ix2 r c))
        (Scalar.select (IntOp.cmpi .eq (a.2.2.1 (ix2 r c)) 0#32) ((top3 (F := Ideal) x).j2 (ix2 r c))
          (Scalar.select (IntOp.cmpi .eq (a.2.2.1 (ix2 r c)) 1#32) ((top3 (F := Ideal) x).j3 (ix2 r c)) 1073741824#32)) (a.2.1 (ix2 r c)) := by
      rw [(fastStep_eq (x := x) (a := a) k).2.1]
      pointwise [k0_pay994]
    rw [h1, h2, pick_eq hg h.heads, h.count]
    have hc := card_colE c
    obtain ⟨-, s2, s3⟩ := stack_top3 hneg c
    by_cases hgc : nthAt x r k.val ∈ colE c
    · rw [if_pos hgc, select_pos rfl, select_pos rfl]
      have hs := hfew c
      have hb := below_succ (E := colE c) hg
      rw [if_pos hgc] at hb
      rcases (by omega : below (row x r) (colE c) k.val = 0 ∨ below (row x r) (colE c) k.val = 1) with h0 | h0
      · rw [h0, sel_zero, sel_zero]
        have hb : below (row x r) (colE c) (k.val + 1) = 1 := by omega
        exact slot_head (hb.symm ▸ s2) (by omega)
      · rw [h0, sel_one, sel_one]
        have hb : below (row x r) (colE c) (k.val + 1) = 2 := by omega
        exact slot_head (hb.symm ▸ s3) (by omega)
    · rw [if_neg hgc, select_neg (by decide), select_neg (by decide)]
      exact (h.heads c).keep hg hgc

/-- After `k` picks the state is right, or some column has given three entries. -/
theorem fastStep_or (hneg : ∀ i, NEG < row x r i) (k : Fin k0_t1_loop.trips) (hk : k.val < 100000) (h : FastOk x r k.val a ∨ Spent r k.val a) :
    FastOk x r (k.val + 1) (fastStep (F := Ideal) x k a) ∨ Spent r (k.val + 1) (fastStep (F := Ideal) x k a) := by
  rcases h with h | h
  · by_cases hfew : ∀ c, below (row x r) (colE c) (k.val + 1) ≤ 2
    · exact .inl (fastStep_ok hneg k hk h hfew)
    · obtain ⟨c, hc⟩ := not_forall.1 hfew
      have hg := pos_nthAt x r k.val hk
      have hb := below_succ (E := colE c) hg
      refine .inr ⟨c, below (row x r) (colE c) (k.val + 1), by omega, below_le, ?_⟩
      rw [fastStep_count, pick_eq hg h.heads, h.count, hb]
      split_ifs
      · exact addi_one _
      · rw [Nat.add_zero]; exact addi_zero _
  · exact .inr (spent_step k h)

/-- The state the picks start from is right. -/
theorem fast_init (hneg : ∀ i, NEG < row x r i) : FastOk x r 0 (fastInit (F := Ideal) x) := by
  refine ⟨fun c => ?_, fun c => ?_, fun c => ?_, ⟨?_, ?_, ?_, ?_⟩⟩
  · rw [below_zero]; omega
  · rw [below_zero]
    show k0_pay980 (ix2 r c) = _
    pointwise [k0_pay980]
  · have hc := card_colE c
    obtain ⟨s1, -, -⟩ := stack_top3 hneg c
    refine slot_head (neg := NEG) ?_ ?_
    · rw [below_zero]; exact s1
    · rw [below_zero]; omega
  · intro l hl; omega
  · intro l hl; omega
  · show k0_pay983 (F := Ideal) (ix2 r 0) = 0
    pointwise [k0_pay983]
  · intro l hl; omega

end

end Cert.KernelIdeal.Hand
-- ==== Proof.KI.FastEnd.lean ====
module

public import proofs.«01_k».proof.Proof.KI.Fast

@[expose] public section

set_option maxRecDepth 16384

/-! The picks from the stacks after all trips: stored right, or the kernel sees that some column gave three entries. -/

noncomputable section

namespace Cert.KernelIdeal.Hand

open Cert.KernelIdeal Cert.KernelIdeal.Gen Cert.Rank Cert.Folds
open scoped Classical
open Idealize.ShloMosaic Idealize.ShloMosaic.TcCoe Idealize.ShloMosaic.Tactic

/-- Induction over the trips of a fold. -/
theorem fold_ind {σ : Type} {n : ℕ} (P : ℕ → σ → Prop) (g : Fin n → σ → σ) (init : σ) (h0 : P 0 init)
    (hs : ∀ (k : Fin n) a, P k.val a → P (k.val + 1) (g k a)) : P n (Scf.fold g init) := by
  rw [Scf.fold_eq]
  induction n with
  | zero => simpa using h0
  | succ n ih =>
    rw [List.finRange_succ_last, List.foldl_append, List.foldl_map]
    exact hs (Fin.last n) _ (ih (fun k => g k.castSucc) fun k a h => hs k.castSucc a h)

/-- There are 25 picks. -/
theorem t1_trips : k0_t1_loop.trips = 25 := by decide +kernel

/-- After the 25 picks the state is right or some column has given three entries. -/
theorem fast_or {x : FVec Ideal S16x100000 .f32} {r : Fin 16} (hneg : ∀ i, NEG < row x r i) :
    FastOk x r 25 (fast (F := Ideal) x) ∨ Spent r 25 (fast (F := Ideal) x) := by
  have h := fold_ind (fun k a => FastOk x r k a ∨ Spent r k a) (fastStep (F := Ideal) x) (fastInit x) (.inl (fast_init hneg))
    (fun k a h => fastStep_or hneg k (by have := k.isLt; have := t1_trips; omega) h)
  exact t1_trips ▸ h

/-- A positive number sets the bit that the kernel branches on. -/
theorem overflow_of_max {v : EReal} (h : 0 < v) :
    Scalar.cmpi .ne ((Scalar.extui (Scalar.cmpf (F := Ideal) (φ := .f32) .ogt v (Scalar.ofBits (F := Ideal) .f32 0x00000000#32)) : BitVec 32)) 0#32 = 1#1 := by
  have h0 : (Scalar.ofBits (F := Ideal) .f32 0x00000000#32 : EReal) = 0 := by
    show Ideal.ofBits .f32 0x00000000#32 = 0
    simp [Ideal.ofBits, Ideal.ieee]
  have : Scalar.cmpf (F := Ideal) (φ := .f32) .ogt v (Scalar.ofBits (F := Ideal) .f32 0x00000000#32) = 1#1 := by
    rw [h0]
    exact (ofBool_one _).2 h
  rw [this]; rfl

/-- If a column of some row gave three entries, the kernel sees it. -/
theorem overflow_of_spent {x : FVec Ideal S16x100000 .f32} {r : Fin 16} (h : Spent r 25 (fast (F := Ideal) x)) : overflow (F := Ideal) x = 1#1 := by
  refine overflow_of_max ?_
  unfold k0_pay999
  pointwise []
  obtain ⟨c, n, h3, h25, hn⟩ := h
  refine lt_of_lt_of_le (zero_lt_one (α := EReal)) (le_trans ?_ (le_fold (r, c)))
  dsimp only
  rw [hn, select_pos (by word_cmp)]

/-- Where the kernel sees no such column, every row's picks are stored. -/
theorem fast_stored {x : FVec Ideal S16x100000 .f32} {r : Fin 16} (hneg : ∀ i, NEG < row x r i) (h : overflow (F := Ideal) x ≠ 1#1) :
    Stored x r 25 (fast (F := Ideal) x).2.2.2.1 (fast (F := Ideal) x).2.2.2.2.1 (fast (F := Ideal) x).2.2.2.2.2.1 (fast (F := Ideal) x).2.2.2.2.2.2 :=
  ((fast_or hneg).resolve_right fun hs => h (overflow_of_spent hs)).stored

end Cert.KernelIdeal.Hand
-- ==== Proof.KI.SlowPicks.lean ====
module

public import proofs.«01_k».proof.Proof.KI.Next
public import proofs.«01_k».proof.Proof.KI.FastEnd

@[expose] public section

set_option maxRecDepth 16384

/-! The picks from the whole columns, and the picks the sample is drawn from. -/

noncomputable section

namespace Cert.KernelIdeal.Hand

open Cert.KernelIdeal Cert.KernelIdeal.Gen Cert.Rank Cert.Folds
open scoped Classical
open Idealize.ShloMosaic Idealize.ShloMosaic.TcCoe Idealize.ShloMosaic.Tactic

/-- The state before trip `k` in row `r`. -/
structure SlowOk (x : FVec Ideal S16x100000 .f32) (r : Fin 16) (k : ℕ) (a : SlowAcc Ideal) : Prop where
  heads : Heads x r k a.1 a.2.1
  stored : Stored x r k a.2.2.1 a.2.2.2.1 a.2.2.2.2.1 a.2.2.2.2.2

/-- There are 25 picks. -/
theorem t2_trips : k0_t2_loop.trips = 25 := by decide +kernel

section
variable {x : FVec Ideal S16x100000 .f32} {r : Fin 16} {a : SlowAcc Ideal}

/-- A pick stores the entry of the next rank, its index and the running probability. -/
theorem slowStep_stored (m s : FVec Ideal S16x1 .f32) (hm : m = rowMax (F := Ideal) x) (hs : s = rowSum (F := Ideal) x) (k : Fin k0_t2_loop.trips) (hk : k.val < 100000) (h : SlowOk x r k.val a) :
    Stored x r (k.val + 1) (slowStep (F := Ideal) x m s k a).2.2.1 (slowStep (F := Ideal) x m s k a).2.2.2.1 (slowStep (F := Ideal) x m s k a).2.2.2.2.1
      (slowStep (F := Ideal) x m s k a).2.2.2.2.2 := by
  have hg := pos_nthAt x r k.val hk
  refine h.stored.step (k0_pay985 (F := Ideal) a.1 (ix2 r 0)) (k0_pay986 (F := Ideal) a.1 a.2.1 (ix2 r 0)) (pick_val hg h.heads) (pick_idx hg h.heads)
    (fun l => ?_) (fun l => ?_) ?_ (fun l => ?_)
  · simp only [slowStep]
    pointwise [k0_pay7, k0_pay6, pay2_eq]
    rw [iv_ofNat, at_lane l k.val hk]
  · simp only [slowStep]
    pointwise [k0_pay8, k0_pay6, pay3_eq]
    rw [iv_ofNat, at_lane l k.val hk]
  · subst hm hs
    simp only [slowStep]
    pointwise [k0_pay5, pay2_eq]
    rfl
  · simp only [slowStep]
    pointwise [k0_pay9, k0_pay6]
    rw [iv_ofNat, at_lane l k.val hk]

/-- A pick keeps the state of the slow loop right. -/
theorem slowStep_ok (hneg : ∀ i, NEG < row x r i) (m s : FVec Ideal S16x1 .f32) (hm : m = rowMax (F := Ideal) x) (hs : s = rowSum (F := Ideal) x)
    (k : Fin k0_t2_loop.trips) (h : SlowOk x r k.val a) : SlowOk x r (k.val + 1) (slowStep (F := Ideal) x m s k a) := by
  have hk : k.val < 25 := by have := k.isLt; have := t2_trips; omega
  have hg := pos_nthAt x r k.val (by omega)
  refine ⟨fun c => ?_, slowStep_stored m s hm hs k (by omega) h⟩
  have ht := tail_head hneg hg hk h.heads c
  have h1 : ((slowStep (F := Ideal) x m s k a).1 (ix2 r c) : EReal) = Scalar.select (k0_pay987 (F := Ideal) a.1 a.2.1 (ix2 r c))
      (Scalar.select (k0_pay1004 (F := Ideal) (next (F := Ideal) x a.1 a.2.1 k0_t3_loop.trips).1 (next (F := Ideal) x a.1 a.2.1 k0_t3_loop.trips).2
        (k0_pay17 col) (k0_pay18 (F := Ideal) col bigJ a.1 a.2.1 (slice x 98976 (by omega))) (ix2 r c))
        (k0_pay18 (F := Ideal) col bigJ a.1 a.2.1 (slice x 98976 (by omega)) (ix2 r c)) ((next (F := Ideal) x a.1 a.2.1 k0_t3_loop.trips).1 (ix2 r c))) (a.1 (ix2 r c)) := by
    simp only [slowStep]
    pointwise [k0_pay1005, pay4_eq]
  have h2 : (slowStep (F := Ideal) x m s k a).2.1 (ix2 r c) = Scalar.select (k0_pay987 (F := Ideal) a.1 a.2.1 (ix2 r c))
      (Scalar.select (k0_pay1004 (F := Ideal) (next (F := Ideal) x a.1 a.2.1 k0_t3_loop.trips).1 (next (F := Ideal) x a.1 a.2.1 k0_t3_loop.trips).2
        (k0_pay17 col) (k0_pay18 (F := Ideal) col bigJ a.1 a.2.1 (slice x 98976 (by omega))) (ix2 r c))
        (k0_pay17 col (ix2 r c)) ((next (F := Ideal) x a.1 a.2.1 k0_t3_loop.trips).2 (ix2 r c))) (a.2.1 (ix2 r c)) := by
    simp only [slowStep]
    pointwise [k0_pay1006, pay4_eq]
  rw [h1, h2, pick_eq hg h.heads]
  by_cases hgc : nthAt x r k.val ∈ colE c
  · rw [if_pos hgc, select_pos rfl, select_pos rfl]; exact ht
  · rw [if_neg hgc, select_neg (by decide), select_neg (by decide)]
    exact (h.heads c).keep hg hgc

/-- The state the slow loop starts from is right. -/
theorem slow_init (hneg : ∀ i, NEG < row x r i) : SlowOk x r 0 (slowInit (F := Ideal) x) := by
  refine ⟨(fast_init hneg).heads, ⟨?_, ?_, ?_, ?_⟩⟩
  · intro l hl; omega
  · intro l hl; omega
  · show k0_pay1002 (F := Ideal) (ix2 r 0) = 0
    pointwise [k0_pay1002]
  · intro l hl; omega

/-- The state before every trip of the slow loop is right. -/
theorem slowAt_ok (hneg : ∀ i, NEG < row x r i) (m s : FVec Ideal S16x1 .f32) (hm : m = rowMax (F := Ideal) x) (hs : s = rowSum (F := Ideal) x) :
    ∀ k : ℕ, k ≤ k0_t2_loop.trips → SlowOk x r k (slowAt (F := Ideal) x m s (slowInit x) k)
  | 0, _ => by rw [slowAt_zero]; exact slow_init hneg
  | k + 1, h => by
    rw [slowAt_succ (F := Ideal) x m s (slowInit x) ⟨k, by omega⟩]
    exact slowStep_ok hneg m s hm hs ⟨k, by omega⟩ (slowAt_ok hneg m s hm hs k (by omega))

/-- After the slow loop the first 25 ranks are stored. -/
theorem slow_stored (hneg : ∀ i, NEG < row x r i) :
    Stored x r 25 (slow (F := Ideal) x).2.2.1 (slow (F := Ideal) x).2.2.2.1 (slow (F := Ideal) x).2.2.2.2.1 (slow (F := Ideal) x).2.2.2.2.2 := by
  have h := (slowAt_ok (r := r) hneg (rowMax (F := Ideal) x) (rowSum (F := Ideal) x) rfl rfl k0_t2_loop.trips le_rfl).stored
  exact t2_trips ▸ h

/-- The 25 picks the sample is drawn from: their values, indices and running probabilities. -/
structure Picked (x : FVec Ideal S16x100000 .f32) (r : Fin 16) (A : FVec Ideal S16x128 .f32) (J : IVec S16x128 32) (C : FVec Ideal S16x128 .f32) : Prop where
  val : ∀ l : Fin 128, l.val < 25 → A (ix2 r l) = row x r (nthAt x r l)
  idx : ∀ l : Fin 128, l.val < 25 → J (ix2 r l) = BitVec.ofNat 32 (nthAt x r l).val
  cum : ∀ l : Fin 128, l.val < 25 → C (ix2 r l) = partialSum x r (l + 1)

/-- Whichever loop is taken, the first 25 ranks are stored. -/
theorem picked (hneg : ∀ i, NEG < row x r i) : Picked x r (vals (F := Ideal) x) (idxs (F := Ideal) x) (cums (F := Ideal) x) := by
  unfold vals idxs cums
  by_cases ho : overflow (F := Ideal) x = 1#1
  · rw [if_pos ho, if_pos ho, if_pos ho]
    have h := slow_stored (x := x) (r := r) hneg
    refine ⟨fun l hl => ?_, fun l hl => ?_, fun l hl => ?_⟩
    · rw [← h.val l hl]; pointwise [k0_pay1007]
    · rw [← h.idx l hl]; pointwise [k0_pay1008]
    · rw [← h.cum l hl]; pointwise [k0_pay1009]
  · rw [if_neg ho, if_neg ho, if_neg ho]
    have h := fast_stored (x := x) (r := r) hneg ho
    refine ⟨fun l hl => ?_, fun l hl => ?_, fun l hl => ?_⟩
    · rw [← h.val l hl]; pointwise [k0_pay996]
    · rw [← h.idx l hl]; pointwise [k0_pay997]
    · rw [← h.cum l hl]; pointwise [k0_pay998]

end

end Cert.KernelIdeal.Hand
-- ==== Proof.Math.Threefry.lean ====
module

public import Idealize.ShloMosaic.PureOps
public import Idealize.ShloMosaic.PureOps.Ideal

@[expose] public section

/-! The random word of a counter: twenty rounds of Threefry-2x32 under a key, and the two words joined. -/

noncomputable section

namespace Cert.Threefry

open Idealize.ShloMosaic

/-- One round: add, rotate by `d` (`e` is 32 − `d`), exclusive or. -/
def mix (u : ArithUnit) (d e : BitVec 32) (s : BitVec 32 × BitVec 32) : BitVec 32 × BitVec 32 :=
  (IntOp.addi s.1 s.2, IntOp.xori (IntOp.ori (IntOp.shli u s.2 d) (IntOp.shrui u s.2 e)) (IntOp.addi s.1 s.2))

/-- The key added to the state, with the number of the addition. -/
def inject (a b n : BitVec 32) (s : BitVec 32 × BitVec 32) : BitVec 32 × BitVec 32 := (IntOp.addi s.1 a, IntOp.addi (IntOp.addi s.2 b) n)

/-- Four rounds. -/
def even (u : ArithUnit) (s : BitVec 32 × BitVec 32) : BitVec 32 × BitVec 32 := mix u 6#32 26#32 (mix u 26#32 6#32 (mix u 15#32 17#32 (mix u 13#32 19#32 s)))
/-- Four rounds with the other rotations. -/
def odd (u : ArithUnit) (s : BitVec 32 × BitVec 32) : BitVec 32 × BitVec 32 := mix u 24#32 8#32 (mix u 16#32 16#32 (mix u 29#32 3#32 (mix u 17#32 15#32 s)))

/-- The state after all rounds, from the counter `p` under the key `k0`, `k1`, whose third word is `k2`. -/
def state (u : ArithUnit) (k0 k1 k2 p : BitVec 32) : BitVec 32 × BitVec 32 :=
  inject k2 k0 5#32 (even u (inject k1 k2 4#32 (odd u (inject k0 k1 3#32 (even u (inject k2 k0 2#32 (odd u (inject k1 k2 1#32 (even u (k0, IntOp.addi p k1))))))))))

/-- The random word of the counter `p`. -/
def word (u : ArithUnit) (k0 k1 k2 p : BitVec 32) : BitVec 32 := IntOp.xori (state u k0 k1 k2 p).1 (state u k0 k1 k2 p).2

/-- The joined words of the state are the random word. -/
theorem xori_state (u : ArithUnit) (k0 k1 k2 p : BitVec 32) : IntOp.xori (state u k0 k1 k2 p).1 (state u k0 k1 k2 p).2 = word u k0 k1 k2 p := rfl

/-- A round is the same on the host and in the kernel. -/
theorem mix_place (u u' : ArithUnit) (d e : BitVec 32) (s : BitVec 32 × BitVec 32) (hd : d.toNat < 32) (he : e.toNat < 32) : mix u d e s = mix u' d e s := by
  simp only [mix, IntOp.shli, IntOp.shrui, if_pos hd, if_pos he]

/-- Four even rounds are the same on the host and in the kernel. -/
theorem even_place (u u' : ArithUnit) (s : BitVec 32 × BitVec 32) : even u s = even u' s := by
  unfold even
  rw [mix_place u u' 13#32 19#32 s (by decide) (by decide), mix_place u u' 15#32 17#32 _ (by decide) (by decide),
    mix_place u u' 26#32 6#32 _ (by decide) (by decide), mix_place u u' 6#32 26#32 _ (by decide) (by decide)]

/-- Four odd rounds are the same on the host and in the kernel. -/
theorem odd_place (u u' : ArithUnit) (s : BitVec 32 × BitVec 32) : odd u s = odd u' s := by
  unfold odd
  rw [mix_place u u' 17#32 15#32 s (by decide) (by decide), mix_place u u' 29#32 3#32 _ (by decide) (by decide),
    mix_place u u' 16#32 16#32 _ (by decide) (by decide), mix_place u u' 24#32 8#32 _ (by decide) (by decide)]

/-- The word is the same wherever it is computed. -/
theorem word_place (u u' : ArithUnit) (k0 k1 k2 p : BitVec 32) : word u k0 k1 k2 p = word u' k0 k1 k2 p := by
  unfold word state
  simp only [even_place u u', odd_place u u']

/-- The key added to the state, its number added to the key first. -/
def join (a b n : BitVec 32) (s : BitVec 32 × BitVec 32) : BitVec 32 × BitVec 32 := (IntOp.addi s.1 a, IntOp.addi s.2 (IntOp.addi b n))

/-- Adding the keys in the host's order is adding them in the kernel's. -/
theorem join_eq (a b n : BitVec 32) (s : BitVec 32 × BitVec 32) : join a b n s = inject a b n s :=
  Prod.ext rfl (BitVec.add_assoc s.2 b n).symm

/-- The state after all rounds, the number added to the key first. -/
def stateJoin (u : ArithUnit) (k0 k1 k2 p : BitVec 32) : BitVec 32 × BitVec 32 :=
  join k2 k0 5#32 (even u (join k1 k2 4#32 (odd u (join k0 k1 3#32 (even u (join k2 k0 2#32 (odd u (join k1 k2 1#32 (even u (k0, IntOp.addi p k1))))))))))

/-- The state with the keys added in the host's order is the state. -/
theorem stateJoin_eq (u : ArithUnit) (k0 k1 k2 p : BitVec 32) : stateJoin u k0 k1 k2 p = state u k0 k1 k2 p := by
  unfold stateJoin state
  simp only [join_eq]

/-- A word's float in [0, 1), moved off zero. -/
def unit01 (u : ArithUnit) (w : BitVec 32) : EReal :=
  max (Ideal.ofBits .f32 0x00800000#32)
    (Ideal.ofBits .f32 (IntOp.ori (IntOp.shrui u w 9#32) 1065353216#32) - Ideal.ofBits .f32 0x3F800000#32 + Ideal.ofBits .f32 0x00800000#32)

/-- The logarithm of minus the logarithm of a word's float: Gumbel noise but for its sign. -/
def loglog (u : ArithUnit) (w : BitVec 32) : EReal := Ideal.log (Ideal.ofBits .f32 0x00000000#32 - Ideal.log (unit01 u w))

/-- The noise of a word is the same on the host and in the kernel. -/
theorem loglog_place (u u' : ArithUnit) (w : BitVec 32) : loglog u w = loglog u' w := by
  simp only [loglog, unit01, IntOp.shrui, if_pos (by decide : (9#32 : BitVec 32).toNat < 32)]

end Cert.Threefry
-- ==== Proof.KI.Noise.lean ====
module

public import proofs.«01_k».proof.Proof.KI.Columns
public import proofs.«01_k».proof.Proof.Math.Threefry

@[expose] public section

set_option maxRecDepth 16384

/-! The kernel's random words: Threefry of each element's position in the whole array. -/

noncomputable section

namespace Cert.KernelIdeal.Hand

open Cert.KernelIdeal Cert.KernelIdeal.Gen Cert.Threefry
open Idealize.ShloMosaic Idealize.ShloMosaic.TcCoe Idealize.ShloMosaic.Tactic

/-- The position of entry `c` of row `r` of the block `a`, as the kernel counts it. -/
def counter (a : BitVec 32) (r : Fin 16) (c : ℕ) : BitVec 32 :=
  IntOp.addi (IntOp.muli (IntOp.addi (BitVec.ofNat 32 r.val) (Scalar.muli a 16#32)) 100000#32) (BitVec.ofNat 32 c)

/-- What the second draw's words start from. -/
theorem pay19_apply (a : BitVec 32) (r : Fin 16) (c : Fin 100000) : k0_pay19 a (ix2 r c) = IntOp.addi (counter a r c) 1697627890#32 := by
  pointwise [k0_pay19]
  rfl

/-- The state after four rounds, in the generator's own terms. -/
theorem gumV3_of (a : BitVec 32) (i : S16x100000.Idx) :
    ((gumV3 a).1 i, (gumV3 a).2 i) = inject 1697627890#32 3582179379#32 1#32 (even .vector (2877103387#32, k0_pay19 a i)) := by
  rfl

/-- The first four rounds of the second draw's words. -/
theorem gumV3_apply (a : BitVec 32) (r : Fin 16) (c : Fin 100000) :
    ((gumV3 a).1 (ix2 r c), (gumV3 a).2 (ix2 r c))
      = inject 1697627890#32 3582179379#32 1#32 (even .vector (2877103387#32, IntOp.addi (counter a r c) 1697627890#32)) := by
  rw [gumV3_of, pay19_apply]

/-- The next five rounds, and half of a sixth. -/
theorem gumV4_apply (x y : IVec S16x100000 32) (i : S16x100000.Idx) (T : BitVec 32 × BitVec 32)
    (hT : T = mix .vector 13#32 19#32 (inject 3582179379#32 2877103387#32 2#32 (odd .vector (x i, y i)))) :
    k0_pay38 x y i = T.2 ∧ k0_pay39 x y i = IntOp.addi T.1 T.2 ∧ k0_pay40 x y i = IntOp.shli .vector T.2 15#32 := by
  subst hT
  exact ⟨rfl, rfl, rfl⟩

/-- The rest of the sixth round, five more, and half of a twelfth. -/
theorem gumV5_apply (x y z : IVec S16x100000 32) (i : S16x100000.Idx) (T U : BitVec 32 × BitVec 32)
    (hx : x i = T.2) (hy : y i = IntOp.addi T.1 T.2) (hz : z i = IntOp.shli .vector T.2 15#32)
    (hU : U = mix .vector 16#32 16#32 (mix .vector 29#32 3#32 (mix .vector 17#32 15#32 (inject 2877103387#32 1697627890#32 3#32
      (mix .vector 6#32 26#32 (mix .vector 26#32 6#32 (mix .vector 15#32 17#32 T))))))) :
    k0_pay52 x y z k0_pay41 i = U.2 ∧ k0_pay53 x y z k0_pay41 i = IntOp.addi U.1 U.2 := by
  have h : mix .vector 15#32 17#32 T = (y i, IntOp.xori (IntOp.ori (z i) (IntOp.shrui .vector (x i) 17#32)) (y i)) := by
    rw [hx, hy, hz]; rfl
  rw [h] at hU
  subst hU
  exact ⟨rfl, rfl⟩

/-- The last rounds. -/
theorem gumV6_apply (x y : IVec S16x100000 32) (i : S16x100000.Idx) (U : BitVec 32 × BitVec 32) (hx : x i = U.2) (hy : y i = IntOp.addi U.1 U.2) :
    (k0_pay63 x y k0_pay54 i, k0_pay64 x y k0_pay54 i)
      = inject 3582179379#32 2877103387#32 5#32 (even .vector (inject 1697627890#32 3582179379#32 4#32 (mix .vector 24#32 8#32 U))) := by
  have h : mix .vector 24#32 8#32 U = (y i, IntOp.xori (IntOp.ori (IntOp.shli .vector (x i) 24#32) (IntOp.shrui .vector (x i) 8#32)) (y i)) := by
    rw [hx, hy]; rfl
  rw [h]
  rfl

/-- The second draw's state, over the vocabulary. -/
theorem gumV_apply (a : BitVec 32) (r : Fin 16) (c : Fin 100000) :
    ((gumV a).1 (ix2 r c), (gumV a).2 (ix2 r c)) = state .vector 2877103387#32 1697627890#32 3582179379#32 (counter a r c) := by
  obtain ⟨h1, h2, h3⟩ := gumV4_apply (gumV3 a).1 (gumV3 a).2 (ix2 r c) _ rfl
  obtain ⟨h4, h5⟩ := gumV5_apply (gumV4 a).1 (gumV4 a).2.1 (gumV4 a).2.2 (ix2 r c) _ _ h1 h2 h3 rfl
  have h6 := gumV6_apply (gumV5 a).1 (gumV5 a).2 (ix2 r c) _ h4 h5
  rw [gumV3_apply] at h6
  exact h6

/-- What the first draw's words start from. -/
theorem pay1012_apply (a : BitVec 32) (r : Fin 16) (l : Fin 128) : k0_pay1012 a lane (ix2 r l) = IntOp.addi (counter a r l) 2518116175#32 := by
  pointwise [k0_pay1012]
  rfl

/-- The three words kept after the first operations, entry by entry. -/
theorem gum39_apply (a : BitVec 32) (i : S16x128.Idx) :
    (gum39 a).1 i = IntOp.addi 1264997412#32 (k0_pay1012 a lane i) ∧ (gum39 a).2.1 i = IntOp.shli .vector (k0_pay1012 a lane i) 13#32
      ∧ (gum39 a).2.2 i = IntOp.shrui .vector (k0_pay1012 a lane i) 19#32 := ⟨rfl, rfl, rfl⟩

/-- Six rounds of the first draw's words. -/
theorem gum40_apply (x y z : IVec S16x128 32) (i : S16x128.Idx) (p : BitVec 32) (T : BitVec 32 × BitVec 32)
    (hx : x i = IntOp.addi 1264997412#32 p) (hy : y i = IntOp.shli .vector p 13#32) (hz : z i = IntOp.shrui .vector p 19#32)
    (hT : T = mix .vector 29#32 3#32 (mix .vector 17#32 15#32 (inject 2518116175#32 3332384945#32 1#32 (even .vector (1264997412#32, p))))) :
    k0_pay1026 x y z i = T.2 ∧ k0_pay1027 x y z i = IntOp.addi T.1 T.2 ∧ k0_pay1028 x y z i = IntOp.shli .vector T.2 16#32 := by
  have h : mix .vector 13#32 19#32 (1264997412#32, p) = (x i, IntOp.xori (IntOp.ori (y i) (z i)) (x i)) := by
    rw [hx, hy, hz]; rfl
  unfold even at hT
  rw [h] at hT
  subst hT
  exact ⟨rfl, rfl, rfl⟩

/-- Six more. -/
theorem gum41_apply (x y z : IVec S16x128 32) (i : S16x128.Idx) (T : BitVec 32 × BitVec 32)
    (hx : x i = T.2) (hy : y i = IntOp.addi T.1 T.2) (hz : z i = IntOp.shli .vector T.2 16#32) :
    (k0_pay1038 x y z i, k0_pay1039 x y z i)
      = even .vector (inject 3332384945#32 1264997412#32 2#32 (mix .vector 24#32 8#32 (mix .vector 16#32 16#32 T))) := by
  have h : mix .vector 16#32 16#32 T = (y i, IntOp.xori (IntOp.ori (z i) (IntOp.shrui .vector (x i) 16#32)) (y i)) := by
    rw [hx, hy, hz]; rfl
  rw [h]
  rfl

/-- Four more. -/
theorem gum42_apply (x y : IVec S16x128 32) (i : S16x128.Idx) (U : BitVec 32 × BitVec 32)
    (hU : U = inject 2518116175#32 3332384945#32 4#32 (odd .vector (inject 1264997412#32 2518116175#32 3#32 (x i, y i)))) :
    k0_pay1049 x y 1264997412#32 i = IntOp.addi U.1 U.2 ∧ k0_pay1050 x y 1264997412#32 i = IntOp.shli .vector U.2 13#32
      ∧ k0_pay1051 x y 1264997412#32 i = IntOp.shrui .vector U.2 19#32 := by
  subst hU
  exact ⟨rfl, rfl, rfl⟩

section
variable {F : FTy → Type} [FloatOps F]

/-- The kernel's operations from a random word on. -/
def tail (w : BitVec 32) : F .f32 :=
  FloatOps.log (FloatOps.subf (Scalar.ofBits (F := F) .f32 0x00000000#32) (FloatOps.log (FloatOps.maximumf (Scalar.ofBits (F := F) .f32 0x00800000#32)
    (FloatOps.addf (FloatOps.subf (FloatOps.ofBits .f32 (IntOp.ori (IntOp.shrui .vector w 9#32) 1065353216#32)) (Scalar.ofBits (F := F) .f32 0x3F800000#32))
      (Scalar.ofBits (F := F) .f32 0x00800000#32)))))

/-- The first draw's noise, in the generator's own terms. -/
theorem pay1052_of (x y z : IVec S16x128 32) (i : S16x128.Idx) :
    k0_pay1052 (F := F) x y z i = tail (F := F)
      (IntOp.xori (inject 3332384945#32 1264997412#32 5#32 (mix .vector 6#32 26#32 (mix .vector 26#32 6#32 (mix .vector 15#32 17#32
          (x i, IntOp.xori (IntOp.ori (y i) (z i)) (x i)))))).1
        (inject 3332384945#32 1264997412#32 5#32 (mix .vector 6#32 26#32 (mix .vector 26#32 6#32 (mix .vector 15#32 17#32
          (x i, IntOp.xori (IntOp.ori (y i) (z i)) (x i)))))).2) := by
  rfl

end

/-- The kernel's operations from a random word on are the noise of the word. -/
theorem tail_eq (w : BitVec 32) : (tail (F := Ideal) w : EReal) = loglog .vector w := by
  unfold tail loglog unit01
  rfl

/-- The float of a random word as the kernel takes it. -/
theorem pay1052_apply (x y z : IVec S16x128 32) (i : S16x128.Idx) (U : BitVec 32 × BitVec 32)
    (hx : x i = IntOp.addi U.1 U.2) (hy : y i = IntOp.shli .vector U.2 13#32) (hz : z i = IntOp.shrui .vector U.2 19#32) :
    k0_pay1052 (F := Ideal) x y z i = loglog .vector
      (IntOp.xori (inject 3332384945#32 1264997412#32 5#32 (even .vector U)).1 (inject 3332384945#32 1264997412#32 5#32 (even .vector U)).2) := by
  have h : mix .vector 13#32 19#32 U = (x i, IntOp.xori (IntOp.ori (y i) (z i)) (x i)) := by
    rw [hx, hy, hz]; rfl
  unfold even
  rw [h, pay1052_of, tail_eq]

/-- The first draw's noise, before its sign. -/
theorem gumTop_apply (a : BitVec 32) (r : Fin 16) (l : Fin 128) :
    gumTop (F := Ideal) a (ix2 r l) = loglog .vector (word .vector 1264997412#32 2518116175#32 3332384945#32 (counter a r l)) := by
  obtain ⟨h1, h2, h3⟩ := gum39_apply a (ix2 r l)
  rw [pay1012_apply] at h1 h2 h3
  obtain ⟨h4, h5, h6⟩ := gum40_apply (gum39 a).1 (gum39 a).2.1 (gum39 a).2.2 (ix2 r l) _ _ h1 h2 h3 rfl
  have h7 := gum41_apply (gum40 a).1 (gum40 a).2.1 (gum40 a).2.2 (ix2 r l) _ h4 h5 h6
  obtain ⟨h8, h9, h10⟩ := gum42_apply (gum41 a).1 (gum41 a).2 (ix2 r l) _ rfl
  have h11 := pay1052_apply (gum42 a).1 (gum42 a).2.1 (gum42 a).2.2 (ix2 r l) _ h8 h9 h10
  have h12 : ((gum41 a).1 (ix2 r l), (gum41 a).2 (ix2 r l)) = _ := h7
  rw [h12] at h11
  unfold gumTop
  rw [h11]
  unfold word state odd
  rfl

end Cert.KernelIdeal.Hand
-- ==== Proof.Math.Unit.lean ====
module

public import proofs.«01_k».proof.Proof.Math.Threefry
public import Idealize.ShloMosaic.Lib.Pointwise

@[expose] public section

/-! The range of the random floats: a word's float lies in the unit interval, off both ends, and minus its logarithm lies between 2⁻²⁴ and 126. -/

noncomputable section

namespace Cert.Threefry

open Idealize.ShloMosaic

/-- A pattern with the exponent of one denotes one plus its fraction. -/
theorem ofBits_fraction (a : ℕ) (h : a < 8388608) : Ideal.ofBits .f32 (BitVec.ofNat 32 (127 * 8388608 + a)) = ((1 + a / 8388608 : ℝ) : EReal) := by
  have e1 : ((BitVec.ofNat 32 (127 * 8388608 + a)).extractLsb' 31 1 == 1#1) = false := by
    rw [beq_eq_false_iff_ne]
    intro e
    have := congrArg BitVec.toNat e
    rw [BitVec.extractLsb'_toNat, BitVec.toNat_ofNat, Nat.shiftRight_eq_div_pow] at this
    norm_num at this; omega
  have e2 : ((BitVec.ofNat 32 (127 * 8388608 + a)).extractLsb' 23 8).toNat = 127 := by
    rw [BitVec.extractLsb'_toNat, BitVec.toNat_ofNat, Nat.shiftRight_eq_div_pow]; norm_num; omega
  have e3 : ((BitVec.ofNat 32 (127 * 8388608 + a)).extractLsb' 0 23).toNat = a := by
    rw [BitVec.extractLsb'_toNat, BitVec.toNat_ofNat, Nat.shiftRight_eq_div_pow]; norm_num; omega
  unfold Ideal.ofBits Ideal.ieee
  simp only [Nat.reduceAdd, e1, e2, e3]
  norm_num
  norm_cast
  field_simp
  push_cast
  ring

/-- The least positive normal float. -/
theorem ofBits_tiny : Ideal.ofBits .f32 0x00800000#32 = (((2 : ℝ) ^ (-126 : ℤ) : ℝ) : EReal) := by
  simp [Ideal.ofBits, Ideal.ieee]
  norm_num
  rw [← EReal.coe_mul]
  norm_num

/-- The float one. -/
theorem ofBits_one : Ideal.ofBits .f32 0x3F800000#32 = ((1 : ℝ) : EReal) := by
  simp

/-- The word's bits under the exponent of one. -/
theorem fraction_word (u : ArithUnit) (w : BitVec 32) :
    ∃ a : ℕ, a < 8388608 ∧ IntOp.ori (IntOp.shrui u w 9#32) 1065353216#32 = BitVec.ofNat 32 (127 * 8388608 + a) := by
  refine ⟨w.toNat / 512, by have := w.isLt; omega, ?_⟩
  apply BitVec.eq_of_toNat_eq
  have hw : w.toNat / 512 < 2 ^ 23 := by have := w.isLt; omega
  unfold IntOp.ori IntOp.shrui
  rw [if_pos (by decide : (9#32 : BitVec 32).toNat < 32)]
  simp only [BitVec.toNat_or, BitVec.toNat_ofNat]
  rw [show (w >>> (9#32 : BitVec 32)).toNat = w.toNat / 512 by simp [BitVec.toNat_ushiftRight, Nat.shiftRight_eq_div_pow], Nat.or_comm,
    show 1065353216 % 2 ^ 32 = 2 ^ 23 * 127 by norm_num, ← Nat.two_pow_add_eq_or_of_lt hw]
  omega

/-- The uniform number of a word lies between the least normal float and one less two to the minus 24. -/
theorem unit01_range (u : ArithUnit) (w : BitVec 32) : ∃ t : ℝ, unit01 u w = t ∧ (2 : ℝ) ^ (-126 : ℤ) ≤ t ∧ t ≤ 1 - (2 : ℝ) ^ (-24 : ℤ) := by
  obtain ⟨a, ha, hw⟩ := fraction_word u w
  have hle : (a : ℝ) ≤ 8388607 := by exact_mod_cast (by omega : a ≤ 8388607)
  have h0 : (0 : ℝ) ≤ a := Nat.cast_nonneg a
  refine ⟨max ((2 : ℝ) ^ (-126 : ℤ)) (1 + a / 8388608 - 1 + (2 : ℝ) ^ (-126 : ℤ)), ?_, le_max_left _ _, max_le (by norm_num) ?_⟩
  · unfold unit01
    rw [hw, ofBits_fraction a ha, ofBits_tiny, ofBits_one, ← EReal.coe_sub, ← EReal.coe_add]
    exact (EReal.coe_strictMono.monotone.map_max).symm
  · have : (a : ℝ) / 8388608 ≤ 8388607 / 8388608 := by gcongr
    norm_num at this ⊢; linarith

/-- The noise's inner logarithm: `loglog` is the logarithm of a real between 2⁻²⁴ and 126. -/
theorem loglog_range (u : ArithUnit) (w : BitVec 32) :
    ∃ t : ℝ, loglog u w = ((Real.log t : ℝ) : EReal) ∧ (2 : ℝ) ^ (-24 : ℤ) ≤ t ∧ t ≤ 126 := by
  obtain ⟨t, ht, h1, h2⟩ := unit01_range u w
  have hp : 0 < t := lt_of_lt_of_le (by positivity) h1
  have hlow : (2 : ℝ) ^ (-24 : ℤ) ≤ -Real.log t := by
    have := Real.log_le_sub_one_of_pos hp; linarith
  have hpos : 0 < -Real.log t := lt_of_lt_of_le (by positivity) hlow
  refine ⟨-Real.log t, ?_, hlow, ?_⟩
  · unfold loglog
    rw [ht, Ideal.ofBits_zero_f32, zero_sub]
    show Ideal.log (-(if t ≤ 0 then ⊥ else ((Real.log t : ℝ) : EReal))) = _
    rw [if_neg (not_le.2 hp), ← EReal.coe_neg]
    show (if -Real.log t ≤ 0 then ⊥ else ((Real.log (-Real.log t) : ℝ) : EReal)) = _
    rw [if_neg (not_le.2 hpos)]
  · have h3 : Real.log ((2 : ℝ) ^ (-126 : ℤ)) ≤ Real.log t := Real.log_le_log (by positivity) h1
    rw [Real.log_zpow] at h3
    have h4 : Real.log 2 ≤ 1 := by
      have := Real.log_le_sub_one_of_pos (by norm_num : (0 : ℝ) < 2); linarith
    push_cast at h3; linarith

end Cert.Threefry
-- ==== Proof.Math.Sampler.lean ====
module

public import proofs.«01_k».proof.Proof.Math.Threefry
public import proofs.«01_k».proof.Proof.Math.Unit
public import proofs.«01_k».proof.Proof.Math.Folds
public import proofs.«01_k».proof.Proof.Math.Rank

@[expose] public section

/-! The sampler on one row of logits `y`: the softmax, the kept ranks, and which kept rank the noise picks. -/

noncomputable section

namespace Cert.Sampler

open Idealize.ShloMosaic Cert.Rank Cert.Folds Finset
open scoped Classical

/-- The row's greatest logit. -/
def top (y : Fin 100000 → EReal) : EReal := fold max (Ideal.ofBits .f32 0xFF800000#32) y univ
/-- The softmax's denominator. -/
def total (y : Fin 100000 → EReal) : EReal := ∑ i, Ideal.exp (y i - top y)
/-- The softmax. -/
def prob (y : Fin 100000 → EReal) (i : Fin 100000) : EReal := Ideal.div (Ideal.exp (y i - top y)) (total y)
/-- The entry of rank `l`. -/
def nthOf (y : Fin 100000 → EReal) (l : ℕ) : Fin 100000 := if h : l < 100000 then nth y ⟨l, h⟩ else 0
/-- The sum of the `k` first probabilities in order of rank. -/
def cumul (y : Fin 100000 → EReal) : ℕ → EReal
  | 0 => 0
  | k + 1 => cumul y k + prob y (nthOf y k)
/-- Rank `l` is kept: among the first 25, and the first or within the nucleus. -/
def Kept (y : Fin 100000 → EReal) (l : ℕ) : Prop := l < 25 ∧ (cumul y (l + 1) ≤ Ideal.ofBits .f32 0x3F4CCCCD#32 ∨ l = 0)
/-- The probability of a kept rank, zero for the others. -/
def mass (y : Fin 100000 → EReal) (l : ℕ) : EReal := if Kept y l then prob y (nthOf y l) else 0
/-- The kept ranks' whole probability. -/
def massSum (y : Fin 100000 → EReal) : EReal := ∑ l ∈ range 25, mass y l
/-- The constant the logarithms are guarded with. -/
abbrev eps : EReal := Ideal.ofBits .f32 0x0DA24260#32
/-- A rank's score under the noise `n`. -/
def score (y : Fin 100000 → EReal) (n : ℕ → EReal) (l : ℕ) : EReal := Ideal.log (Ideal.div (mass y l) (massSum y) + eps) + -n l

/-- The first draw's noise at rank `l` of row `R`, but for its sign. -/
def firstNoise (R l : ℕ) : EReal := Threefry.loglog .host (Threefry.word .host 1264997412#32 2518116175#32 3332384945#32 (BitVec.ofNat 32 (R * 100000 + l)))
/-- The second draw's noise at entry `i` of row `R`, but for its sign. -/
def secondNoise (R i : ℕ) : EReal := Threefry.loglog .host (Threefry.word .host 2877103387#32 1697627890#32 3582179379#32 (BitVec.ofNat 32 (R * 100000 + i)))
/-- An entry's score in the second draw, under the noise `n`. -/
def rescore (y : Fin 100000 → EReal) (n : ℕ → EReal) (i : Fin 100000) : EReal := Ideal.log (prob y i + eps) + -n i
/-- The second draw: the first entry whose score is greatest. -/
def redraw (y : Fin 100000 → EReal) (n : ℕ → EReal) : BitVec 32 :=
  fold IntOp.minsi 2147483647#32
    (fun i => if rescore y n i = fold max (Ideal.ofBits .f32 0xFF800000#32) (rescore y n) univ then BitVec.ofNat 32 i.val else 100000#32) univ
/-- The row's result when the first draw is rank `p`: the entry of that rank, or where it repeats a recent token the second draw. -/
def answer (y : Fin 100000 → EReal) (n : ℕ → EReal) (recent : BitVec 32 → Prop) (p : ℕ) : BitVec 32 :=
  if recent (BitVec.ofNat 32 (nthOf y p).val) then redraw y n else BitVec.ofNat 32 (nthOf y p).val

/-- Ranks from 25 on have no mass. -/
theorem mass_of_le (y : Fin 100000 → EReal) {l : ℕ} (h : 25 ≤ l) : mass y l = 0 := if_neg fun e => by have := e.1; omega

/-- The kept ranks' whole probability, summed over any longer range. -/
theorem sum_mass (y : Fin 100000 → EReal) {n : ℕ} (h : 25 ≤ n) : ∑ l : Fin n, mass y l = massSum y := by
  rw [Fin.sum_univ_eq_sum_range (mass y) n]
  refine (sum_subset (range_subset_range.2 h) fun l _ hl => mass_of_le y ?_).symm
  rw [mem_range] at hl; omega

/-- A sum of reals, read in the extended reals. -/
theorem coe_sum {ι : Type*} (s : Finset ι) (f : ι → ℝ) : ((∑ i ∈ s, f i : ℝ) : EReal) = ∑ i ∈ s, (f i : EReal) := by
  induction s using Finset.induction_on with
  | empty => simp
  | insert a s ha ih => rw [sum_insert ha, sum_insert ha, EReal.coe_add, ih]

/-- A quotient of reals, read in the extended reals. -/
theorem div_real {a b : ℝ} (h : b ≠ 0) : Ideal.div (a : EReal) (b : EReal) = ((a / b : ℝ) : EReal) := by
  rw [Ideal.div_coe h, ← EReal.coe_mul, mul_one_div]

/-- The probabilities are positive reals, ordered as the logits are. -/
theorem prob_real (y : Fin 100000 → EReal) (hy : ∀ i, ∃ r : ℝ, y i = r) :
    ∃ p : Fin 100000 → ℝ, (∀ i, prob y i = p i) ∧ (∀ i, 0 < p i) ∧ ∀ i j, p i < p j ↔ y i < y j := by
  choose z hz using hy
  obtain ⟨g, -, hg⟩ := exists_max_image univ z ⟨0, mem_univ _⟩
  have ht : top y = z g := by
    refine fold_max_eq (by rw [ofBits_bot]; exact bot_le) (fun c => ?_) g (hz g)
    rw [hz]; exact EReal.coe_le_coe_iff.2 (hg c (mem_univ _))
  have he : ∀ i, Ideal.exp (y i - top y) = ((Real.exp (z i - z g) : ℝ) : EReal) := fun i => by
    rw [hz, ht, ← EReal.coe_sub, Ideal.exp_coe]
  have hs : total y = ((∑ i, Real.exp (z i - z g) : ℝ) : EReal) := by
    rw [coe_sum]; exact sum_congr rfl fun i _ => he i
  have hp : 0 < ∑ i, Real.exp (z i - z g) := sum_pos (fun i _ => Real.exp_pos _) ⟨0, mem_univ _⟩
  refine ⟨fun i => Real.exp (z i - z g) / ∑ j, Real.exp (z j - z g), fun i => ?_, fun i => div_pos (Real.exp_pos _) hp, fun i j => ?_⟩
  · unfold prob; rw [he, hs, div_real hp.ne']
  · rw [div_lt_div_iff_of_pos_right hp, Real.exp_lt_exp, hz, hz, EReal.coe_lt_coe_iff, sub_lt_sub_iff_right]

/-- Ranks by probability are ranks by logit. -/
theorem before_prob (y : Fin 100000 → EReal) (hy : ∀ i, ∃ r : ℝ, y i = r) (i j : Fin 100000) : Before (prob y) i j ↔ Before y i j := by
  obtain ⟨p, hp, -, hm⟩ := prob_real y hy
  have h1 : ∀ i j, prob y i < prob y j ↔ y i < y j := fun i j => by rw [hp, hp, EReal.coe_lt_coe_iff, hm]
  have h2 : prob y i = prob y j ↔ y i = y j := by
    constructor <;> intro h <;> refine le_antisymm (not_lt.1 fun e => ?_) (not_lt.1 fun e => ?_)
    · exact absurd h ((h1 _ _).2 e).ne'
    · exact absurd h ((h1 _ _).2 e).ne
    · exact absurd h ((h1 _ _).1 e).ne'
    · exact absurd h ((h1 _ _).1 e).ne
  unfold Before
  rw [h1, h2]

/-- The entry of rank zero is the greatest. -/
theorem nthOf_le (y : Fin 100000 → EReal) (l : ℕ) (h : l < 100000) : y (nthOf y l) ≤ y (nthOf y 0) := by
  rcases Nat.eq_zero_or_pos l with rfl | hl
  · exact le_rfl
  · unfold nthOf
    rw [dif_pos h, dif_pos (by norm_num)]
    have : pos y (nth y ⟨0, by norm_num⟩) < pos y (nth y ⟨l, h⟩) := by rw [pos_nth, pos_nth]; exact hl
    rcases pos_lt_iff.1 this with h | h
    · exact h.le
    · exact h.1.ge

/-- The first rank is always kept. -/
theorem kept_zero (y : Fin 100000 → EReal) : Kept y 0 := ⟨by norm_num, .inr rfl⟩

/-- The number added under the logarithm is positive and very small. -/
theorem eps_range : ∃ e : ℝ, eps = e ∧ 0 < e ∧ e ≤ (2 : ℝ) ^ (-99 : ℤ) := by
  refine ⟨10633824 * (2 : ℝ) ^ (-123 : ℤ), ?_, by positivity, by norm_num⟩
  simp [Ideal.ofBits, Ideal.ieee]

/-- The least finite float is far below every score. -/
theorem neg_range : Ideal.ofBits .f32 0xFF7FFFFF#32 < ((-3150 : ℝ) : EReal) := by
  have : Ideal.ofBits .f32 0xFF7FFFFF#32 = ((-(16777215 * (2 : ℝ) ^ (104 : ℤ)) : ℝ) : EReal) := by
    simp [Ideal.ofBits, Ideal.ieee]
  rw [this, EReal.coe_lt_coe_iff]; norm_num

/-- What the noise picks: the first kept rank whose score is greatest. Ranks that are not kept score less. -/
structure Chosen (y : Fin 100000 → EReal) (n : ℕ → EReal) (p : ℕ) : Prop where
  kept : Kept y p
  le : ∀ l, Kept y l → score y n l ≤ score y n p
  first : ∀ l, l < p → Kept y l → score y n l < score y n p
  out : ∀ l, ¬ Kept y l → score y n l < score y n p
  floor : Ideal.ofBits .f32 0xFF7FFFFF#32 < score y n p

/-- With noise in the stated range some rank is chosen. -/
theorem exists_chosen (y : Fin 100000 → EReal) (hy : ∀ i, ∃ r : ℝ, y i = r) (n : ℕ → EReal)
    (hn : ∀ l, ∃ t : ℝ, n l = ((Real.log t : ℝ) : EReal) ∧ (2 : ℝ) ^ (-24 : ℤ) ≤ t ∧ t ≤ 126) : ∃ p, Chosen y n p := by
  obtain ⟨q, hq, hq0, hqm⟩ := prob_real y hy
  obtain ⟨e, he, he0, he1⟩ := eps_range
  choose t hnt ht0 ht1 using hn
  have htp : ∀ l, 0 < t l := fun l => lt_of_lt_of_le (by positivity) (ht0 l)
  let m : ℕ → ℝ := fun l => if Kept y l then q (nthOf y l) else 0
  have hm : ∀ l, mass y l = m l := fun l => by
    simp only [mass, m]; split_ifs
    · exact hq _
    · rfl
  have hm0 : ∀ l, 0 ≤ m l := fun l => by simp only [m]; split_ifs; exacts [(hq0 _).le, le_rfl]
  have hmz : m 0 = q (nthOf y 0) := if_pos (kept_zero y)
  have hmz0 : 0 < m 0 := hmz ▸ hq0 _
  have hmle : ∀ l ∈ range 25, m l ≤ m 0 := fun l hl => by
    rw [mem_range] at hl
    by_cases h : Kept y l
    · rw [hmz]; simp only [m]; rw [if_pos h]
      exact not_lt.1 fun e => absurd ((hqm _ _).1 e) (not_lt.2 (nthOf_le y l (by omega)))
    · simp only [m]; rw [if_neg h]; exact hm0 0
  let S : ℝ := ∑ l ∈ range 25, m l
  have hS : massSum y = S := by
    unfold massSum; rw [show (S : EReal) = _ from coe_sum _ _]; exact sum_congr rfl fun l _ => hm l
  have hSle : S ≤ 25 * m 0 := by
    have := sum_le_card_nsmul (range 25) m (m 0) hmle
    rw [card_range, nsmul_eq_mul] at this; exact_mod_cast this
  have hS0 : 0 < S := lt_of_lt_of_le hmz0 (single_le_sum (fun l _ => hm0 l) (mem_range.2 (by norm_num)))
  let v : ℕ → ℝ := fun l => (m l / S + e) / t l
  have hv0 : ∀ l, 0 < v l := fun l => div_pos (add_pos_of_nonneg_of_pos (div_nonneg (hm0 l) hS0.le) he0) (htp l)
  have hscore : ∀ l, score y n l = ((Real.log (v l) : ℝ) : EReal) := fun l => by
    have ha : 0 < m l / S + e := add_pos_of_nonneg_of_pos (div_nonneg (hm0 l) hS0.le) he0
    unfold score
    rw [hm, hS, div_real hS0.ne', he, ← EReal.coe_add, Ideal.log_coe, if_neg (not_le.2 ha), hnt, ← EReal.coe_neg, ← EReal.coe_add,
      ← sub_eq_add_neg, ← Real.log_div ha.ne' (htp l).ne']
  have hlt : ∀ l k, score y n l < score y n k ↔ v l < v k := fun l k => by
    rw [hscore, hscore, EReal.coe_lt_coe_iff, Real.log_lt_log_iff (hv0 l) (hv0 k)]
  have hle : ∀ l k, score y n l ≤ score y n k ↔ v l ≤ v k := fun l k => by
    rw [← not_lt, hlt, not_lt]
  have hvz : 1 / 3150 ≤ v 0 := by
    have h1 : 1 / 25 ≤ m 0 / S + e := by
      have : 1 / 25 ≤ m 0 / S := by rw [div_le_div_iff₀ (by norm_num) hS0]; linarith
      linarith
    simp only [v]
    rw [div_le_div_iff₀ (by norm_num) (htp 0)]
    have := ht1 0; linarith
  have hout : ∀ l, ¬ Kept y l → v l < v 0 := fun l h => by
    refine lt_of_lt_of_le ?_ hvz
    have : m l = 0 := if_neg h
    simp only [v]
    rw [this, zero_div, zero_add, div_lt_div_iff₀ (htp l) (by norm_num)]
    have h2 := ht0 l
    norm_num at h2 he1
    linarith
  have hex : ∃ p, Kept y p ∧ ∀ l, Kept y l → v l ≤ v p := by
    obtain ⟨p, hp, hmax⟩ := exists_max_image ((range 25).filter (Kept y)) v ⟨0, mem_filter.2 ⟨mem_range.2 (by norm_num), kept_zero y⟩⟩
    exact ⟨p, (mem_filter.1 hp).2, fun l hl => hmax l (mem_filter.2 ⟨mem_range.2 hl.1, hl⟩)⟩
  obtain ⟨hk, hmax⟩ := Nat.find_spec hex
  refine ⟨Nat.find hex, hk, fun l hl => (hle _ _).2 (hmax l hl), fun l hl hkl => (hlt _ _).2 ?_,
    fun l h => (hlt _ _).2 (lt_of_lt_of_le (hout l h) (hmax 0 (kept_zero y))), ?_⟩
  · refine lt_of_le_of_ne (hmax l hkl) fun e => Nat.find_min hex hl ⟨hkl, fun k h => e ▸ hmax k h⟩
  · refine lt_of_lt_of_le neg_range ?_
    rw [hscore, EReal.coe_le_coe_iff]
    have h3 : (1 : ℝ) / 3150 ≤ v (Nat.find hex) := hvz.trans (hmax 0 (kept_zero y))
    have h4 := Real.log_le_log (by norm_num) h3
    have h5 : Real.log 3150 ≤ 3150 := by
      have := Real.log_le_sub_one_of_pos (by norm_num : (0 : ℝ) < 3150); linarith
    rw [one_div, Real.log_inv] at h4
    linarith

/-- The first draw chooses some rank. -/
theorem exists_first (y : Fin 100000 → EReal) (hy : ∀ i, ∃ r : ℝ, y i = r) (R : ℕ) : ∃ p, Chosen y (firstNoise R) p :=
  exists_chosen y hy _ fun l => Threefry.loglog_range _ _

/-- The first entry at which a family is greatest, taken as the least number found there. -/
theorem fold_first {N : ℕ} (f : Fin N → EReal) (big : BitVec 32) (hb : N ≤ big.toNat) (hb' : big.toNat < 2147483648) (p : Fin N)
    (hle : ∀ l, f l ≤ f p) (hlt : ∀ l, l < p → f l < f p) :
    fold IntOp.minsi 2147483647#32 (fun l => if f l = fold max (Ideal.ofBits .f32 0xFF800000#32) f univ then BitVec.ofNat 32 l.val else big) univ
      = BitVec.ofNat 32 p.val := by
  have hM : fold max (Ideal.ofBits .f32 0xFF800000#32) f univ = f p := fold_max_eq (by rw [ofBits_bot]; exact bot_le) hle p rfl
  rw [hM]
  have hp : (BitVec.ofNat 32 p.val).toInt = p.val := toInt_ofNat (by omega)
  refine fold_minsi_eq (by rw [hp, toInt_max]; omega) (fun l => ?_) p (if_pos rfl)
  split_ifs with h
  · rw [hp, toInt_ofNat (by omega)]
    have : ¬ l < p := fun e => absurd h (hlt l e).ne
    exact_mod_cast not_lt.1 this
  · rw [hp, BitVec.toInt_eq_toNat_cond]; split_ifs <;> omega

end Cert.Sampler
-- ==== Proof.KI.Close.lean ====
module

public import proofs.«01_k».proof.Proof.KI.SlowPicks
public import proofs.«01_k».proof.Proof.KI.Noise
public import proofs.«01_k».proof.Proof.Math.Sampler

@[expose] public section

set_option maxRecDepth 16384

/-! The kernel's body, row by row, as the sampler: the softmax's two numbers, the kept ranks, the first draw, the repetition test and the second draw. -/

noncomputable section

namespace Cert.KernelIdeal.Hand

open Cert.KernelIdeal Cert.KernelIdeal.Gen Cert.Rank Cert.Folds Cert.Sampler
open scoped Classical
open Idealize.ShloMosaic Idealize.ShloMosaic.TcCoe Idealize.ShloMosaic.Tactic

variable {x : FVec Ideal S16x100000 .f32} {r : Fin 16}

/-- The row maximum is the greatest of the columns' tops. -/
theorem pay978_apply (v : FVec Ideal S16x1024 .f32) (r : Fin 16) :
    k0_pay978 (F := Ideal) v (ix2 r 0) = Finset.fold max (Ideal.ofBits .f32 0xFF800000#32) (fun c => v (ix2 r c)) Finset.univ := by
  pointwise [k0_pay978]

/-- The row sum is the sum of the exponentials of the logits less the maximum. -/
theorem pay979_apply (v : FVec Ideal S16x1024 .f32) (w : FVec Ideal S16x100000 .f32) (r : Fin 16) :
    k0_pay979 (F := Ideal) v w (ix2 r 0) = ∑ i, Ideal.exp (w (ix2 r i) - k0_pay978 (F := Ideal) v (ix2 r 0)) := by
  pointwise [k0_pay979]

/-- A lane is kept when it is below 25 and its running probability is at most the bound or it is the first. -/
theorem pay1010_apply (C : FVec Ideal S16x128 .f32) (r : Fin 16) (l : Fin 128) :
    k0_pay1010 (F := Ideal) lane C (ix2 r l) = IntOp.andi (IntOp.cmpi .slt (BitVec.ofNat 32 l.val) 25#32)
      (IntOp.ori (BitVec.ofBool (decide ((C (ix2 r l) : EReal) ≤ Ideal.ofBits .f32 0x3F4CCCCD#32))) (IntOp.cmpi .eq (BitVec.ofNat 32 l.val) 0#32)) := by
  pointwise [k0_pay1010, lane]

/-- A kept lane's probability, divided by the sum over the kept lanes. -/
theorem pay1011_apply (m s : FVec Ideal S16x1 .f32) (A C : FVec Ideal S16x128 .f32) (r : Fin 16) (l : Fin 128) :
    k0_pay1011 (F := Ideal) lane m s A C (ix2 r l)
      = Ideal.div (Scalar.select (k0_pay1010 (F := Ideal) lane C (ix2 r l)) (Ideal.div (Ideal.exp (A (ix2 r l) - m (ix2 r 0))) (s (ix2 r 0))) 0)
        (∑ k : Fin 128, Scalar.select (k0_pay1010 (F := Ideal) lane C (ix2 r k)) (Ideal.div (Ideal.exp (A (ix2 r k) - m (ix2 r 0))) (s (ix2 r 0))) 0) := by
  pointwise [k0_pay1011]

/-- A lane's score in the first draw. -/
def objective (M : IVec S16x128 1) (P G : FVec Ideal S16x128 .f32) (r : Fin 16) (l : Fin 128) : EReal :=
  Scalar.select (M (ix2 r l)) (Ideal.log (P (ix2 r l) + Ideal.ofBits .f32 0x0DA24260#32) + (0 - G (ix2 r l))) (Ideal.ofBits .f32 0xFF7FFFFF#32)

/-- The first draw's index: the pick at the least lane whose score is the greatest, summed out over the lanes. -/
theorem pay1053_apply (J : IVec S16x128 32) (M : IVec S16x128 1) (P G : FVec Ideal S16x128 .f32) (r : Fin 16) :
    k0_pay1053 (F := Ideal) lane J M P G (ix2 r 0) = Finset.fold IntOp.addi 0#32 (fun l : Fin 128 => Scalar.select (IntOp.cmpi .eq (BitVec.ofNat 32 l.val)
      (Finset.fold IntOp.minsi 2147483647#32 (fun k : Fin 128 => if objective M P G r k = Finset.fold max (Ideal.ofBits .f32 0xFF800000#32) (objective M P G r) Finset.univ
        then BitVec.ofNat 32 k.val else 128#32) Finset.univ)) (J (ix2 r l)) 0#32) Finset.univ := by
  pointwise [k0_pay1053, lane]
  rfl

/-- The repetition test: at least one recent token is the first draw's index. -/
theorem pay1054_apply (J : IVec S16x128 32) (M : IVec S16x128 1) (P G : FVec Ideal S16x128 .f32) (D : IVec S16x128 32) (r : Fin 16) :
    k0_pay1054 (F := Ideal) lane J M P G D (ix2 r 0) = IntOp.cmpi .sge (Finset.fold IntOp.addi 0#32 (fun l : Fin 128 =>
      BitVec.setWidth 32 (IntOp.cmpi .eq (D (ix2 r l)) (k0_pay1053 (F := Ideal) lane J M P G (ix2 r 0)))) Finset.univ) 1#32 := by
  pointwise [k0_pay1054]

/-- The first draw's index, as it is stored, is the first draw's index. -/
theorem pay1055_apply (J : IVec S16x128 32) (M : IVec S16x128 1) (P G : FVec Ideal S16x128 .f32) (r : Fin 16) :
    k0_pay1055 (F := Ideal) lane J M P G (ix2 r 0) = k0_pay1053 (F := Ideal) lane J M P G (ix2 r 0) := by
  pointwise [k0_pay1055]

/-- Where some row repeats itself, the number that the kernel branches on is positive. -/
theorem pay1056_pos (J : IVec S16x128 32) (M : IVec S16x128 1) (P G : FVec Ideal S16x128 .f32) (D : IVec S16x128 32) (r : Fin 16)
    (h : k0_pay1054 (F := Ideal) lane J M P G D (ix2 r 0) = 1#1) : (0 : EReal) < k0_pay1056 (F := Ideal) lane J M P G D := by
  pointwise [k0_pay1056]
  refine lt_of_lt_of_le ?_ (le_fold (f := fun y : Fin 16 × Fin 1 => Scalar.select (k0_pay1054 (F := Ideal) lane J M P G D (ix2 y.1 0)) (1 : EReal) 0) (r, 0))
  simp only [select_pos h]
  exact zero_lt_one

/-- An entry's score in the second draw. -/
def reobjective (m s : FVec Ideal S16x1 .f32) (w : FVec Ideal S16x100000 .f32) (a b : IVec S16x100000 32) (r : Fin 16) (i : Fin 100000) : EReal :=
  Ideal.log (Ideal.div (Ideal.exp (w (ix2 r i) - m (ix2 r 0))) (s (ix2 r 0)) + Ideal.ofBits .f32 0x0DA24260#32)
    + (0 - Threefry.loglog .vector (IntOp.xori (a (ix2 r i)) (b (ix2 r i))))

/-- The stored word after a redraw: the first entry of greatest score where the row repeats itself, the first draw elsewhere. -/
theorem pay1_apply (m s : FVec Ideal S16x1 .f32) (w : FVec Ideal S16x100000 .f32) (T : IVec S16x1 32) (N : IVec S16x1 1) (I a b : IVec S16x100000 32) (r : Fin 16) :
    k0_pay1 (F := Ideal) m w s T N I a b (ix2 r 0) = Scalar.select (N (ix2 r 0)) (Finset.fold IntOp.minsi 2147483647#32 (fun k : Fin 100000 =>
      if reobjective m s w a b r k = Finset.fold max (Ideal.ofBits .f32 0xFF800000#32) (reobjective m s w a b r) Finset.univ then I (ix2 r k) else 100000#32) Finset.univ)
      (T (ix2 r 0)) := by
  unfold reobjective Threefry.loglog Threefry.unit01
  pointwise [k0_pay1]

/-! The softmax -/

/-- The row's maximum is its greatest logit. -/
theorem rowMax_eq (hneg : ∀ i, NEG < row x r i) : rowMax (F := Ideal) x (ix2 r 0) = top (row x r) := by
  have hp : pos (row x r) (nthAt x r 0) = 0 := pos_nthAt x r 0 (by norm_num)
  have hh : Heads x r 0 (top3 (F := Ideal) x).c1 (top3 (F := Ideal) x).j1 := fun c =>
    slot_head (by rw [below_zero]; exact (stack_top3 hneg c).1) (by rw [below_zero]; have := card_colE c; omega)
  have h := (pay978_apply (top3 (F := Ideal) x).c1 r).trans (pick_max hp hh)
  refine h.trans (fold_max_eq (by rw [ofBits_bot]; exact bot_le) (fun i => ?_) (nthAt x r 0) rfl).symm
  rcases eq_or_ne i (nthAt x r 0) with rfl | hi
  · exact le_rfl
  · have : pos (row x r) (nthAt x r 0) < pos (row x r) i := by
      rw [hp]; exact Nat.pos_of_ne_zero fun e => hi (pos_inj (e.trans hp.symm))
    rcases pos_lt_iff.1 this with h | h
    · exact h.le
    · exact h.1.ge

/-- The row's sum is the softmax's denominator. -/
theorem rowSum_eq (hneg : ∀ i, NEG < row x r i) : rowSum (F := Ideal) x (ix2 r 0) = total (row x r) := by
  refine (pay979_apply (top3 (F := Ideal) x).c1 (whole (F := Ideal) x) r).trans ?_
  refine Finset.sum_congr rfl fun i _ => ?_
  have : k0_pay978 (F := Ideal) (top3 (F := Ideal) x).c1 (ix2 r 0) = top (row x r) := rowMax_eq hneg
  rw [this, whole_apply]

/-- An entry's weight is its probability. -/
theorem weight_eq (hneg : ∀ i, NEG < row x r i) (i : Fin 100000) : weight x r (row x r i) = prob (row x r) i := by
  unfold weight prob
  rw [rowMax_eq hneg, rowSum_eq hneg]

/-- The running probability is the sum of the first probabilities in order of rank. -/
theorem partialSum_eq (hneg : ∀ i, NEG < row x r i) (k : ℕ) : partialSum x r k = cumul (row x r) k := by
  induction k with
  | zero => rfl
  | succ k ih => simp only [partialSum, cumul, ih, weight_eq hneg]; rfl

variable {A C : FVec Ideal S16x128 .f32} {J : IVec S16x128 32}

/-! The kept ranks -/

/-- The lanes that are kept are the ranks that are kept. -/
theorem kept_iff (hneg : ∀ i, NEG < row x r i) (h : Picked x r A J C) (l : Fin 128) : kept (F := Ideal) C (ix2 r l) = 1#1 ↔ Kept (row x r) l.val := by
  unfold kept
  rw [pay1010_apply, andi_one, ori_one, ofBool_one]
  have h1 : IntOp.cmpi .slt (BitVec.ofNat 32 l.val) 25#32 = 1#1 ↔ l.val < 25 := by
    by_cases e : l.val < 25
    · exact iff_of_true (by word_cmp) e
    · exact iff_of_false (by word_cmp) e
  have h2 : IntOp.cmpi .eq (BitVec.ofNat 32 l.val) 0#32 = 1#1 ↔ l.val = 0 := by
    by_cases e : l.val = 0
    · exact iff_of_true (by word_cmp) e
    · exact iff_of_false (by word_cmp) e
  rw [h1, h2]
  unfold Kept
  refine and_congr_right fun hl => or_congr_left ?_
  rw [h.cum l hl, partialSum_eq hneg]

/-- A lane's probability among the kept ones is its rank's mass over the whole mass. -/
theorem keptProb_eq (hneg : ∀ i, NEG < row x r i) (h : Picked x r A J C) (l : Fin 128) :
    (keptProb (F := Ideal) x A C (ix2 r l) : EReal) = Ideal.div (mass (row x r) l.val) (massSum (row x r)) := by
  have hm : ∀ k : Fin 128, (Scalar.select (k0_pay1010 (F := Ideal) lane C (ix2 r k))
      (Ideal.div (Ideal.exp (A (ix2 r k) - rowMax (F := Ideal) x (ix2 r 0))) (rowSum (F := Ideal) x (ix2 r 0))) 0 : EReal) = mass (row x r) k.val := fun k => by
    have hk : k0_pay1010 (F := Ideal) lane C (ix2 r k) = 1#1 ↔ Kept (row x r) k.val := kept_iff hneg h k
    unfold mass
    by_cases e : Kept (row x r) k.val
    · rw [if_pos e, select_pos (hk.2 e), h.val k e.1]
      exact weight_eq hneg _
    · rw [if_neg e, select_neg fun e' => e (hk.1 e')]
  unfold keptProb
  rw [pay1011_apply, hm, Finset.sum_congr rfl fun k _ => hm k, sum_mass _ (by norm_num)]

/-! The first draw -/

/-- The number of an entry: the row's number times 100000, plus the column. -/
theorem counter_eq (t : ℕ) (r : Fin 16) {n : ℕ} (c : Fin n) : counter (BitVec.ofNat 32 t) r c = BitVec.ofNat 32 ((16 * t + r.val) * 100000 + c.val) := by
  unfold counter
  rw [show Scalar.muli (BitVec.ofNat 32 t) 16#32 = IntOp.muli (BitVec.ofNat 32 t) (BitVec.ofNat 32 16) from rfl, WordCmp.muli_ofNat, WordCmp.addi_ofNat,
    WordCmp.muli_ofNat, WordCmp.addi_ofNat, Nat.add_comm r.val, Nat.mul_comm t]

/-- The first draw is the entry of the chosen rank. -/
theorem topId_eq (hneg : ∀ i, NEG < row x r i) (h : Picked x r A J C) (t p : ℕ) (hp : Chosen (row x r) (firstNoise (16 * t + r.val)) p) :
    topId (F := Ideal) x A J C (BitVec.ofNat 32 t) (ix2 r 0) = BitVec.ofNat 32 (nthOf (row x r) p).val := by
  have hp25 : p < 25 := hp.kept.1
  have hobj : ∀ l : Fin 128, objective (kept (F := Ideal) C) (keptProb (F := Ideal) x A C) (gumTop (F := Ideal) (BitVec.ofNat 32 t)) r l
      = if Kept (row x r) l.val then score (row x r) (firstNoise (16 * t + r.val)) l.val else NEG := fun l => by
    unfold objective
    by_cases e : Kept (row x r) l.val
    · rw [if_pos e, select_pos ((kept_iff hneg h l).2 e), keptProb_eq hneg h, gumTop_apply, counter_eq, zero_sub,
        Threefry.word_place _ .host, Threefry.loglog_place _ .host]
      unfold score firstNoise
      with_reducible rfl
    · rw [if_neg e, select_neg fun e' => e ((kept_iff hneg h l).1 e')]
  have hfold := fold_first (objective (kept (F := Ideal) C) (keptProb (F := Ideal) x A C) (gumTop (F := Ideal) (BitVec.ofNat 32 t)) r)
    128#32 (by decide) (by decide) ⟨p, by omega⟩
    (fun l => by
      rw [hobj, hobj, if_pos (show Kept (row x r) p from hp.kept)]
      split_ifs with e
      · exact hp.le _ e
      · exact hp.floor.le)
    (fun l hl => by
      rw [hobj, hobj, if_pos (show Kept (row x r) p from hp.kept)]
      split_ifs with e
      · exact hp.first _ hl e
      · exact hp.floor)
  unfold topId
  rw [pay1053_apply, hfold]
  exact (fold_one_hot (by norm_num) (fun l => J (ix2 r l)) ⟨p, by omega⟩).trans (h.idx ⟨p, by omega⟩ hp25)

/-! Repetition, and the second draw -/

/-- A row repeats itself exactly when one of its recent words is the first draw. -/
theorem need_iff (d : IVec S16x128 32) (T : BitVec 32) (a : BitVec 32) (hT : topId (F := Ideal) x A J C a (ix2 r 0) = T) :
    need (F := Ideal) x d A J C a (ix2 r 0) = 1#1 ↔ ∃ l, d (ix2 r l) = T := by
  have hw : ∀ l, wholeD (F := Ideal) d (ix2 r l) = d (ix2 r l) := fun l => by
    pointwise [wholeD]
    all_goals (refine congrArg d ?_; idx_ext)
  unfold topId at hT
  unfold need
  rw [pay1054_apply, hT, fold_count]
  simp only [hw]
  have hc : (Finset.univ.filter fun l : Fin 128 => d (ix2 r l) = T).card ≤ 128 := (Finset.card_le_univ _).trans (by simp)
  have : (∃ l, d (ix2 r l) = T) ↔ 1 ≤ (Finset.univ.filter fun l : Fin 128 => d (ix2 r l) = T).card := by
    rw [Nat.one_le_iff_ne_zero, Finset.card_ne_zero]
    exact ⟨fun ⟨l, hl⟩ => ⟨l, by simpa using hl⟩, fun ⟨l, hl⟩ => ⟨l, by simpa using hl⟩⟩
  rw [this]
  generalize (Finset.univ.filter fun l : Fin 128 => d (ix2 r l) = T).card = n at hc
  by_cases e : 1 ≤ n
  · exact iff_of_true (by word_cmp) e
  · exact iff_of_false (by word_cmp) e

/-- An entry's score in the second draw is the sampler's. -/
theorem redraw_eq (hneg : ∀ i, NEG < row x r i) (t : ℕ) (i : Fin 100000) :
    reobjective (rowMax (F := Ideal) x) (rowSum (F := Ideal) x) (whole (F := Ideal) x) (gumV (BitVec.ofNat 32 t)).1 (gumV (BitVec.ofNat 32 t)).2 r i
      = rescore (row x r) (secondNoise (16 * t + r.val)) i := by
  have hg := gumV_apply (BitVec.ofNat 32 t) r i
  have h1 := congrArg Prod.fst hg
  have h2 := congrArg Prod.snd hg
  simp only at h1 h2
  unfold reobjective rescore prob
  rw [h1, h2, rowMax_eq hneg, rowSum_eq hneg, whole_apply, counter_eq, zero_sub]
  rw [Threefry.xori_state, Threefry.word_place _ .host, Threefry.loglog_place _ .host]
  unfold secondNoise
  with_reducible rfl

/-- A row of the body's result is the sampler's answer for the row. -/
theorem body_row (hneg : ∀ i, NEG < row x r i) (d : IVec S16x128 32) (t p : ℕ) (hp : Chosen (row x r) (firstNoise (16 * t + r.val)) p) :
    bodyOut (F := Ideal) x d (BitVec.ofNat 32 t) (ix2 r 0)
      = answer (row x r) (secondNoise (16 * t + r.val)) (fun w => ∃ l, d (ix2 r l) = w) p := by
  have h := picked hneg
  have hT := topId_eq hneg h t p hp
  have hn := need_iff (x := x) (r := r) d _ _ hT
  unfold bodyOut outOf answer
  by_cases e : ∃ l, d (ix2 r l) = BitVec.ofNat 32 (nthOf (row x r) p).val
  · have hneed := hn.2 e
    have hany : anyNeed (F := Ideal) x d (vals (F := Ideal) x) (idxs (F := Ideal) x) (cums (F := Ideal) x) (BitVec.ofNat 32 t) = 1#1 := by
      have := pay1056_pos _ _ _ _ _ r hneed
      have hc : Scalar.cmpf (F := Ideal) .ogt (k0_pay1056 (F := Ideal) lane (idxs (F := Ideal) x) (kept (F := Ideal) (cums (F := Ideal) x))
          (keptProb (F := Ideal) x (vals (F := Ideal) x) (cums (F := Ideal) x)) (gumTop (F := Ideal) (BitVec.ofNat 32 t)) (wholeD (F := Ideal) d))
          (Scalar.ofBits (F := Ideal) .f32 0x00000000#32) = 1#1 := by
        show BitVec.ofBool (decide (_ > (Ideal.ofBits .f32 0x00000000#32 : EReal))) = 1#1
        rw [ofBool_one, Ideal.ofBits_zero_f32]
        exact this
      unfold anyNeed
      rw [hc]
      rfl
    rw [if_pos hany, if_pos e]
    unfold redrawn
    have hi : ∀ k : Fin 100000, iota .tc S16x100000 32 [1] iota_S16x100000_d1_w32 (ix2 r k) = BitVec.ofNat 32 k.val := fun k => by pointwise
    rw [pay1_apply, select_pos hneed, funext (redraw_eq hneg t)]
    simp only [hi, redraw_eq hneg t]
    rfl
  · rw [if_neg e]
    split_ifs with hany
    · unfold redrawn
      rw [pay1_apply, select_neg fun e' => e (hn.1 e'), hT]
    · unfold firstDraw
      rw [pay1055_apply]
      exact hT

end Cert.KernelIdeal.Hand
-- ==== Proof.RI.Noise.lean ====
module

public import proofs.«01_k».proof.Proof.Gen.ReferenceIdeal.Run
public import proofs.«01_k».proof.Proof.Math.Threefry
public import Idealize.ShloMosaic.Lib.Pointwise
public import Idealize.ShloMosaic.Lib.WordCmp

@[expose] public section

/-! The reference's random words: each entry of its two noise arrays is the word of the entry's own number. -/

noncomputable section

namespace Cert.ReferenceIdeal.Hand

open Idealize Idealize.ShloMosaic Idealize.ShloMosaic.StableHlo
open Cert.ReferenceIdeal Cert.ReferenceIdeal.Gen Cert.ReferenceIdeal.Value Cert.Threefry

local notation "Contents" => Valuation τ sig (Elt Ideal)

/-- The number of the entry in row `b` and column `c` of the reference's arrays. -/
def number (b : Fin 64) (c : Fin 100000) : BitVec 32 := IntOp.addi (IntOp.muli (BitVec.ofNat 32 b.val) 100000#32) (BitVec.ofNat 32 c.val)

/-- The third word of the key `k0`, `k1`. -/
def third (k0 k1 : BitVec 32) : BitVec 32 := IntOp.xori (IntOp.xori k0 k1) 466688986#32

set_option maxRecDepth 16384

section First
local notation "k0" => 1264997412#32
local notation "k1" => 2518116175#32
local notation "k2" => third 1264997412#32 2518116175#32

/-- What the first draw's words start from. -/
theorem first_start (V : Contents) (b : Fin 64) (c : Fin 100000) : res_main_call4_v9 V (ix2 b c) = IntOp.addi (number b c) k1 := by
  pointwise [res_main_call4_v9]
  rfl

/-- The first four rounds of the first draw. -/
theorem first_first (V : Contents) (i : S64x100000.Idx) :
    (IntOp.addi (res_main_call4_v10_0 V i) k1, res_main_call4_v15 V i) = join k1 k2 1#32 (even .host (k0, res_main_call4_v9 V i)) := rfl

/-- The second four rounds of the first draw. -/
theorem first_second (V : Contents) (i : S64x100000.Idx) :
    (IntOp.addi (res_main_call4_v16_0 V i) k2, res_main_call4_v21 V i)
      = join k2 k0 2#32 (odd .host (IntOp.addi (res_main_call4_v10_0 V i) k1, res_main_call4_v15 V i)) := rfl

/-- The third four rounds of the first draw. -/
theorem first_third (V : Contents) (i : S64x100000.Idx) :
    (IntOp.addi (res_main_call4_v22_0 V i) k0, res_main_call4_v27 V i)
      = join k0 k1 3#32 (even .host (IntOp.addi (res_main_call4_v16_0 V i) k2, res_main_call4_v21 V i)) := rfl

/-- The fourth four rounds of the first draw. -/
theorem first_fourth (V : Contents) (i : S64x100000.Idx) :
    (IntOp.addi (res_main_call4_v28_0 V i) k1, res_main_call4_v33 V i)
      = join k1 k2 4#32 (odd .host (IntOp.addi (res_main_call4_v22_0 V i) k0, res_main_call4_v27 V i)) := rfl

/-- The first draw's word at an entry, as the reference's last lines spell it. -/
def firstWord (V : Contents) (i : S64x100000.Idx) : BitVec 32 :=
  IntOp.xori (IntOp.addi (res_main_call4_v34_0 V i) k2)
    (IntOp.addi (IntOp.xori (IntOp.ori (IntOp.shli .host (res_main_call4_call4_v20 V i) 6#32) (IntOp.shrui .host (res_main_call4_call4_v20 V i) 26#32))
      (res_main_call4_v34_0 V i)) (IntOp.addi k0 5#32))

/-- The last four rounds of the first draw, their two words joined. -/
theorem firstWord_last (V : Contents) (i : S64x100000.Idx) :
    firstWord V i = IntOp.xori (join k2 k0 5#32 (even .host (IntOp.addi (res_main_call4_v28_0 V i) k1, res_main_call4_v33 V i))).1
      (join k2 k0 5#32 (even .host (IntOp.addi (res_main_call4_v28_0 V i) k1, res_main_call4_v33 V i))).2 := rfl

/-- The first draw's word at row `b` and column `c` is the word of the entry's number. -/
theorem firstWord_eq (V : Contents) (b : Fin 64) (c : Fin 100000) : firstWord V (ix2 b c) = word .host k0 k1 k2 (number b c) := by
  rw [firstWord_last, first_fourth, first_third, first_second, first_first, first_start]
  unfold word
  rw [← stateJoin_eq]
  unfold stateJoin
  with_reducible rfl

end First

section Second
local notation "k0" => 2877103387#32
local notation "k1" => 1697627890#32
local notation "k2" => third 2877103387#32 1697627890#32

/-- What the second draw's words start from. -/
theorem second_start (V : Contents) (b : Fin 64) (c : Fin 100000) : res_main_call7_v9 V (ix2 b c) = IntOp.addi (number b c) k1 := by
  pointwise [res_main_call7_v9]
  rfl

/-- The first four rounds of the second draw. -/
theorem second_first (V : Contents) (i : S64x100000.Idx) :
    (IntOp.addi (res_main_call7_v10_0 V i) k1, res_main_call7_v15 V i) = join k1 k2 1#32 (even .host (k0, res_main_call7_v9 V i)) := rfl

/-- The second four rounds of the second draw. -/
theorem second_second (V : Contents) (i : S64x100000.Idx) :
    (IntOp.addi (res_main_call7_v16_0 V i) k2, res_main_call7_v21 V i)
      = join k2 k0 2#32 (odd .host (IntOp.addi (res_main_call7_v10_0 V i) k1, res_main_call7_v15 V i)) := rfl

/-- The third four rounds of the second draw. -/
theorem second_third (V : Contents) (i : S64x100000.Idx) :
    (IntOp.addi (res_main_call7_v22_0 V i) k0, res_main_call7_v27 V i)
      = join k0 k1 3#32 (even .host (IntOp.addi (res_main_call7_v16_0 V i) k2, res_main_call7_v21 V i)) := rfl

/-- The fourth four rounds of the second draw. -/
theorem second_fourth (V : Contents) (i : S64x100000.Idx) :
    (IntOp.addi (res_main_call7_v28_0 V i) k1, res_main_call7_v33 V i)
      = join k1 k2 4#32 (odd .host (IntOp.addi (res_main_call7_v22_0 V i) k0, res_main_call7_v27 V i)) := rfl

/-- The second draw's word at an entry, as the reference's last lines spell it. -/
def secondWord (V : Contents) (i : S64x100000.Idx) : BitVec 32 :=
  IntOp.xori (IntOp.addi (res_main_call7_v34_0 V i) k2)
    (IntOp.addi (IntOp.xori (IntOp.ori (IntOp.shli .host (res_main_call7_call4_v20 V i) 6#32) (IntOp.shrui .host (res_main_call7_call4_v20 V i) 26#32))
      (res_main_call7_v34_0 V i)) (IntOp.addi k0 5#32))

/-- The last four rounds of the second draw, their two words joined. -/
theorem secondWord_last (V : Contents) (i : S64x100000.Idx) :
    secondWord V i = IntOp.xori (join k2 k0 5#32 (even .host (IntOp.addi (res_main_call7_v28_0 V i) k1, res_main_call7_v33 V i))).1
      (join k2 k0 5#32 (even .host (IntOp.addi (res_main_call7_v28_0 V i) k1, res_main_call7_v33 V i))).2 := rfl

/-- The second draw's word at row `b` and column `c` is the word of the entry's number. -/
theorem secondWord_eq (V : Contents) (b : Fin 64) (c : Fin 100000) : secondWord V (ix2 b c) = word .host k0 k1 k2 (number b c) := by
  rw [secondWord_last, second_fourth, second_third, second_second, second_first, second_start]
  unfold word
  rw [← stateJoin_eq]
  unfold stateJoin
  with_reducible rfl

end Second

end Cert.ReferenceIdeal.Hand
-- ==== Proof.RI.Ops.lean ====
module

public import proofs.«01_k».proof.Proof.Gen.ReferenceIdeal
public import proofs.«01_k».proof.Proof.Math.Sampler
public import Idealize.ShloMosaic.Lib.Pointwise
public import Idealize.ShloMosaic.Lib.WordCmp

@[expose] public section

/-! The reference's stretches of host operations, read at an entry. -/

noncomputable section

namespace Cert.ReferenceIdeal.Hand

open Cert.Sampler Cert.Threefry
open Idealize Idealize.ShloMosaic Idealize.ShloMosaic.StableHlo
open Cert.ReferenceIdeal Cert.ReferenceIdeal.Gen

set_option maxRecDepth 16384

/-- The exponential of an entry less its row's number. -/
theorem shifted_apply (x : FVec Ideal S64x100000 .f32) (m : FVec Ideal S64 .f32) (b : Fin 64) (i : Fin 100000) :
    (Host.exp (subf x (broadcastInDim S64x100000 ![0, 1] bcast_S64x1_S64x100000_0_1 (broadcastInDim S64x1 ![0] bcast_S64_S64x1_0 m))) (ix2 b i) : EReal)
      = Ideal.exp (x (ix2 b i) - m (ix1 b)) := by
  pointwise

/-- The maximum along a row. -/
theorem greatest_apply (x : FVec Ideal S64x100000 .f32) (b : Fin 64) :
    (Host.reduce (FloatOps.maximumf (F := Ideal)) x (constant (F := Ideal) S_ .f32 0xFF800000#32) reducesTo_S64x100000_S64_d1 h_S_ (ix1 b))
      = Finset.fold max (Ideal.ofBits .f32 0xFF800000#32) (fun i => (x (ix2 b i) : EReal)) Finset.univ := by
  pointwise

/-- A row's number, kept from falling below minus infinity. -/
theorem floor_apply (B : FVec Ideal S64 .f32) (b : Fin 64) :
    (maximumf (broadcastInDim S64 ![] bcast_S_S64 (constant (F := Ideal) S_ .f32 0xFF800000#32)) B (ix1 b) : EReal) = max (Ideal.ofBits .f32 0xFF800000#32) (B (ix1 b)) := by
  rfl

/-- The exponential of an entry less its row's maximum. -/
theorem exp_shifted_apply (x : FVec Ideal S64x100000 .f32) (b : Fin 64) (i : Fin 100000) :
    (Host.exp (subf x (broadcastInDim S64x100000 ![0, 1] bcast_S64x1_S64x100000_0_1 (broadcastInDim S64x1 ![0] bcast_S64_S64x1_0
      (maximumf (broadcastInDim S64 ![] bcast_S_S64 (constant (F := Ideal) S_ .f32 0xFF800000#32)) (Host.reduce (FloatOps.maximumf (F := Ideal)) x (constant (F := Ideal) S_ .f32 0xFF800000#32) reducesTo_S64x100000_S64_d1 h_S_))))) (ix2 b i) : EReal)
      = Ideal.exp (x (ix2 b i) - max (Ideal.ofBits .f32 0xFF800000#32) (Finset.fold max (Ideal.ofBits .f32 0xFF800000#32) (fun i => (x (ix2 b i) : EReal)) Finset.univ)) := by
  rw [shifted_apply, floor_apply, greatest_apply]

/-- Where a mask is set, the choice is the first array's entry. -/
theorem select_one {s : Shape} {α : Type} (c : IVec s 1) (x y : s.Idx → α) (i : s.Idx) (h : c i = 1#1) : select c x y i = x i := if_pos h

/-- A vector as a column. -/
theorem column_apply {α : Type} (x : S64.Idx → α) (b : Fin 64) : broadcastInDim S64x1 ![0] bcast_S64_S64x1_0 x (ix2 b (0 : Fin 1)) = x (ix1 b) := by
  pointwise

/-- A column as a vector. -/
theorem flat_apply (x : IVec S64x1 32) (b : Fin 64) : shapeCast S64 x shapeCasts_S64x1_S64 (ix1 b) = x (ix2 b (0 : Fin 1)) := by
  pointwise

/-- An entry over its row's sum. -/
theorem over_sum_apply (x : FVec Ideal S64x100000 .f32) (b : Fin 64) (i : Fin 100000) :
    (Host.divf x (broadcastInDim S64x100000 ![0, 1] bcast_S64x1_S64x100000_0_1 (broadcastInDim S64x1 ![0] bcast_S64_S64x1_0
      (Host.reduceAdd x (constant S_ .f32 0x00000000#32) reducesTo_S64x100000_S64_d1 h_S_))) (ix2 b i) : EReal)
      = Ideal.div (x (ix2 b i)) (∑ j : Fin 100000, (x (ix2 b j) : EReal)) := by
  pointwise

/-- The least word along a row. -/
theorem least_apply (f : IVec S64x100000 32) (b : Fin 64) :
    Host.reduce IntOp.minsi f (constantI S_ 32 2147483647#32) reducesTo_S64x100000_S64_d1 h_S_ (ix1 b)
      = Finset.fold IntOp.minsi 2147483647#32 (fun i : Fin 100000 => f (ix2 b i)) Finset.univ := by
  pointwise

/-- The index of an entry that equals its row's number, 100000 elsewhere. -/
theorem first_apply (s : FVec Ideal S64x100000 .f32) (m : FVec Ideal S64 .f32) (b : Fin 64) (i : Fin 100000) :
    select (cmpf .oeq s (broadcastInDim S64x100000 ![0, 1] bcast_S64x1_S64x100000_0_1 (broadcastInDim S64x1 ![0] bcast_S64_S64x1_0 m)))
      (broadcastInDim S64x100000 ![1] bcast_S100000_S64x100000_1 (iotaInDim S100000 32 0)) (broadcastInDim S64x100000 ![] bcast_S_S64x100000 (id (constantI S_ 32 100000#32))) (ix2 b i)
      = if (s (ix2 b i) : EReal) = m (ix1 b) then BitVec.ofNat 32 i.val else 100000#32 := by
  pointwise
  rfl

/-- The noise of a random word, entry by entry. -/
theorem noise_apply (W : IVec S64x100000 32) (i : S64x100000.Idx) :
    (Host.negf (Host.log (Host.negf (Host.log (maximumf (broadcastInDim S64x100000 ![] bcast_S_S64x100000 (constant (F := Ideal) S_ .f32 0x00800000#32)) (addf (mulf (subf (bitcastToFloat (F := Ideal) .f32 (ori (Host.shrui W (broadcastInDim S64x100000 ![] bcast_S_S64x100000 (constantI S_ 32 9#32))) (broadcastInDim S64x100000 ![] bcast_S_S64x100000 (constantI S_ 32 1065353216#32)))) (broadcastInDim S64x100000 ![] bcast_S_S64x100000 (constant S_ .f32 0x3F800000#32))) (broadcastInDim S64x100000 ![] bcast_S_S64x100000 (constant S_ .f32 0x3F800000#32))) (broadcastInDim S64x100000 ![] bcast_S_S64x100000 (constant S_ .f32 0x00800000#32)))))))) i
      = -Ideal.log (-Ideal.log (max (Ideal.ofBits .f32 0x00800000#32)
    ((Ideal.ofBits .f32 (IntOp.ori (IntOp.shrui .host (W i) 9#32) 1065353216#32) - Ideal.ofBits .f32 0x3F800000#32) * Ideal.ofBits .f32 0x3F800000#32 + Ideal.ofBits .f32 0x00800000#32))) := by
  rfl

/-- The noise of a word. -/
theorem noise_eq (w : BitVec 32) :
    -Ideal.log (-Ideal.log (max (Ideal.ofBits .f32 0x00800000#32) ((Ideal.ofBits .f32 (IntOp.ori (IntOp.shrui .host w 9#32) 1065353216#32) - Ideal.ofBits .f32 0x3F800000#32) * Ideal.ofBits .f32 0x3F800000#32 + Ideal.ofBits .f32 0x00800000#32))) = -loglog .host w := by
  unfold loglog unit01
  rw [Ideal.ofBits_one_f32, mul_one, Ideal.ofBits_zero_f32, zero_sub]

/-- The noise plus the logarithm of a probability and the small number. -/
theorem guarded_apply (n p : FVec Ideal S64x100000 .f32) (i : S64x100000.Idx) :
  (addf n (Host.log (addf p (broadcastInDim S64x100000 ![] bcast_S_S64x100000 (constant S_ .f32 0x0DA24260#32)))) i : EReal) = n i + Ideal.log (p i + eps) := by
  rfl

end Cert.ReferenceIdeal.Hand
-- ==== Proof.RI.Gather.lean ====
module

public import proofs.«01_k».proof.Proof.Gen.ReferenceIdeal
public import Idealize.ShloMosaic.Lib.StableHlo.Predicate
public import Idealize.ShloMosaic.Lib.Pointwise

@[expose] public section

/-! A gather along a row at an index that lies in the row. -/

noncomputable section

namespace Cert.ReferenceIdeal.Hand

open Idealize Idealize.ShloMosaic Idealize.ShloMosaic.StableHlo
open Cert.ReferenceIdeal Cert.ReferenceIdeal.Gen

set_option maxRecDepth 16384

variable {α : Type} {M : ℕ} (d : GatherDims ⟨2, ![64, 100000]⟩ ⟨3, ![64, M, 1]⟩ ⟨2, ![64, M]⟩) (ho : d.offsetDims = []) (hc : d.collapsedSliceDims = [1])
  (hb : d.operandBatchingDims = [0]) (hs : d.startIndicesBatchingDims = [0]) (hm : d.startIndexMap = [1]) (hv : d.indexVectorDim = 2)
  (b : Fin 64) (c : Fin M)

include ho hb hs hv in
/-- A gather along rows reads the row of its result. -/
theorem gather_batch : d.batchCoord (ix2 b c) (0 : Fin 2) = b.val := by
  obtain ⟨od, cd, bd, sd, sm, iv, ss, wf⟩ := d
  dsimp only at ho hb hs hv
  subst ho hb hs hv
  rfl

include ho hm hv in
/-- It takes its index from the result's place. -/
theorem gather_start (p : Fin d.startIndexMap.length) : d.siIdx (ix2 b c) p = ix3 b c (0 : Fin 1) := by
  obtain ⟨od, cd, bd, sd, sm, iv, ss, wf⟩ := d
  dsimp only at ho hm hv
  subst ho hm hv
  funext q
  match q with
  | ⟨0, _⟩ => rfl
  | ⟨1, _⟩ => rfl
  | ⟨2, _⟩ => exact Subsingleton.elim (α := Fin 1) _ _

include ho hc hb hs hm hv in
/-- Row `b` of the operand at the entry the start index names. -/
theorem gather_row (x : (⟨2, ![64, 100000]⟩ : Shape).Idx → α) (idx : IVec ⟨3, ![64, M, 1]⟩ 32) (k : Fin 100000)
    (hk : idx (ix3 b c (0 : Fin 1)) = BitVec.ofNat 32 k.val) : Host.gather d x idx (ix2 b c) = x (ix2 b k) := by
  unfold Host.gather
  refine congrArg x (funext fun a => Fin.ext ?_)
  have hkl := k.isLt
  match a with
  | ⟨0, _⟩ =>
    show d.start (ix2 b c) idx (0 : Fin 2) + d.batchCoord (ix2 b c) (0 : Fin 2) + d.offCoord (ix2 b c) (0 : Fin 2) = b.val
    rw [d.start_batching _ _ _ (by rw [hb]; exact List.mem_singleton.2 rfl), d.offCoord_eq_zero _ _ (fun h => ((d.mem_sKept _).1 h).2 (by rw [hb]; exact List.mem_singleton.2 rfl)),
      gather_batch d ho hb hs hv, Nat.zero_add, Nat.add_zero]
  | ⟨1, _⟩ =>
    show d.start (ix2 b c) idx (1 : Fin 2) + d.batchCoord (ix2 b c) (1 : Fin 2) + d.offCoord (ix2 b c) (1 : Fin 2) = k.val
    have hsl : d.sliceSizes (1 : Fin 2) = 1 := d.slice_collapsed 1 (by rw [hc]; exact List.mem_singleton.2 rfl)
    have hmem : (1 : Fin 2) ∈ d.startIndexMap := by rw [hm]; exact List.mem_singleton.2 rfl
    rw [d.batchCoord_eq_zero _ _ (by rw [hb]; decide), d.offCoord_eq_zero _ _ (fun h => ((d.mem_sKept _).1 h).1 (by rw [hc]; exact List.mem_singleton.2 rfl)),
      Nat.add_zero]
    unfold GatherDims.start
    rw [dif_pos hmem, hsl, gather_start d ho hm hv, hk, StableHlo.Predicate.toInt_ofNat_small _ (by omega)]
    show min k.val (100000 - 1) = k.val
    omega

end Cert.ReferenceIdeal.Hand
-- ==== Proof.Math.Sort.lean ====
module

public import proofs.«01_k».proof.Proof.Math.Rank
public import Idealize.ShloMosaic.Lib.SortFacts

@[expose] public section

/-! A stable sort that puts greater values first leaves the entries in order of rank. -/

namespace Cert.Rank

open Idealize.ShloMosaic

variable {n : ℕ} {v : Fin n → EReal} {lt : Fin n → Fin n → Bool}

/-- Inserting an entry of lower index into an ordered list keeps it ordered. -/
theorem pairwise_insert (h : ∀ i j, lt i j = true ↔ v j < v i) (a : Fin n) (l : List (Fin n)) (ha : ∀ b ∈ l, a < b) (hl : l.Pairwise (Before v)) :
    (insertBefore lt a l).Pairwise (Before v) := by
  induction l with
  | nil => exact List.pairwise_singleton _ _
  | cons b l ih =>
    have hl' := hl
    rw [List.pairwise_cons] at hl
    unfold insertBefore
    split
    · rename_i e
      refine List.pairwise_cons.2 ⟨fun c hc => ?_, ih (fun c hc => ha c (List.mem_cons_of_mem _ hc)) hl.2⟩
      rcases List.mem_cons.1 ((perm_insertBefore lt a l).mem_iff.1 hc) with rfl | hc
      · exact .inl ((h _ _).1 e)
      · exact hl.1 c hc
    · rename_i e
      have hab : Before v a b := by
        have : v b ≤ v a := not_lt.1 fun e' => e ((h _ _).2 e')
        rcases this.lt_or_eq with h1 | h1
        · exact .inl h1
        · exact .inr ⟨h1.symm, ha b (List.mem_cons_self ..)⟩
      refine List.pairwise_cons.2 ⟨fun c hc => ?_, hl'⟩
      rcases List.mem_cons.1 hc with rfl | hc
      · exact hab
      · exact hab.trans (hl.1 c hc)

/-- The stable sort of a list of ascending indices is ordered. -/
theorem pairwise_sort (h : ∀ i j, lt i j = true ↔ v j < v i) (l : List (Fin n)) (hl : l.Pairwise (· < ·)) : (stableSort lt l).Pairwise (Before v) := by
  induction l with
  | nil => exact List.Pairwise.nil
  | cons a l ih =>
    rw [List.pairwise_cons] at hl
    unfold stableSort
    exact pairwise_insert h a _ (fun b hb => hl.1 b ((perm_stableSort lt l).mem_iff.1 hb)) (ih hl.2)

/-- The entry a stable sort by greater values puts at `k` is the entry of rank `k`. -/
theorem sortedFrom_eq (h : ∀ i j, lt i j = true ↔ v j < v i) (k : Fin n) : sortedFrom lt k = nth v k := by
  refine eq_nth_of_sorted v (sortedFrom lt) (fun a b hab => ?_) k
  have hp : (sortPositions n lt).Pairwise (Before v) := pairwise_sort h _ (List.pairwise_lt_finRange n)
  exact List.pairwise_iff_get.1 hp _ _ (by simp only [Fin.lt_def, Fin.val_cast]; exact hab)

end Cert.Rank
-- ==== Proof.Math.Prefix.lean ====
module

public import proofs.«01_k».proof.Proof.Math.Sampler
public import Idealize.ShloMosaic.Lib.Routing.Ops

@[expose] public section

/-! A running sum along the rows of an array, read at an entry. -/

noncomputable section

namespace Cert.Sampler

open Idealize.ShloMosaic Finset
open Idealize.ShloMosaic.Routing (shape2 symm2 numel2)

/-- Adding up a list from the left is adding its sum. -/
theorem foldl_add {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

/-- A window's sum with zeros before the first entry is the sum of the entries up to it. -/
theorem shifted_sum (f : ℕ → EReal) {j m : ℕ} (hj : j < m + 1) :
    (∑ n ∈ range (m + 1), if m ≤ j + n then f (j + n - m) else 0) = ∑ k ∈ range (j + 1), f k := by
  rw [show m + 1 = (m - j) + (j + 1) by omega, sum_range_add]
  rw [sum_eq_zero fun n hn => if_neg (by rw [mem_range] at hn; omega), zero_add]
  refine sum_congr rfl fun k _ => ?_
  rw [if_pos (by omega)]
  congr 1; omega

/-- A window that ends at the entry and reaches past the row's start sums the row up to the entry. -/
theorem running_sum {B m : ℕ} (x : (shape2 B (m + 1)).Idx → EReal) (f : ℕ → EReal) (b : Fin B) (hx : ∀ i : Fin (m + 1), x (ix2 b i) = f i.val)
    (h : (shape2 B (m + 1)).ReduceWindows (![1, m + 1] : Fin 2 → Nat) ![1, 1] ![0, m] ![0, 0] (shape2 B (m + 1))) (j : Fin (m + 1)) :
    Ideal.hostReduceWindowAdd (![1, m + 1] : Fin 2 → Nat) ![1, 1] ![0, m] ![0, 0] h x 0 (ix2 b j) = ∑ k ∈ range (j.val + 1), f k := by
  unfold Ideal.hostReduceWindowAdd Host.reduceWindow
  refine (foldl_add _ _ _).trans ?_
  rw [zero_add]
  refine (congrArg List.sum (List.map_congr_left (g := fun n => (fun n : ℕ => if m ≤ j.val + n then f (j.val + n - m) else 0) n.val) fun (n : Fin (shape2 1 (m + 1)).numel) _ => ?_)).trans ?_
  · have hw0 : ((shape2 1 (m + 1)).rowMajor.symm n 0).val = 0 := by rw [symm2]; rfl
    have hw : ((shape2 1 (m + 1)).rowMajor.symm n 1).val = n.val := by rw [symm2]; rfl
    have hn : n.val < m + 1 := (n.cast (numel2 _)).isLt
    have hj := j.isLt
    have hb := b.isLt
    split
    · next hin =>
      have h1 := (hin 1).1
      change m ≤ j.val * 1 + ((shape2 1 (m + 1)).rowMajor.symm n 1).val at h1
      rw [hw] at h1
      dsimp only
      rw [if_pos (by omega)]
      refine (congrArg x (funext fun a => Fin.ext ?_)).trans (hx ⟨j.val + n.val - m, by omega⟩)
      match a with
      | ⟨0, _⟩ =>
        show b.val * 1 + ((shape2 1 (m + 1)).rowMajor.symm n 0).val - 0 = b.val
        rw [hw0]; omega
      | ⟨1, _⟩ =>
        show j.val * 1 + ((shape2 1 (m + 1)).rowMajor.symm n 1).val - m = j.val + n.val - m
        rw [hw, Nat.mul_one]
    · next hin =>
      dsimp only
      rw [if_neg fun hle => hin fun a => by
        match a with
        | ⟨0, _⟩ =>
          show 0 ≤ b.val * 1 + ((shape2 1 (m + 1)).rowMajor.symm n 0).val ∧ b.val * 1 + ((shape2 1 (m + 1)).rowMajor.symm n 0).val - 0 < B
          rw [hw0]; omega
        | ⟨1, _⟩ =>
          show m ≤ j.val * 1 + ((shape2 1 (m + 1)).rowMajor.symm n 1).val ∧ j.val * 1 + ((shape2 1 (m + 1)).rowMajor.symm n 1).val - m < m + 1
          rw [hw]; omega]
  refine (Fin.sum_univ_def _).symm.trans ?_
  refine (Fin.sum_univ_eq_sum_range (fun n => if m ≤ j.val + n then f (j.val + n - m) else 0) _).trans ?_
  have hj := j.isLt
  rw [numel2]
  exact shifted_sum f hj

/-- The running probability is a sum over the ranks. -/
theorem cumul_eq_sum (y : Fin 100000 → EReal) (k : ℕ) : cumul y k = ∑ l ∈ range k, prob y (nthOf y l) := by
  induction k with
  | zero => rfl
  | succ k ih => rw [sum_range_succ, ← ih]; rfl

end Cert.Sampler
-- ==== Proof.RI.Rank.lean ====
module

public import proofs.«01_k».proof.Proof.RI.Ops
public import proofs.«01_k».proof.Proof.RI.Gather
public import proofs.«01_k».proof.Proof.Math.Sort
public import proofs.«01_k».proof.Proof.Math.Prefix
public import Idealize.ShloMosaic.Lib.ReduceAll

@[expose] public section

/-! The reference's sorted probabilities, read at an entry. -/

noncomputable section

namespace Cert.ReferenceIdeal.Hand

open Cert.Sampler Cert.Threefry Cert.Rank
open Idealize Idealize.ShloMosaic Idealize.ShloMosaic.StableHlo
open Cert.ReferenceIdeal Cert.ReferenceIdeal.Gen

set_option maxRecDepth 16384

/-- A value that is no NaN and whose zeroes are one is its own key. -/
theorem key_eq (a : EReal) : Scalar.select (FloatOps.cmpf (F := Ideal) (φ := .f32) .une a a) (FloatOps.ofBits (F := Ideal) .f32 0x7FC00000#32)
    (Scalar.select (FloatOps.cmpf (F := Ideal) (φ := .f32) .oeq a (FloatOps.ofBits (F := Ideal) .f32 0x00000000#32)) (FloatOps.ofBits (F := Ideal) .f32 0x00000000#32) a) = a := by
  have h : FloatOps.cmpf (F := Ideal) (φ := .f32) .une a a = BitVec.ofBool (decide (a ≠ a)) := rfl
  have h' : FloatOps.cmpf (F := Ideal) (φ := .f32) .oeq a (FloatOps.ofBits (F := Ideal) .f32 0x00000000#32) = BitVec.ofBool (decide (a = Ideal.ofBits .f32 0x00000000#32)) := rfl
  rw [h, h', decide_eq_false (not_not.2 rfl)]
  by_cases e : a = Ideal.ofBits .f32 0x00000000#32
  · rw [decide_eq_true e]; exact e.symm
  · rw [decide_eq_false e]; rfl

/-- The comparison of two negated values asks which value is greater. -/
theorem before_iff (a b : EReal) (i j : BitVec 32) : (comparator_f32_i32_d1 (F := Ideal) (-a, i) (-b, j) == 1#1) = true ↔ b < a := by
  have h : comparator_f32_i32_d1 (F := Ideal) (-a, i) (-b, j) = BitVec.ofBool (decide (-a < -b)) := by
    unfold comparator_f32_i32_d1
    dsimp only
    refine (congrArg₂ _ (key_eq (-a)) (key_eq (-b))).trans ?_
    rfl
  rw [h, beq_iff_eq]
  by_cases e : b < a
  · simp [e]
  · simp [e]

/-- An index with its second coordinate replaced. -/
theorem along_one (b : Fin 64) (l k : Fin 100000) : (ix2 b l : S64x100000.Idx).along (1 : Fin 2) k = ix2 b k := by
  funext a
  match a with
  | ⟨0, _⟩ => rfl
  | ⟨1, _⟩ => rfl

/-- The positions sorted by falling value. -/
theorem sort_apply (p : FVec Ideal S64x100000 .f32) (b : Fin 64) (l : Fin 100000) :
    (Host.sort2 S64x100000 1 (comparator_f32_i32_d1 (F := Ideal)) (Host.negf p) (iotaInDim S64x100000 32 1)).2 (ix2 b l) = BitVec.ofNat 32 (nth (fun i => (p (ix2 b i) : EReal)) l).val := by
  unfold Host.sort2
  rw [dif_pos (by decide)]
  dsimp only
  have h := sortedFrom_eq (n := 100000) (v := fun i => (p (ix2 b i) : EReal))
    (lt := fun k k' => comparator_f32_i32_d1 (F := Ideal) (Host.negf p (ix2 b k), iotaInDim S64x100000 32 1 (ix2 b k)) (Host.negf p (ix2 b k'), iotaInDim S64x100000 32 1 (ix2 b k')) == 1#1)
    (fun i j => before_iff _ _ _ _) l
  rw [← h]
  have e : (fun k k' : Fin 100000 => comparator_f32_i32_d1 (F := Ideal) (Host.negf p ((ix2 b l : S64x100000.Idx).along (1 : Fin 2) k), iotaInDim S64x100000 32 1 ((ix2 b l : S64x100000.Idx).along (1 : Fin 2) k)) (Host.negf p ((ix2 b l : S64x100000.Idx).along (1 : Fin 2) k'), iotaInDim S64x100000 32 1 ((ix2 b l : S64x100000.Idx).along (1 : Fin 2) k')) == 1#1)
      = (fun k k' => comparator_f32_i32_d1 (F := Ideal) (Host.negf p (ix2 b k), iotaInDim S64x100000 32 1 (ix2 b k)) (Host.negf p (ix2 b k'), iotaInDim S64x100000 32 1 (ix2 b k')) == 1#1) := by
    funext k k'
    rw [along_one, along_one]
  refine (congrArg (iotaInDim S64x100000 32 1) (along_one b l _)).trans ?_
  exact congrArg (fun f : Fin 100000 → Fin 100000 → Bool => BitVec.ofNat 32 (sortedFrom f l).val) e

/-- An index of the row is not wrapped around. -/
theorem wrap_apply (v : IVec S64x100000 32) (b : Fin 64) (l : Fin 100000) (k : Fin 100000) (hk : v (ix2 b l) = BitVec.ofNat 32 k.val) :
    shapeCast S64x100000x1 (select (cmpi .slt v (broadcastInDim S64x100000 ![] bcast_S_S64x100000 (constantI S_ 32 0#32))) (addi v (broadcastInDim S64x100000 ![] bcast_S_S64x100000 (constantI S_ 32 100000#32))) v) shapeCasts_S64x100000_S64x100000x1 (ix3 b l (0 : Fin 1)) = BitVec.ofNat 32 k.val := by
  have hkl := k.isLt
  have h : (IntOp.cmpi .slt (BitVec.ofNat 32 k.val) 0#32) = 0#1 := by word_cmp
  have e : shapeCast S64x100000x1 (select (cmpi .slt v (broadcastInDim S64x100000 ![] bcast_S_S64x100000 (constantI S_ 32 0#32))) (addi v (broadcastInDim S64x100000 ![] bcast_S_S64x100000 (constantI S_ 32 100000#32))) v) shapeCasts_S64x100000_S64x100000x1 (ix3 b l (0 : Fin 1))
    = Scalar.select (IntOp.cmpi .slt (v (ix2 b l)) 0#32) (IntOp.addi (v (ix2 b l)) 100000#32) (v (ix2 b l)) := by
    pointwise
  rw [e, hk, h]
  rfl

/-- The same for one index in each row. -/
theorem wrap1_apply (v : IVec S64x1 32) (b : Fin 64) (k : Fin 100000) (hk : v (ix2 b (0 : Fin 1)) = BitVec.ofNat 32 k.val) :
    shapeCast S64x1x1 (select (cmpi .slt v (broadcastInDim S64x1 ![] bcast_S_S64x1 (constantI S_ 32 0#32))) (addi v (broadcastInDim S64x1 ![] bcast_S_S64x1 (constantI S_ 32 100000#32))) v) shapeCasts_S64x1_S64x1x1 (ix3 b (0 : Fin 1) (0 : Fin 1)) = BitVec.ofNat 32 k.val := by
  have hkl := k.isLt
  have h : (IntOp.cmpi .slt (BitVec.ofNat 32 k.val) 0#32) = 0#1 := by word_cmp
  have e : shapeCast S64x1x1 (select (cmpi .slt v (broadcastInDim S64x1 ![] bcast_S_S64x1 (constantI S_ 32 0#32))) (addi v (broadcastInDim S64x1 ![] bcast_S_S64x1 (constantI S_ 32 100000#32))) v) shapeCasts_S64x1_S64x1x1 (ix3 b (0 : Fin 1) (0 : Fin 1))
    = Scalar.select (IntOp.cmpi .slt (v (ix2 b (0 : Fin 1))) 0#32) (IntOp.addi (v (ix2 b (0 : Fin 1))) 100000#32) (v (ix2 b (0 : Fin 1))) := by
    pointwise
  rw [e, hk, h]
  rfl

/-- An index in range passes the test that guards a gather. -/
theorem inside_word (k : Fin 100000) : IntOp.andi (IntOp.cmpi .sge (BitVec.ofNat 32 k.val) 0#32) (IntOp.cmpi .sle (BitVec.ofNat 32 k.val) 99999#32) = 1#1 := by
  have hkl := k.isLt
  have h : (IntOp.cmpi .sge (BitVec.ofNat 32 k.val) 0#32) = 1#1 := by word_cmp
  have h' : (IntOp.cmpi .sle (BitVec.ofNat 32 k.val) 99999#32) = 1#1 := by word_cmp
  rw [h, h']
  rfl

/-- Every index of the row passes the test of bounds. -/
theorem inside_apply (c : IVec S64x100000x1 32) (f : Fin 64 → Fin 100000 → Fin 100000) (hc : ∀ b l, c (ix3 b l (0 : Fin 1)) = BitVec.ofNat 32 (f b l).val) (i : S64x100000.Idx) :
    Host.reduce IntOp.andi (andi (cmpi .sge c (broadcastInDim S64x100000x1 ![] bcast_S_S64x100000x1 (constantI S_ 32 0#32)))
      (cmpi .sle c (broadcastInDim S64x100000x1 ![0, 1, 2] bcast_S1x1x1_S64x100000x1_0_1_2 (broadcastInDim S1x1x1 ![2] bcast_S1_S1x1x1_2 (constantI S1 32 99999#32)))))
      (constantI S_ 1 1#1) reducesTo_S64x100000x1_S64x100000_d2 h_S_ i = 1#1 := by
  refine Host.reduce_andi_one _ _ _ _ _ rfl fun j => ?_
  have hj : j = ix3 (j 0) (j 1) (0 : Fin 1) := by
    funext a
    match a with
    | ⟨0, _⟩ => rfl
    | ⟨1, _⟩ => rfl
    | ⟨2, _⟩ => exact Subsingleton.elim (α := Fin 1) _ _
  show IntOp.andi (IntOp.cmpi .sge (c j) 0#32) (IntOp.cmpi .sle (c j) 99999#32) = 1#1
  rw [hj]
  exact (congrArg (fun w => IntOp.andi (IntOp.cmpi .sge w 0#32) (IntOp.cmpi .sle w 99999#32)) (hc (j 0) (j 1))).trans (inside_word _)

/-- The same for one index in each row. -/
theorem inside1_apply (c : IVec S64x1x1 32) (f : Fin 64 → Fin 100000) (hc : ∀ b, c (ix3 b (0 : Fin 1) (0 : Fin 1)) = BitVec.ofNat 32 (f b).val) (i : S64x1.Idx) :
    Host.reduce IntOp.andi (andi (cmpi .sge c (broadcastInDim S64x1x1 ![] bcast_S_S64x1x1 (constantI S_ 32 0#32)))
      (cmpi .sle c (broadcastInDim S64x1x1 ![0, 1, 2] bcast_S1x1x1_S64x1x1_0_1_2 (broadcastInDim S1x1x1 ![2] bcast_S1_S1x1x1_2 (constantI S1 32 99999#32)))))
      (constantI S_ 1 1#1) reducesTo_S64x1x1_S64x1_d2 h_S_ i = 1#1 := by
  refine Host.reduce_andi_one _ _ _ _ _ rfl fun j => ?_
  have hj : j = ix3 (j 0) (0 : Fin 1) (0 : Fin 1) := by
    funext a
    match a with
    | ⟨0, _⟩ => rfl
    | ⟨1, _⟩ => exact Subsingleton.elim (α := Fin 1) _ _
    | ⟨2, _⟩ => exact Subsingleton.elim (α := Fin 1) _ _
  show IntOp.andi (IntOp.cmpi .sge (c j) 0#32) (IntOp.cmpi .sle (c j) 99999#32) = 1#1
  rw [hj]
  exact (congrArg (fun w => IntOp.andi (IntOp.cmpi .sge w 0#32) (IntOp.cmpi .sle w 99999#32)) (hc (j 0))).trans (inside_word _)

/-- The probability kept at a position, from the running sum and the position. -/
theorem keep_apply (q r : FVec Ideal S64x100000 .f32) (b : Fin 64) (l : Fin 100000) :
    (select (ori (andi (cmpf .ole r (broadcastInDim S64x100000 ![] bcast_S_S64x100000 (constant (F := Ideal) S_ .f32 0x3F4CCCCD#32)))
        (broadcastInDim S64x100000 ![0, 1] bcast_S1x100000_S64x100000_0_1 (cmpi .slt (broadcastInDim S1x100000 ![1] bcast_S100000_S1x100000_1 (iotaInDim S100000 32 0)) (broadcastInDim S1x100000 ![] bcast_S_S1x100000 (constantI S_ 32 25#32)))))
        (broadcastInDim S64x100000 ![0, 1] bcast_S1x100000_S64x100000_0_1 (cmpi .eq (broadcastInDim S1x100000 ![1] bcast_S100000_S1x100000_1 (iotaInDim S100000 32 0)) (broadcastInDim S1x100000 ![] bcast_S_S1x100000 (constantI S_ 32 0#32)))))
      q (broadcastInDim S64x100000 ![] bcast_S_S64x100000 (id (constant (F := Ideal) S_ .f32 0x00000000#32))) (ix2 b l) : EReal)
      = if (l.val < 25 ∧ ((r (ix2 b l) : EReal) ≤ Ideal.ofBits .f32 0x3F4CCCCD#32 ∨ l.val = 0)) then q (ix2 b l) else 0 := by
  have hl := l.isLt
  have h : IntOp.cmpi .slt (BitVec.ofNat 32 l.val) 25#32 = BitVec.ofBool (decide (l.val < 25)) := by word_cmp
  have h' : IntOp.cmpi .eq (BitVec.ofNat 32 l.val) 0#32 = BitVec.ofBool (decide (l.val = 0)) := by word_cmp
  have e : (select (ori (andi (cmpf .ole r (broadcastInDim S64x100000 ![] bcast_S_S64x100000 (constant (F := Ideal) S_ .f32 0x3F4CCCCD#32)))
        (broadcastInDim S64x100000 ![0, 1] bcast_S1x100000_S64x100000_0_1 (cmpi .slt (broadcastInDim S1x100000 ![1] bcast_S100000_S1x100000_1 (iotaInDim S100000 32 0)) (broadcastInDim S1x100000 ![] bcast_S_S1x100000 (constantI S_ 32 25#32)))))
        (broadcastInDim S64x100000 ![0, 1] bcast_S1x100000_S64x100000_0_1 (cmpi .eq (broadcastInDim S1x100000 ![1] bcast_S100000_S1x100000_1 (iotaInDim S100000 32 0)) (broadcastInDim S1x100000 ![] bcast_S_S1x100000 (constantI S_ 32 0#32)))))
      q (broadcastInDim S64x100000 ![] bcast_S_S64x100000 (id (constant (F := Ideal) S_ .f32 0x00000000#32))) (ix2 b l) : EReal)
      = Scalar.select (IntOp.ori (IntOp.andi (BitVec.ofBool (decide ((r (ix2 b l) : EReal) ≤ Ideal.ofBits .f32 0x3F4CCCCD#32))) (IntOp.cmpi .slt (BitVec.ofNat 32 l.val) 25#32)) (IntOp.cmpi .eq (BitVec.ofNat 32 l.val) 0#32))
        (q (ix2 b l)) (Ideal.ofBits .f32 0x00000000#32) := rfl
  rw [e, h, h', Ideal.ofBits_zero_f32]
  by_cases h1 : (r (ix2 b l) : EReal) ≤ Ideal.ofBits .f32 0x3F4CCCCD#32 <;> by_cases h2 : l.val < 25 <;> by_cases h3 : l.val = 0 <;>
    simp only [h1, h2, h3, decide_true, decide_false, and_self, or_self, true_or, or_true, and_true, true_and, false_and, and_false, if_true, if_false] <;> first | rfl | omega

/-- A sum over windows, place by place. -/
theorem window_eq {s t u : Shape} (window strides lo hi : Fin s.rank → Nat) (h : s.ReduceWindows window strides lo hi t) (hu : 0 < u.numel) (x : FVec Ideal s .f32) (v : FVec Ideal u .f32) (j : t.Idx) :
    (Host.reduceWindowAdd window strides lo hi x v h hu j : EReal) = Ideal.hostReduceWindowAdd window strides lo hi h x (v (Shape.Idx.first hu)) j := rfl

/-- A running sum along a row. -/
theorem window_sum (x : FVec Ideal S64x100000 .f32) (f : ℕ → EReal) (b : Fin 64) (hx : ∀ i : Fin 100000, (x (ix2 b i) : EReal) = f i.val) (l : Fin 100000) :
    (Host.reduceWindowAdd ![1, 100000] ![1, 1] ![0, 99999] ![0, 0] x (broadcastInDim S_ ![] bcast_S_S_ (constant (F := Ideal) S_ .f32 0x00000000#32)) reduceWindows_S64x100000_S64x100000_w1s1p0_0_w100000s1p99999_0 h_S_ (ix2 b l) : EReal)
      = ∑ k ∈ Finset.range (l.val + 1), f k := by
  have h0 : (broadcastInDim S_ ![] bcast_S_S_ (constant (F := Ideal) S_ .f32 0x00000000#32) (Shape.Idx.first h_S_) : EReal) = 0 := Ideal.ofBits_zero_f32
  rw [window_eq, h0]
  exact running_sum (B := 64) (m := 99999) x f b hx _ l

end Cert.ReferenceIdeal.Hand
-- ==== Proof.RI.Answer.lean ====
module

public import proofs.«01_k».proof.Proof.RI.Ops
public import proofs.«01_k».proof.Proof.Math.Folds

@[expose] public section

/-! The reference's closing steps: the least index of the greatest entry, and the test for a recent repeat. -/

noncomputable section

namespace Cert.ReferenceIdeal.Hand

open Cert.Sampler Cert.Threefry
open Idealize Idealize.ShloMosaic Idealize.ShloMosaic.StableHlo
open Cert.ReferenceIdeal Cert.ReferenceIdeal.Gen

set_option maxRecDepth 16384

/-- The least index at which a row of scores is greatest. -/
theorem argmax_apply (s : FVec Ideal S64x100000 .f32) (b : Fin 64) :
    Host.reduce IntOp.minsi (select (cmpf .oeq s (broadcastInDim S64x100000 ![0, 1] bcast_S64x1_S64x100000_0_1 (broadcastInDim S64x1 ![0] bcast_S64_S64x1_0 (Host.reduce (FloatOps.maximumf (F := Ideal)) s (constant (F := Ideal) S_ .f32 0xFF800000#32) reducesTo_S64x100000_S64_d1 h_S_))))
      (broadcastInDim S64x100000 ![1] bcast_S100000_S64x100000_1 (iotaInDim S100000 32 0)) (broadcastInDim S64x100000 ![] bcast_S_S64x100000 (id (constantI S_ 32 100000#32)))) (constantI S_ 32 2147483647#32) reducesTo_S64x100000_S64_d1 h_S_ (ix1 b)
      = Finset.fold IntOp.minsi 2147483647#32 (fun i : Fin 100000 => if (s (ix2 b i) : EReal) = Finset.fold max (Ideal.ofBits .f32 0xFF800000#32) (fun j => (s (ix2 b j) : EReal)) Finset.univ then BitVec.ofNat 32 i.val else 100000#32) Finset.univ := by
  rw [least_apply]
  congr 1
  funext i
  rw [first_apply, greatest_apply]

/-- The float ten. -/
theorem ten_eq : Ideal.ofBits .f32 0x41200000#32 = ((10 : ℝ) : EReal) := by
  have h : Ideal.ofBits .f32 0x41200000#32 = ((10485760 * (2 : ℝ) ^ (-20 : ℤ) : ℝ) : EReal) := by
    simp [Ideal.ofBits, Ideal.ieee]
  rw [h]; norm_num

/-- A count out of ten is at least one tenth of ten when it is not zero. -/
theorem tenth_le {c : ℕ} (hc : c ≤ 10) : Ideal.div 1 (Ideal.ofBits .f32 0x41200000#32) ≤ Ideal.div (FloatOps.sitofp (F := Ideal) .f32 (BitVec.ofNat 32 c)) (Ideal.ofBits .f32 0x41200000#32) ↔ 0 < c := by
  have h : FloatOps.sitofp (F := Ideal) .f32 (BitVec.ofNat 32 c) = (((BitVec.ofNat 32 c).toInt : ℝ) : EReal) := rfl
  rw [h, ten_eq, Cert.Folds.toInt_ofNat (by omega), show (1 : EReal) = ((1 : ℝ) : EReal) from rfl, div_real (by norm_num), div_real (by norm_num), EReal.coe_le_coe_iff,
    div_le_div_iff_of_pos_right (by norm_num)]
  constructor
  · intro h
    have : (1 : ℤ) ≤ (c : ℤ) := by exact_mod_cast h
    omega
  · intro h
    exact_mod_cast (show (1 : ℤ) ≤ (c : ℤ) by omega)

/-- The test for a repeat chooses by whether the token is among the last ten. -/
theorem repeat_test (D : IVec S64x200 32) (w : IVec S64 32) (A B : IVec S64 32) (b : Fin 64) :
    select (cmpf .oge (Host.divf (sitofp (F := Ideal) .f32 (Host.reduce IntOp.addi (extui 32 (cmpi .eq (extractStridedSlice S64x10 ![0, 190] D slices_S64x200_S64x10_0_190) (broadcastInDim S64x10 ![0, 1] bcast_S64x1_S64x10_0_1 (broadcastInDim S64x1 ![0] bcast_S64_S64x1_0 w))) natLt_1_32) (constantI S_ 32 0#32) reducesTo_S64x10_S64_d1 h_S_)) (broadcastInDim S64 ![] bcast_S_S64 (constant S_ .f32 0x41200000#32)) : FVec Ideal S64 .f32) (broadcastInDim S64 ![] bcast_S_S64 (Host.divf (constant S_ .f32 0x3F800000#32) (constant S_ .f32 0x41200000#32)))) A B (ix1 b)
      = if ∃ k : Fin 10, D (ix2 b (⟨190 + k.val, by omega⟩ : Fin 200)) = w (ix1 b) then A (ix1 b) else B (ix1 b) := by
  pointwise
  rw [Cert.Folds.fold_count]
  have hc : (Finset.univ.filter fun k : Fin 10 => D (ix2 b (⟨190 + k.val, by omega⟩ : Fin 200)) = w (ix1 b)).card ≤ 10 := (Finset.card_le_univ _).trans (by simp)
  refine if_congr ((tenth_le hc).trans ?_) rfl rfl
  rw [Finset.card_pos]
  exact ⟨fun ⟨k, hk⟩ => ⟨k, (Finset.mem_filter.1 hk).2⟩, fun ⟨k, hk⟩ => ⟨k, Finset.mem_filter.2 ⟨Finset.mem_univ _, hk⟩⟩⟩

end Cert.ReferenceIdeal.Hand
-- ==== Proof.RI.Close.lean ====
module

public import proofs.«01_k».proof.Proof.RI.Noise
public import proofs.«01_k».proof.Proof.RI.Rank
public import proofs.«01_k».proof.Proof.RI.Answer

@[expose] public section

/-! What the reference computes for a row of real logits: the same answer, in the same terms, as the kernel's. -/

noncomputable section

namespace Cert.ReferenceIdeal.Hand

open Cert.Sampler Cert.Threefry Cert.Rank
open Idealize Idealize.ShloMosaic Idealize.ShloMosaic.StableHlo
open Cert.ReferenceIdeal Cert.ReferenceIdeal.Gen Cert.ReferenceIdeal.Value

local notation "Contents" => Valuation τ sig (Elt Ideal)

set_option maxRecDepth 16384

/-- The logits the program is launched on. -/
def logits (V : Contents) : FVec Ideal S64x100000 .f32 := V (Proc.devRef .tc main_arg0)
/-- The decoded tokens the program is launched on. -/
def tokens (V : Contents) : IVec S64x200 32 := V (Proc.devRef .tc main_arg1)
/-- Row `b` of the logits. -/
def row (V : Contents) (b : Fin 64) (i : Fin 100000) : EReal := logits V (ix2 b i)

variable (V : Contents) (b : Fin 64)

/-- The exponential of a logit less the row's maximum. -/
theorem exp_apply (i : Fin 100000) : (res_main_v7 V : FVec Ideal S64x100000 .f32) (ix2 b i) = Ideal.exp (row V b i - top (row V b)) := by
  have h : (res_main_v7 V : FVec Ideal S64x100000 .f32) (ix2 b i) = Ideal.exp (row V b i - max (Ideal.ofBits .f32 0xFF800000#32) (top (row V b))) :=
    exp_shifted_apply (logits V) b i
  rw [h, Cert.Folds.ofBits_bot, max_eq_right bot_le]

/-- The softmax is the probability. -/
theorem prob_apply (i : Fin 100000) : (res_main_v11 V : FVec Ideal S64x100000 .f32) (ix2 b i) = prob (row V b) i := by
  refine (over_sum_apply (res_main_v7 V) b i).trans ?_
  unfold prob total
  simp only [exp_apply]

/-- The ranks by probability are the ranks by logit. -/
theorem nth_prob (hy : ∀ i, ∃ r : ℝ, row V b i = r) (l : Fin 100000) : nth (prob (row V b)) l = nthOf (row V b) l.val := by
  unfold nthOf
  rw [dif_pos l.isLt]
  refine (eq_nth_of_sorted (prob (row V b)) (nth (row V b)) (fun a c hac => (before_prob _ hy _ _).2 ?_) l).symm
  rw [← pos_lt_iff, pos_nth, pos_nth]
  exact hac

variable (hy : ∀ b i, ∃ r : ℝ, row V b i = r)
include hy

/-- The sorted indices are the entries in order of rank. -/
theorem sorted_apply (l : Fin 100000) : (res_main_v13 V : IVec S64x100000 32) (ix2 b l) = BitVec.ofNat 32 (nthOf (row V b) l.val).val := by
  refine (sort_apply (res_main_v11 V) b l).trans ?_
  have h : (fun i => ((res_main_v11 V : FVec Ideal S64x100000 .f32) (ix2 b i) : EReal)) = prob (row V b) := funext fun i => prob_apply V b i
  rw [h, nth_prob V b (hy b)]

/-- The indices that the sorted probabilities are gathered at. -/
theorem index_apply (l : Fin 100000) : (res_main_call1_v5 V : IVec S64x100000x1 32) (ix3 b l (0 : Fin 1)) = BitVec.ofNat 32 (nthOf (row V b) l.val).val :=
  wrap_apply (res_main_v13 V) b l _ (sorted_apply V b hy l)

/-- The sorted probabilities are the probabilities in order of rank. -/
theorem ranked_apply (l : Fin 100000) : (res_main_v14 V : FVec Ideal S64x100000 .f32) (ix2 b l) = prob (row V b) (nthOf (row V b) l.val) := by
  have h := inside_apply (res_main_call1_v5 V) (fun b l => nthOf (row V b) l.val) (fun b l => index_apply V b hy l) (ix2 b l)
  have h' := gather_row gather_S64x100000_S64x100000x1_S64x100000_n_1_0_0_1_2_11 rfl rfl rfl rfl rfl rfl b l (res_main_v11 V : FVec Ideal S64x100000 .f32) (res_main_call1_v5 V) _ (index_apply V b hy l)
  unfold res_main_v14
  exact (select_one _ _ _ _ h).trans (h'.trans (prob_apply V b _))

/-- The masked probabilities are the ranks' masses. -/
theorem mass_apply (l : Fin 100000) : (res_main_v28 V : FVec Ideal S64x100000 .f32) (ix2 b l) = mass (row V b) l.val := by
  refine (keep_apply (res_main_v14 V) _ b l).trans ?_
  rw [window_sum (res_main_v14 V) (fun k => prob (row V b) (nthOf (row V b) k)) b (fun i => ranked_apply V b hy i) l, ← cumul_eq_sum, ranked_apply V b hy l]
  by_cases h : Kept (row V b) l.val
  · exact (if_pos h).trans (if_pos h).symm
  · exact (if_neg h).trans (if_neg h).symm

/-- The number of an entry: the row times 100000, plus the column. -/
theorem number_eq (c : Fin 100000) : number b c = BitVec.ofNat 32 (b.val * 100000 + c.val) := by
  unfold number
  rw [show (100000#32) = BitVec.ofNat 32 100000 from rfl, WordCmp.muli_ofNat, WordCmp.addi_ofNat]

/-- A rank's score in the first draw. -/
theorem score_apply (l : Fin 100000) : (res_main_v54 V : FVec Ideal S64x100000 .f32) (ix2 b l) = score (row V b) (firstNoise b.val) l.val := by
  unfold res_main_v54
  rw [guarded_apply, over_sum_apply]
  simp only [mass_apply V b hy]
  rw [sum_mass _ (by norm_num), add_comm]
  unfold score firstNoise
  congr 1
  rw [← number_eq V b hy l]
  refine Eq.trans ?_ (congrArg (fun w => -loglog .host w) (firstWord_eq V b l))
  exact (noise_apply (fun i => firstWord V i) (ix2 b l)).trans (noise_eq _)

/-- An entry's score in the second draw. -/
theorem rescore_apply (i : Fin 100000) : (res_main_v97 V : FVec Ideal S64x100000 .f32) (ix2 b i) = rescore (row V b) (secondNoise b.val) i := by
  unfold res_main_v97
  rw [guarded_apply, prob_apply V b i, add_comm]
  unfold rescore secondNoise
  congr 1
  rw [← number_eq V b hy i]
  refine Eq.trans ?_ (congrArg (fun w => -loglog .host w) (secondWord_eq V b i))
  exact (noise_apply (fun i => secondWord V i) (ix2 b i)).trans (noise_eq _)

variable {p : Fin 64 → ℕ} (hp : ∀ b, Chosen (row V b) (firstNoise b.val) (p b))
include hp

/-- The chosen rank is a place of the row. -/
theorem choice_lt : p b < 100000 := by have := (hp b).kept.1; omega

/-- The first draw's place is the chosen rank. -/
theorem choice_apply : (res_main_v62 V : IVec S64x1 32) (ix2 b (0 : Fin 1)) = BitVec.ofNat 32 (p b) := by
  unfold res_main_v62
  rw [column_apply, argmax_apply]
  simp only [score_apply V b hy]
  refine fold_first (fun l : Fin 100000 => score (row V b) (firstNoise b.val) l.val) 100000#32 (by decide) (by decide) ⟨p b, choice_lt V b hy hp⟩ (fun l => ?_) (fun l hl => ?_)
  · by_cases h : Kept (row V b) l.val
    · exact (hp b).le _ h
    · exact ((hp b).out _ h).le
  · by_cases h : Kept (row V b) l.val
    · exact (hp b).first _ hl h
    · exact (hp b).out _ h

/-- The first draw is the entry of the chosen rank. -/
theorem pick_apply : (res_main_v64 V : IVec S64 32) (ix1 b) = BitVec.ofNat 32 (nthOf (row V b) (p b)).val := by
  have hw : ∀ b, (res_main_call6_v5 V : IVec S64x1x1 32) (ix3 b (0 : Fin 1) (0 : Fin 1)) = BitVec.ofNat 32 (⟨p b, choice_lt V b hy hp⟩ : Fin 100000).val :=
    fun b => wrap1_apply (res_main_v62 V) b ⟨p b, choice_lt V b hy hp⟩ (choice_apply V b hy hp)
  have h := inside1_apply (res_main_call6_v5 V) (fun b => ⟨p b, choice_lt V b hy hp⟩) hw (ix2 b (0 : Fin 1))
  have h' := gather_row gather_S64x100000_S64x1x1_S64x1_n_1_0_0_1_2_11 rfl rfl rfl rfl rfl rfl b (0 : Fin 1) (res_main_v13 V : IVec S64x100000 32) (res_main_call6_v5 V) _ (hw b)
  unfold res_main_v64
  refine (flat_apply _ b).trans ?_
  exact ((select_one _ _ _ _ h).trans (h'.trans (sorted_apply V b hy _)))

/-- The program's result, as its last operation spells it. -/
def result (V : Contents) : IVec S64 32 :=
  select (cmpf .oge (Host.divf (sitofp .f32 (Host.reduce IntOp.addi (extui 32 (cmpi .eq (extractStridedSlice S64x10 ![0, 190] (tokens V) slices_S64x200_S64x10_0_190) (broadcastInDim S64x10 ![0, 1] bcast_S64x1_S64x10_0_1 (broadcastInDim S64x1 ![0] bcast_S64_S64x1_0 (res_main_v64 V)))) natLt_1_32) (constantI S_ 32 0#32) reducesTo_S64x10_S64_d1 h_S_)) (broadcastInDim S64 ![] bcast_S_S64 (constant S_ .f32 0x41200000#32)) : FVec Ideal S64 .f32) (broadcastInDim S64 ![] bcast_S_S64 (Host.divf (constant S_ .f32 0x3F800000#32) (constant S_ .f32 0x41200000#32))))
    (Host.reduce IntOp.minsi (select (cmpf (F := Ideal) .oeq (res_main_v97 V) (broadcastInDim S64x100000 ![0, 1] bcast_S64x1_S64x100000_0_1 (broadcastInDim S64x1 ![0] bcast_S64_S64x1_0 (Host.reduce (FloatOps.maximumf (F := Ideal)) (res_main_v97 V) (constant (F := Ideal) S_ .f32 0xFF800000#32) reducesTo_S64x100000_S64_d1 h_S_)))) (broadcastInDim S64x100000 ![1] bcast_S100000_S64x100000_1 (iotaInDim S100000 32 0)) (broadcastInDim S64x100000 ![] bcast_S_S64x100000 (id (constantI S_ 32 100000#32)))) (constantI S_ 32 2147483647#32) reducesTo_S64x100000_S64_d1 h_S_)
    (res_main_v64 V)

/-- A row's result is the sampler's answer. -/
theorem result_row : result V (ix1 b) = answer (row V b) (secondNoise b.val) (fun w => ∃ k : Fin 10, tokens V (ix2 b (⟨190 + k.val, by omega⟩ : Fin 200)) = w) (p b) := by
  refine (repeat_test (tokens V) (res_main_v64 V) _ (res_main_v64 V) b).trans ?_
  rw [pick_apply V b hy hp, argmax_apply]
  simp only [rescore_apply V b hy]
  have hr : redraw (row V b) (secondNoise b.val) = Finset.fold IntOp.minsi 2147483647#32 (fun i : Fin 100000 => if rescore (row V b) (secondNoise b.val) i = Finset.fold max (Ideal.ofBits .f32 0xFF800000#32) (fun j => rescore (row V b) (secondNoise b.val) j) Finset.univ then BitVec.ofNat 32 i.val else 100000#32) Finset.univ := by
    unfold redraw
    congr 1
  rw [← hr]
  unfold answer
  by_cases h : ∃ k : Fin 10, tokens V (ix2 b (⟨190 + k.val, by omega⟩ : Fin 200)) = BitVec.ofNat 32 (nthOf (row V b) (p b)).val
  · exact (if_pos h).trans (if_pos h).symm
  · exact (if_neg h).trans (if_neg h).symm

end Cert.ReferenceIdeal.Hand
-- ==== Proof.Finite.lean ====
module

public import proofs.«01_k».proof.Defs
public import Idealize.ShloMosaic.Lib.ReduceAll
public import Idealize.ShloMosaic.Lib.Pointwise

@[expose] public section

set_option maxRecDepth 16384

/-! What the precondition says of one logit. -/

noncomputable section

namespace Cert.Finite

open Idealize.ShloMosaic Cert.Pre_finite_logits

/-- The word of infinity is the greatest extended real. -/
theorem ofBits_top : Ideal.ofBits .f32 0x7F800000#32 = ⊤ := by
  simp [Ideal.ofBits, Ideal.ieee]

/-- A value above the least finite float and below infinity is a real number. -/
theorem real_of_between {a : EReal} (h : Ideal.ofBits .f32 0xFF7FFFFF#32 < a) (h' : a < Ideal.ofBits .f32 0x7F800000#32) : ∃ r : ℝ, a = r := by
  rw [ofBits_top] at h'
  induction a with
  | bot => exact absurd h not_lt_bot
  | top => exact absurd h' (lt_irrefl _)
  | coe r => exact ⟨r, rfl⟩

/-- The conjunction of two bits is one only when both are. -/
theorem both_one (a b : BitVec 1) (h : IntOp.andi a b = 1#1) : a = 1#1 ∧ b = 1#1 := by
  revert a b; decide

variable [Cert.Pre_finite_logits.Facts]

/-- An array of no axes has one index. -/
instance : Subsingleton S_.Idx := ⟨fun a b => funext fun i => i.elim0⟩

/-- Under the precondition every logit is a real number above the least finite float. -/
theorem entry (x : FVec Ideal S64x100000 .f32) (d : IVec S64x200 32) (h : fn (F := Ideal) x d = fun _ => 1#1) (i : S64x100000.Idx) :
    (∃ r : ℝ, (x i : EReal) = r) ∧ Ideal.ofBits .f32 0xFF7FFFFF#32 < (x i : EReal) := by
  unfold fn at h
  dsimp only at h
  have e := Host.reduce_andi_all _ _ Facts.reducesTo_S64x100000_S_d0_1 Facts.h_S_ (fun i : Fin 0 => i.elim0) (congrFun h _) i
  obtain ⟨e1, e2⟩ := both_one _ _ e
  have h1 := (Ideal.cmp_ogt_eq_one _ _).1 e1
  exact ⟨real_of_between h1 ((Ideal.cmp_olt_eq_one _ _).1 e2), h1⟩

end Cert.Finite

end
-- ==== Proof.Equation.lean ====
module

public import proofs.«01_k».proof.Proof.KI.Array
public import proofs.«01_k».proof.Proof.KI.Close
public import proofs.«01_k».proof.Proof.RI.Close
public import proofs.«01_k».proof.Proof.Finite

@[expose] public section

set_option maxRecDepth 16384

/-! The equation: on the same logits and tokens, every logit finite, the kernel's result and the reference's are the same sampler's answer in every row. -/

noncomputable section

namespace Cert.Equation

open Cert.Sampler Cert.Threefry
open Idealize.ShloMosaic Idealize.ShloMosaic.TcCoe
open scoped Classical

/-- The answer depends on the recent tokens only through whether the first draw is among them. -/
theorem answer_congr (y : Fin 100000 → EReal) (n : ℕ → EReal) (f g : BitVec 32 → Prop) (p : ℕ)
    (h : f (BitVec.ofNat 32 (nthOf y p).val) ↔ g (BitVec.ofNat 32 (nthOf y p).val)) : answer y n f p = answer y n g p := by
  unfold answer
  by_cases hf : f (BitVec.ofNat 32 (nthOf y p).val)
  · rw [if_pos hf, if_pos (h.1 hf)]
  · rw [if_neg hf, if_neg fun e => hf (h.2 e)]

/-- Minus one is no entry's index. -/
theorem index_ne (i : Fin 100000) : (4294967295#32 : BitVec 32) ≠ BitVec.ofNat 32 i.val := by
  intro h
  have e := congrArg BitVec.toNat h
  have := i.isLt
  simp at e
  omega

namespace Kernel

open Cert.KernelIdeal Cert.KernelIdeal.Gen Cert.KernelIdeal.Hand

variable (m : (ℓ : Loc nD τ sig) → Buf (Elt Ideal) ℓ) (c : Dev nD)

/-- Row `R` of the logits. -/
def line (R : Fin 64) (i : Fin 100000) : EReal := Hand.logits m c (ix2 R i)

/-- A word that is an entry's index stands in the padded row of recent tokens exactly where it is one of the last ten tokens. -/
theorem recent_iff (t : Fin cfg0.N) (r : Fin 16) (R : Fin 64) (hR : R.val = 16 * t.val + r.val) (i : Fin 100000) :
    (∃ l : Fin 128, (show IVec S16x128 32 from iblk m c 1 t) (ix2 r l) = BitVec.ofNat 32 i.val)
      ↔ ∃ k : Fin 10, Hand.tokens m c (ix2 R (⟨190 + k.val, by omega⟩ : Fin 200)) = BitVec.ofNat 32 i.val := by
  simp only [block1_apply m c t r _ R hR, padded_eq]
  constructor
  · rintro ⟨l, hl⟩
    by_cases h : l.val < 10
    · exact ⟨⟨l.val, h⟩, (pad_left _ R ⟨l.val, h⟩).symm.trans hl⟩
    · exact absurd ((pad_right _ R l (by omega)).symm.trans hl) (index_ne i)
  · rintro ⟨k, hk⟩
    exact ⟨⟨k.val, by omega⟩, (pad_left _ R k).trans hk⟩

/-- A row of the kernel's result is the sampler's answer. -/
theorem result_row (R : Fin 64) (hneg : ∀ i, NEG < line m c R i) {p : ℕ} (hp : Chosen (line m c R) (firstNoise R.val) p) :
    outArr m c (ix2 R 0) = answer (line m c R) (secondNoise R.val)
      (fun w => ∃ k : Fin 10, Hand.tokens m c (ix2 R (⟨190 + k.val, by omega⟩ : Fin 200)) = w) p := by
  have hR : R.val = 16 * (pointOf R).val + (placeOf R).val := by
    show R.val = 16 * (R.val / 16) + R.val % 16
    omega
  have hx : Hand.row (show FVec Ideal S16x100000 .f32 from iblk m c 0 (pointOf R)) (placeOf R) = line m c R :=
    funext fun i => block0_apply m c (pointOf R) (placeOf R) i R hR
  have hb := body_row (x := (show FVec Ideal S16x100000 .f32 from iblk m c 0 (pointOf R))) (r := placeOf R) (by rw [hx]; exact hneg)
    (show IVec S16x128 32 from iblk m c 1 (pointOf R)) (pointOf R).val p (by rw [hx, ← hR]; exact hp)
  rw [hx, ← hR] at hb
  refine Eq.trans ?_ (hb.trans (answer_congr _ _ _ _ _ (recent_iff m c (pointOf R) (placeOf R) R hR _)))
  show outBlk m c (pointOf R) (ix2 (placeOf R) 0) = _
  unfold outBlk
  rw [(index_eq (pointOf R)).2.2.2]

end Kernel

variable [Cert.Pre_finite_logits.Facts]

/-- The two results are equal: the kernel's first output column, and the reference's result on the same logits and tokens. -/
theorem results_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (hx : Cert.ReferenceIdeal.Hand.logits V = Cert.KernelIdeal.Hand.logits m c) (hd : Cert.ReferenceIdeal.Hand.tokens V = Cert.KernelIdeal.Hand.tokens m c)
    (h : Cert.Pre_finite_logits.fn (F := Ideal) (Cert.KernelIdeal.Hand.logits m c) (Cert.KernelIdeal.Hand.tokens m c) = fun _ => 1#1) :
    shapeCast Cert.KernelIdeal.S64 (extractStridedSlice Cert.KernelIdeal.S64x1 ![0, 0] (Cert.KernelIdeal.Hand.outArr m c) Cert.KernelIdeal.Gen.slices_S64x128_S64x1_0_0)
      Cert.KernelIdeal.Gen.shapeCasts_S64x1_S64 = Cert.ReferenceIdeal.Hand.result V := by
  have hline : ∀ b, Cert.ReferenceIdeal.Hand.row V b = Kernel.line m c b := fun b => funext fun i => congrFun hx (ix2 b i)
  have hreal : ∀ b i, ∃ r : ℝ, Cert.ReferenceIdeal.Hand.row V b i = r := fun b i => by
    rw [hline]
    exact (Cert.Finite.entry _ _ h (ix2 b i)).1
  choose p hp using fun b : Fin 64 => exists_first (Cert.ReferenceIdeal.Hand.row V b) (hreal b) b.val
  funext j
  obtain ⟨b, rfl⟩ : ∃ b : Fin 64, j = ix1 b := ⟨j 0, by funext a; fin_cases a; rfl⟩
  rw [Cert.KernelIdeal.Hand.first_column, Cert.ReferenceIdeal.Hand.result_row V b hreal hp,
    Kernel.result_row m c b (fun i => (Cert.Finite.entry _ _ h (ix2 b i)).2) (p := p b) (by rw [← hline]; exact hp b), hline, hd]

end Cert.Equation

end
-- ==== Proof.lean ====
module

public import proofs.«01_k».proof.Defs
public import proofs.«01_k».proof.Proof.Frames
public import proofs.«01_k».proof.Proof.Equation
public import proofs.«01_k».proof.Proof.Gen.Pre_finite_logits

@[expose] public section

noncomputable section

namespace Cert.Proof

open Idealize.ShloMosaic Idealize.ShloMosaic.TcCoe Idealize.SL.Sem

/-- The kernel and the reference, on the same finite logits and the same tokens, end with equal results, their arguments unchanged. -/
theorem equal_results : Cert.algebraic_KernelIdeal_ReferenceIdeal_pre_finite_logits (hKernelIdeal := Cert.KernelIdeal.Gen.facts)
    (hReferenceIdeal := Cert.ReferenceIdeal.Gen.facts) (hPre_finite_logits := Cert.Pre_finite_logits.Gen.facts) := by
  intro m g m' g' hpre hargs
  letI := Cert.Pre_finite_logits.Gen.facts
  refine ⟨fun c => Cert.ReferenceIdeal.Hand.result (StableHlo.launchContents m' c), ?_, ?_⟩
  · refine (θ_run Cert.KernelIdeal.defs _ _).mono (fun r h c => ⟨?_, ?_, ?_⟩) (Cert.KernelIdeal.Hand.run_main m g)
    · refine ((h.1 c).2 Cert.KernelIdeal.main_v0 (Pipeline.mem_restRefs_of Cert.KernelIdeal.main_v0 (by decide) (by decide))).trans ?_
      refine (Cert.KernelIdeal.Hand.host_tail_eq m c).trans ?_
      exact Cert.Equation.results_eq m c (StableHlo.launchContents m' c) (hargs c).1 (hargs c).2 (hpre c)
    · exact ((h.1 c).1 0).trans (((Cert.KernelIdeal.Hand.dats m 0 c).arrAt_in 0 rfl _).trans (Cert.KernelIdeal.Gen.V_main_arg0 m c))
    · exact ((h.1 c).2 Cert.KernelIdeal.main_arg1 (Pipeline.mem_restRefs_of Cert.KernelIdeal.main_arg1 (by decide) (by decide))).trans
        (Cert.KernelIdeal.Gen.W_main_arg1 m (Cert.KernelIdeal.Hand.dats m) c)
  · exact (θ_run Cert.ReferenceIdeal.defs _ _).mono (fun r h c => ⟨(h c).1, (h c).2⟩) (Cert.ReferenceIdeal.Value.run (F := Ideal) m' g')

/-- Every claim. -/
theorem claim : Cert.Claim :=
  ⟨Cert.Kernel.Gen.facts, Cert.KernelIdeal.Gen.facts, Cert.ReferenceIdeal.Gen.facts, Cert.Pre_finite_logits.Gen.facts, frame_k, frame_ki,
    fun m ρ _ => frame_ki m ρ trivial, frame_ri, fun m ρ _ => frame_ri m ρ trivial, trivial, equal_results⟩

end Cert.Proof
